-- ==== Defs.lean ====
def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernelIdeal : Cert.KernelIdeal.Facts) (hReferenceIdeal : Cert.ReferenceIdeal.Facts) (hPre_usable : Cert.Pre_usable.Facts),
    quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ algebraic_KernelIdeal_ReferenceIdeal_pre_usable (hKernelIdeal := hKernelIdeal) (hReferenceIdeal := hReferenceIdeal) (hPre_usable := hPre_usable)
-- ==== Pre_usable.lean ====
abbrev S64x100000 : Shape := ⟨2, ![64, 100000]⟩
abbrev S64 : Shape := ⟨1, ![64]⟩
abbrev S_ : Shape := ⟨0, ![]⟩
abbrev S64x1 : Shape := ⟨2, ![64, 1]⟩

class Facts : Prop where
  bcast_S_S64 : S_.BroadcastsInDim S64 (![] : Fin 0 → Fin S64.rank)
  bcast_S64_S64x1_0 : S64.BroadcastsInDim S64x1 (![0] : Fin 1 → Fin S64x1.rank)
  bcast_S64x1_S64x100000_0_1 : S64x1.BroadcastsInDim S64x100000 (![0, 1] : Fin 2 → Fin S64x100000.rank)
  bcast_S_S64x100000 : S_.BroadcastsInDim S64x100000 (![] : Fin 0 → Fin S64x100000.rank)
  reducesTo_S64x100000_S64_d1 : S64x100000.ReducesTo [1] S64
  h_S_ : 0 < S_.numel
  bcast_S_S64x1 : S_.BroadcastsInDim S64x1 (![] : Fin 0 → Fin S64x1.rank)

variable [Facts]

variable {F : FTy → Type} [FloatOps F]
def comparator_f32_i32_d1 : F .f32 × BitVec 32 → F .f32 × BitVec 32 → BitVec 1 :=
  fun l r =>
    let cst_9 := FloatOps.ofBits .f32 0x00000000#32
    let v36 := FloatOps.cmpf .oeq l.1 cst_9
    let cst_10 := FloatOps.ofBits .f32 0x00000000#32
    let v37 := Scalar.select v36 cst_10 l.1
    let v38 := FloatOps.cmpf .une l.1 l.1
    let cst_11 := FloatOps.ofBits .f32 0x7FC00000#32
    let v39 := Scalar.select v38 cst_11 v37
    let cst_12 := FloatOps.ofBits .f32 0x00000000#32
    let v40 := FloatOps.cmpf .oeq r.1 cst_12
    let cst_13 := FloatOps.ofBits .f32 0x00000000#32
    let v41 := Scalar.select v40 cst_13 r.1
    let v42 := FloatOps.cmpf .une r.1 r.1
    let cst_14 := FloatOps.ofBits .f32 0x7FC00000#32
    let v43 := Scalar.select v42 cst_14 v41
    let v44 := FloatOps.cmpfTotal .lt v39 v43
    v44

def fn_clip {F : FTy → Type} [FloatOps F] (arg0 : IVec S64 32) (arg1 : IVec S_ 32) (arg2 : IVec S_ 32) : IVec S64 32 :=
  let v0 : IVec S_ 32 := id arg1
  let v1 : IVec S64 32 := broadcastInDim S64 ![] bcast_S_S64 v0
  let v2 : IVec S64 32 := maxsi v1 arg0
  let v3 : IVec S_ 32 := id arg2
  let v4 : IVec S64 32 := broadcastInDim S64 ![] bcast_S_S64 v3
  let v5 : IVec S64 32 := minsi v4 v2
  v5

def fn_where {F : FTy → Type} [FloatOps F] (arg0 : IVec S64x100000 1) (arg1 : FVec F S64x100000 .f32) (arg2 : FVec F S_ .f32) : FVec F S64x100000 .f32 :=
  let v0 : FVec F S_ .f32 := id arg2
  let v1 : FVec F S64x100000 .f32 := broadcastInDim S64x100000 ![] bcast_S_S64x100000 v0
  let v2 : FVec F S64x100000 .f32 := select arg0 arg1 v1
  v2

def fn_where_0 {F : FTy → Type} [FloatOps F] (arg0 : IVec S64x100000 1) (arg1 : IVec S64x100000 1) (arg2 : IVec S_ 1) : IVec S64x100000 1 :=
  let v0 : IVec S64x100000 1 := broadcastInDim S64x100000 ![] bcast_S_S64x100000 arg2
  let v1 : IVec S64x100000 1 := select arg0 arg1 v0
  v1

def fn_part1 {F : FTy → Type} [FloatOps F] (main_arg4 : FVec F S64 .f32) (main_v2 : FVec F S64x1 .f32) (main_v4 : FVec F S64x100000 .f32) (main_v6_0 : FVec F S64x100000 .f32) (main_v7 : IVec S64x100000 32) (main_v16 : FVec F S64 .f32) : IVec S64x100000 1 :=
  let main_v17 : FVec F S64x1 .f32 := broadcastInDim S64x1 ![0] bcast_S64_S64x1_0 main_v16
  let main_c_4 : IVec S_ 32 := constantI S_ 32 99935#32
  let main_v18 : IVec S64x100000 32 := broadcastInDim S64x100000 ![] bcast_S_S64x100000 main_c_4
  let main_v19 : IVec S64x100000 1 := cmpi .eq main_v7 main_v18
  let main_v20 : FVec F S64x100000 .f32 := broadcastInDim S64x100000 ![0, 1] bcast_S64x1_S64x100000_0_1 main_v17
  let main_v21 : IVec S64x100000 1 := cmpf .olt main_v6_0 main_v20
  let main_c_5 : IVec S_ 1 := constantI S_ 1 1#1
  let main_v22 : IVec S64x100000 1 := fn_where_0 (F := F) main_v19 main_v21 main_c_5
  let main_cst_6 : FVec F S_ .f32 := constant S_ .f32 0x7F800000#32
  let main_v23 : FVec F S64x100000 .f32 := broadcastInDim S64x100000 ![] bcast_S_S64x100000 main_cst_6
  let main_v24 : IVec S64x100000 1 := cmpf .olt main_v4 main_v23
  let main_v25 : IVec S64x100000 1 := andi main_v24 main_v22
  let main_cst_7 : FVec F S_ .f32 := constant S_ .f32 0xF149F2CA#32
  let main_v26 : FVec F S64x1 .f32 := broadcastInDim S64x1 ![] bcast_S_S64x1 main_cst_7
  let main_v27 : FVec F S64x1 .f32 := Host.divf main_v26 main_v2
  let main_v28 : IVec S64x1 1 := cmpf .olt main_v27 main_v17
  let main_v29 : IVec S64x100000 1 := broadcastInDim S64x100000 ![0, 1] bcast_S64x1_S64x100000_0_1 main_v28
  let main_v30 : IVec S64x100000 1 := andi main_v25 main_v29
  let main_cst_8 : FVec F S_ .f32 := constant S_ .f32 0x3F800000#32
  let main_v31 : FVec F S64 .f32 := broadcastInDim S64 ![] bcast_S_S64 main_cst_8
  let main_v32 : IVec S64 1 := cmpf .ole main_arg4 main_v31
  let main_v33 : IVec S64x1 1 := broadcastInDim S64x1 ![0] bcast_S64_S64x1_0 main_v32
  let main_v34 : IVec S64x100000 1 := broadcastInDim S64x100000 ![0, 1] bcast_S64x1_S64x100000_0_1 main_v33
  let main_v35 : IVec S64x100000 1 := andi main_v30 main_v34
  main_v35

def fn {F : FTy → Type} [FloatOps F] (main_arg0 : FVec F S64x100000 .f32) (main_arg1 : FVec F S64 .f32) (main_arg2 : FVec F S64 .f32) (main_arg3 : IVec S64 32) (main_arg4 : FVec F S64 .f32) (main_arg5 : IVec S64 32) : IVec S64x100000 1 :=
  let main_cst : FVec F S_ .f32 := constant S_ .f32 0x3C23D70A#32
  let main_v0 : FVec F S64 .f32 := broadcastInDim S64 ![] bcast_S_S64 main_cst
  let main_v1 : FVec F S64 .f32 := maximumf main_arg1 main_v0
  let main_v2 : FVec F S64x1 .f32 := broadcastInDim S64x1 ![0] bcast_S64_S64x1_0 main_v1
  let main_v3 : FVec F S64x100000 .f32 := broadcastInDim S64x100000 ![0, 1] bcast_S64x1_S64x100000_0_1 main_v2
  let main_v4 : FVec F S64x100000 .f32 := Host.divf main_arg0 main_v3
  let main_v5 : IVec S64x100000 32 := iotaInDim S64x100000 32 1
  let main_v6_0 : FVec F S64x100000 .f32 := (fun x y => (Host.sort2 S64x100000 1 comparator_f32_i32_d1 x y).1) main_v4 main_v5
  let main_v6_1 : IVec S64x100000 32 := (fun x y => (Host.sort2 S64x100000 1 comparator_f32_i32_d1 x y).2) main_v4 main_v5
  let main_v7 : IVec S64x100000 32 := iotaInDim S64x100000 32 1
  let main_v8 : IVec S64x100000 32 := iotaInDim S64x100000 32 1
  let main_c : IVec S_ 32 := constantI S_ 32 1#32
  let main_c_0 : IVec S_ 32 := constantI S_ 32 100000#32
  let main_v9 : IVec S64 32 := fn_clip (F := F) main_arg3 main_c main_c_0
  let main_c_1 : IVec S_ 32 := constantI S_ 32 100000#32
  let main_v10 : IVec S64 32 := broadcastInDim S64 ![] bcast_S_S64 main_c_1
  let main_v11 : IVec S64 32 := subi main_v10 main_v9
  let main_v12 : IVec S64x1 32 := broadcastInDim S64x1 ![0] bcast_S64_S64x1_0 main_v11
  let main_v13 : IVec S64x100000 32 := broadcastInDim S64x100000 ![0, 1] bcast_S64x1_S64x100000_0_1 main_v12
  let main_v14 : IVec S64x100000 1 := cmpi .eq main_v8 main_v13
  let main_cst_2 : FVec F S_ .f32 := constant S_ .f32 0xFF800000#32
  let main_v15 : FVec F S64x100000 .f32 := fn_where (F := F) main_v14 main_v6_0 main_cst_2
  let main_cst_3 : FVec F S_ .f32 := constant S_ .f32 0xFF800000#32
  let main_v16 : FVec F S64 .f32 := (fun x v => Host.reduce FloatOps.maximumf x v reducesTo_S64x100000_S64_d1 h_S_) main_v15 main_cst_3
  fn_part1 (F := F) main_arg4 main_v2 main_v4 main_v6_0 main_v7 main_v16
-- ==== KernelIdeal.lean ====
abbrev S64x100000 : Shape := ⟨2, ![64, 100000]⟩
abbrev S64 : Shape := ⟨1, ![64]⟩
abbrev S_ : Shape := ⟨0, ![]⟩
abbrev S64x100096 : Shape := ⟨2, ![64, 100096]⟩
abbrev S64x782x128 : Shape := ⟨3, ![64, 782, 128]⟩
abbrev S64x1 : Shape := ⟨2, ![64, 1]⟩
abbrev S8x1 : Shape := ⟨2, ![8, 1]⟩
abbrev S8x782x128 : Shape := ⟨3, ![8, 782, 128]⟩
abbrev S6256x128 : Shape := ⟨2, ![6256, 128]⟩
abbrev S8x1x1 : Shape := ⟨3, ![8, 1, 1]⟩
abbrev S1x64 : Shape := ⟨2, ![1, 64]⟩
abbrev S8x782 : Shape := ⟨2, ![8, 782]⟩
abbrev S1x128 : Shape := ⟨2, ![1, 128]⟩
abbrev S8x64 : Shape := ⟨2, ![8, 64]⟩
abbrev S8 : Shape := ⟨1, ![8]⟩
abbrev S1x8x1 : Shape := ⟨3, ![1, 8, 1]⟩
abbrev S1 : Shape := ⟨1, ![1]⟩
abbrev S1x1x1 : Shape := ⟨3, ![1, 1, 1]⟩
abbrev S1x1x128 : Shape := ⟨3, ![1, 1, 128]⟩
abbrev S64x64 : Shape := ⟨2, ![64, 64]⟩

abbrev nBuf : Space → Nat
  | .hbm => 23
  | .vmem => 19
  | .smem => 0
  | _ => 0

abbrev bufTy : (tb : Table) → Fin (tcTables nBuf tb) → BufTy
  | .hbm, ⟨0, _⟩ => ⟨S64x100000, .f32⟩
  | .hbm, ⟨1, _⟩ => ⟨S64, .f32⟩
  | .hbm, ⟨2, _⟩ => ⟨S64, .f32⟩
  | .hbm, ⟨3, _⟩ => ⟨S64, .i32⟩
  | .hbm, ⟨4, _⟩ => ⟨S64, .f32⟩
  | .hbm, ⟨5, _⟩ => ⟨S64, .i32⟩
  | .hbm, ⟨6, _⟩ => ⟨S_, .f32⟩
  | .hbm, ⟨7, _⟩ => ⟨S_, .f32⟩
  | .hbm, ⟨8, _⟩ => ⟨S64x100096, .f32⟩
  | .hbm, ⟨9, _⟩ => ⟨S64x782x128, .f32⟩
  | .hbm, ⟨10, _⟩ => ⟨S64x1, .f32⟩
  | .hbm, ⟨11, _⟩ => ⟨S64x1, .f32⟩
  | .hbm, ⟨12, _⟩ => ⟨S64x1, .i32⟩
  | .hbm, ⟨13, _⟩ => ⟨S64x1, .f32⟩
  | .hbm, ⟨14, _⟩ => ⟨S64x1, .i32⟩
  | .hbm, ⟨15, _⟩ => ⟨S64x782x128, .f32⟩
  | .hbm, ⟨16, _⟩ => ⟨S64x782x128, .f32⟩
  | .hbm, ⟨17, _⟩ => ⟨S64x1, .i32⟩
  | .hbm, ⟨18, _⟩ => ⟨S64x100096, .f32⟩
  | .hbm, ⟨19, _⟩ => ⟨S64x100000, .f32⟩
  | .hbm, ⟨20, _⟩ => ⟨S64x100096, .f32⟩
  | .hbm, ⟨21, _⟩ => ⟨S64x100000, .f32⟩
  | .hbm, ⟨22, _⟩ => ⟨S64, .i32⟩
  | .local _ .vmem, ⟨0, _⟩ => ⟨S8x1, .f32⟩
  | .local _ .vmem, ⟨1, _⟩ => ⟨S8x1, .f32⟩
  | .local _ .vmem, ⟨2, _⟩ => ⟨S8x1, .f32⟩
  | .local _ .vmem, ⟨3, _⟩ => ⟨S8x1, .f32⟩
  | .local _ .vmem, ⟨4, _⟩ => ⟨S8x1, .i32⟩
  | .local _ .vmem, ⟨5, _⟩ => ⟨S8x1, .i32⟩
  | .local _ .vmem, ⟨6, _⟩ => ⟨S8x1, .f32⟩
  | .local _ .vmem, ⟨7, _⟩ => ⟨S8x1, .f32⟩
  | .local _ .vmem, ⟨8, _⟩ => ⟨S8x1, .i32⟩
  | .local _ .vmem, ⟨9, _⟩ => ⟨S8x1, .i32⟩
  | .local _ .vmem, ⟨10, _⟩ => ⟨S8x782x128, .f32⟩
  | .local _ .vmem, ⟨11, _⟩ => ⟨S8x782x128, .f32⟩
  | .local _ .vmem, ⟨12, _⟩ => ⟨S8x782x128, .f32⟩
  | .local _ .vmem, ⟨13, _⟩ => ⟨S8x782x128, .f32⟩
  | .local _ .vmem, ⟨14, _⟩ => ⟨S8x782x128, .f32⟩
  | .local _ .vmem, ⟨15, _⟩ => ⟨S8x782x128, .f32⟩
  | .local _ .vmem, ⟨16, _⟩ => ⟨S8x1, .i32⟩
  | .local _ .vmem, ⟨17, _⟩ => ⟨S8x1, .i32⟩
  | .local _ .vmem, ⟨18, _⟩ => ⟨S6256x128, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "mask" => some ⊥
  | _ => none

abbrev grid0 : Pipeline.Grid := ⟨1, ![8], ![false]⟩

@[reducible] def k0_t1_loop : Scf.Loop 32 :=
  let c0_i32 : BitVec 32 := 0#32
  let c64_i32 : BitVec 32 := 64#32
  let v20 : BitVec 32 := Scalar.addi c0_i32 c64_i32
  let c1_i32 : BitVec 32 := 1#32
  ⟨c0_i32, v20, c1_i32⟩
def k0_off1 (v185 : BitVec 32) : Fin 2 → Nat :=
  let c0_i32_60 : BitVec 32 := 0#32
  let v194 : BitVec 32 := Scalar.addi c0_i32_60 v185
  let v195 : Index := Scalar.indexCast v194
  let c0_61 : Index := 0#32
  ![v195.toNat, 0]

def k0_chk1 (v185 : BitVec 32) : Prop :=
  (∀ a, (k0_off1 v185) a + S1x128.size a ≤ S6256x128.size a)
theorem k0_off1_inb : ∀ (v185 : BitVec 32) (k0_hw1 : k0_chk1 v185), ∀ a, (k0_off1 v185) a + S1x128.size a ≤ S6256x128.size a := fun v185 k0_hw1 => k0_hw1

def k0_off2 (v235 : BitVec 32) : Fin 2 → Nat :=
  let c782_i32 : BitVec 32 := 782#32
  let v244 : BitVec 32 := Scalar.addi c782_i32 v235
  let v245 : Index := Scalar.indexCast v244
  let c0_77 : Index := 0#32
  ![v245.toNat, 0]

def k0_chk2 (v235 : BitVec 32) : Prop :=
  (∀ a, (k0_off2 v235) a + S1x128.size a ≤ S6256x128.size a)
theorem k0_off2_inb : ∀ (v235 : BitVec 32) (k0_hw2 : k0_chk2 v235), ∀ a, (k0_off2 v235) a + S1x128.size a ≤ S6256x128.size a := fun v235 k0_hw2 => k0_hw2

def k0_off3 (v285 : BitVec 32) : Fin 2 → Nat :=
  let c1564_i32 : BitVec 32 := 1564#32
  let v294 : BitVec 32 := Scalar.addi c1564_i32 v285
  let v295 : Index := Scalar.indexCast v294
  let c0_92 : Index := 0#32
  ![v295.toNat, 0]

def k0_chk3 (v285 : BitVec 32) : Prop :=
  (∀ a, (k0_off3 v285) a + S1x128.size a ≤ S6256x128.size a)
theorem k0_off3_inb : ∀ (v285 : BitVec 32) (k0_hw3 : k0_chk3 v285), ∀ a, (k0_off3 v285) a + S1x128.size a ≤ S6256x128.size a := fun v285 k0_hw3 => k0_hw3

def k0_off4 (v335 : BitVec 32) : Fin 2 → Nat :=
  let c2346_i32 : BitVec 32 := 2346#32
  let v344 : BitVec 32 := Scalar.addi c2346_i32 v335
  let v345 : Index := Scalar.indexCast v344
  let c0_108 : Index := 0#32
  ![v345.toNat, 0]

def k0_chk4 (v335 : BitVec 32) : Prop :=
  (∀ a, (k0_off4 v335) a + S1x128.size a ≤ S6256x128.size a)
theorem k0_off4_inb : ∀ (v335 : BitVec 32) (k0_hw4 : k0_chk4 v335), ∀ a, (k0_off4 v335) a + S1x128.size a ≤ S6256x128.size a := fun v335 k0_hw4 => k0_hw4

def k0_off5 (v385 : BitVec 32) : Fin 2 → Nat :=
  let c3128_i32 : BitVec 32 := 3128#32
  let v394 : BitVec 32 := Scalar.addi c3128_i32 v385
  let v395 : Index := Scalar.indexCast v394
  let c0_123 : Index := 0#32
  ![v395.toNat, 0]

def k0_chk5 (v385 : BitVec 32) : Prop :=
  (∀ a, (k0_off5 v385) a + S1x128.size a ≤ S6256x128.size a)
theorem k0_off5_inb : ∀ (v385 : BitVec 32) (k0_hw5 : k0_chk5 v385), ∀ a, (k0_off5 v385) a + S1x128.size a ≤ S6256x128.size a := fun v385 k0_hw5 => k0_hw5

def k0_off6 (v435 : BitVec 32) : Fin 2 → Nat :=
  let c3910_i32 : BitVec 32 := 3910#32
  let v444 : BitVec 32 := Scalar.addi c3910_i32 v435
  let v445 : Index := Scalar.indexCast v444
  let c0_138 : Index := 0#32
  ![v445.toNat, 0]

def k0_chk6 (v435 : BitVec 32) : Prop :=
  (∀ a, (k0_off6 v435) a + S1x128.size a ≤ S6256x128.size a)
theorem k0_off6_inb : ∀ (v435 : BitVec 32) (k0_hw6 : k0_chk6 v435), ∀ a, (k0_off6 v435) a + S1x128.size a ≤ S6256x128.size a := fun v435 k0_hw6 => k0_hw6

def k0_off7 (v485 : BitVec 32) : Fin 2 → Nat :=
  let c4692_i32 : BitVec 32 := 4692#32
  let v494 : BitVec 32 := Scalar.addi c4692_i32 v485
  let v495 : Index := Scalar.indexCast v494
  let c0_153 : Index := 0#32
  ![v495.toNat, 0]

def k0_chk7 (v485 : BitVec 32) : Prop :=
  (∀ a, (k0_off7 v485) a + S1x128.size a ≤ S6256x128.size a)
theorem k0_off7_inb : ∀ (v485 : BitVec 32) (k0_hw7 : k0_chk7 v485), ∀ a, (k0_off7 v485) a + S1x128.size a ≤ S6256x128.size a := fun v485 k0_hw7 => k0_hw7

def k0_off8 (v535 : BitVec 32) : Fin 2 → Nat :=
  let c5474_i32 : BitVec 32 := 5474#32
  let v544 : BitVec 32 := Scalar.addi c5474_i32 v535
  let v545 : Index := Scalar.indexCast v544
  let c0_168 : Index := 0#32
  ![v545.toNat, 0]

def k0_chk8 (v535 : BitVec 32) : Prop :=
  (∀ a, (k0_off8 v535) a + S1x128.size a ≤ S6256x128.size a)
theorem k0_off8_inb : ∀ (v535 : BitVec 32) (k0_hw8 : k0_chk8 v535), ∀ a, (k0_off8 v535) a + S1x128.size a ≤ S6256x128.size a := fun v535 k0_hw8 => k0_hw8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x782x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x782x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x782x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S64x100000 : Shape := ⟨2, ![64, 100000]⟩
abbrev S64 : Shape := ⟨1, ![64]⟩
abbrev S_ : Shape := ⟨0, ![]⟩
abbrev S64x1 : Shape := ⟨2, ![64, 1]⟩
abbrev S64x2 : Shape := ⟨2, ![64, 2]⟩
abbrev S100000 : Shape := ⟨1, ![100000]⟩
abbrev S1x100000 : Shape := ⟨2, ![1, 100000]⟩

abbrev nBuf : Space → Nat
  | .hbm => 208
  | .vmem => 0
  | .smem => 0
  | _ => 0

abbrev hbmTy0_0 (i : Nat) : BufTy := match i % 128 with
  | 0 => ⟨S64x100000, .f32⟩
  | 1 => ⟨S64, .f32⟩
  | 2 => ⟨S64, .f32⟩
  | 3 => ⟨S64, .i32⟩
  | 4 => ⟨S64, .f32⟩
  | 5 => ⟨S64, .i32⟩
  | 6 => ⟨S_, .f32⟩
  | 7 => ⟨S64, .f32⟩
  | 8 => ⟨S64, .f32⟩
  | 9 => ⟨S64x1, .f32⟩
  | 10 => ⟨S64x100000, .f32⟩
  | 11 => ⟨S64x100000, .f32⟩
  | 12 => ⟨S64x100000, .i32⟩
  | 13 => ⟨S64x100000, .i32⟩
  | 14 => ⟨S64x100000, .f32⟩
  | 15 => ⟨S64x100000, .i32⟩
  | 16 => ⟨S64x100000, .i32⟩
  | 17 => ⟨S_, .i32⟩
  | 18 => ⟨S_, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64x1, .i32⟩
  | 29 => ⟨S64x100000, .i32⟩
  | 30 => ⟨S64x100000, .i1⟩
  | 31 => ⟨S_, .f32⟩
  | 32 => ⟨S_, .f32⟩
  | 33 => ⟨S64x100000, .f32⟩
  | 34 => ⟨S64x100000, .f32⟩
  | 35 => ⟨S_, .f32⟩
  | 36 => ⟨S64, .f32⟩
  | 37 => ⟨S64x1, .f32⟩
  | 38 => ⟨S64x100000, .f32⟩
  | 39 => ⟨S64x100000, .i1⟩
  | 40 => ⟨S_, .f32⟩
  | 41 => ⟨S_, .f32⟩
  | 42 => ⟨S64x100000, .f32⟩
  | 43 => ⟨S64x100000, .f32⟩
  | 44 => ⟨S_, .f32⟩
  | 45 => ⟨S64, .f32⟩
  | 46 => ⟨S_, .f32⟩
  | 47 => ⟨S64, .f32⟩
  | 48 => ⟨S64, .f32⟩
  | 49 => ⟨S64x1, .f32⟩
  | 50 => ⟨S64x100000, .f32⟩
  | 51 => ⟨S64x100000, .f32⟩
  | 52 => ⟨S64x100000, .f32⟩
  | 53 => ⟨S_, .f32⟩
  | 54 => ⟨S64, .f32⟩
  | 55 => ⟨S64x1, .f32⟩
  | 56 => ⟨S64x100000, .f32⟩
  | 57 => ⟨S64x100000, .f32⟩
  | 58 => ⟨S_, .f32⟩
  | 59 => ⟨S_, .f32⟩
  | 60 => ⟨S64x100000, .f32⟩
  | 61 => ⟨S_, .f32⟩
  | 62 => ⟨S64, .f32⟩
  | 63 => ⟨S64, .f32⟩
  | 64 => ⟨S64x1, .f32⟩
  | 65 => ⟨S64x100000, .f32⟩
  | 66 => ⟨S64x100000, .i1⟩
  | 67 => ⟨S_, .i32⟩
  | 68 => ⟨S64x100000, .i32⟩
  | 69 => ⟨S64x100000, .i1⟩
  | 70 => ⟨S64x100000, .i1⟩
  | 71 => ⟨S_, .f32⟩
  | 72 => ⟨S_, .f32⟩
  | 73 => ⟨S64x100000, .f32⟩
  | 74 => ⟨S64x100000, .f32⟩
  | 75 => ⟨S64x100000, .i32⟩
  | 76 => ⟨S64x100000, .f32⟩
  | 77 => ⟨S_, .f32⟩
  | 78 => ⟨S64, .f32⟩
  | 79 => ⟨S_, .f32⟩
  | 80 => ⟨S64, .f32⟩
  | 81 => ⟨S64, .f32⟩
  | 82 => ⟨S64x1, .f32⟩
  | 83 => ⟨S64x100000, .f32⟩
  | 84 => ⟨S64x100000, .f32⟩
  | 85 => ⟨S64x100000, .f32⟩
  | 86 => ⟨S_, .f32⟩
  | 87 => ⟨S64, .f32⟩
  | 88 => ⟨S64x1, .f32⟩
  | 89 => ⟨S64x100000, .f32⟩
  | 90 => ⟨S64x100000, .f32⟩
  | 91 => ⟨S_, .f32⟩
  | 92 => ⟨S64, .f32⟩
  | 93 => ⟨S64x1, .f32⟩
  | 94 => ⟨S64x1, .f32⟩
  | 95 => ⟨S64x1, .f32⟩
  | 96 => ⟨S64x100000, .f32⟩
  | 97 => ⟨S64x100000, .i1⟩
  | 98 => ⟨S_, .f32⟩
  | 99 => ⟨S_, .f32⟩
  | 100 => ⟨S64x100000, .f32⟩
  | 101 => ⟨S64x100000, .f32⟩
  | 102 => ⟨S_, .f32⟩
  | 103 => ⟨S64, .f32⟩
  | 104 => ⟨S_, .f32⟩
  | 105 => ⟨S64, .f32⟩
  | 106 => ⟨S64, .f32⟩
  | 107 => ⟨S64x1, .f32⟩
  | 108 => ⟨S64x100000, .f32⟩
  | 109 => ⟨S64x100000, .f32⟩
  | 110 => ⟨S64x100000, .f32⟩
  | 111 => ⟨S_, .f32⟩
  | 112 => ⟨S64, .f32⟩
  | 113 => ⟨S64x1, .f32⟩
  | 114 => ⟨S64x100000, .f32⟩
  | 115 => ⟨S64x100000, .f32⟩
  | 116 => ⟨S_, .f32⟩
  | 117 => ⟨S64, .f32⟩
  | 118 => ⟨S_, .f32⟩
  | 119 => ⟨S64, .f32⟩
  | 120 => ⟨S64, .f32⟩
  | 121 => ⟨S64x1, .f32⟩
  | 122 => ⟨S64x100000, .f32⟩
  | 123 => ⟨S64x100000, .f32⟩
  | 124 => ⟨S64x100000, .f32⟩
  | 125 => ⟨S_, .f32⟩
  | 126 => ⟨S64, .f32⟩
  | 127 => ⟨S64x1, .f32⟩
  | _ => ⟨S64x100000, .f32⟩

abbrev hbmTy0_1 (i : Nat) : BufTy := match i % 128 with
  | 0 => ⟨S64x1, .f32⟩
  | 1 => ⟨S64x100000, .f32⟩
  | 2 => ⟨S64x100000, .f32⟩
  | 3 => ⟨S64x100000, .f32⟩
  | 4 => ⟨S64x2, .f32⟩
  | 5 => ⟨S64x2, .i32⟩
  | 6 => ⟨S_, .i32⟩
  | 7 => ⟨S64, .i32⟩
  | 8 => ⟨S64, .i1⟩
  | 9 => ⟨S64x1, .f32⟩
  | 10 => ⟨S64, .f32⟩
  | 11 => ⟨S64x1, .f32⟩
  | 12 => ⟨S64, .f32⟩
  | 13 => ⟨S64, .f32⟩
  | 14 => ⟨S_, .f32⟩
  | 15 => ⟨S64, .f32⟩
  | 16 => ⟨S64, .i1⟩
  | 17 => ⟨S64, .i1⟩
  | 18 => ⟨S100000, .i32⟩
  | 19 => ⟨S1x100000, .i32⟩
  | 20 => ⟨S64x1, .i1⟩
  | 21 => ⟨S64x1, .i32⟩
  | 22 => ⟨S64, .i32⟩
  | 23 => ⟨S64x1, .i32⟩
  | 24 => ⟨S64x100000, .i32⟩
  | 25 => ⟨S64x100000, .i32⟩
  | 26 => ⟨S64x100000, .i1⟩
  | 27 => ⟨S64x100000, .i1⟩
  | 28 => ⟨S64x100000, .i1⟩
  | 29 => ⟨S_, .f32⟩
  | 30 => ⟨S_, .f32⟩
  | 31 => ⟨S64x100000, .f32⟩
  | 32 => ⟨S64x100000, .f32⟩
  | 33 => ⟨S64x1, .i1⟩
  | 34 => ⟨S_, .f32⟩
  | 35 => ⟨S64, .f32⟩
  | 36 => ⟨S_, .f32⟩
  | 37 => ⟨S64, .f32⟩
  | 38 => ⟨S64, .f32⟩
  | 39 => ⟨S64x1, .f32⟩
  | 40 => ⟨S64x100000, .f32⟩
  | 41 => ⟨S64x100000, .f32⟩
  | 42 => ⟨S64x100000, .f32⟩
  | 43 => ⟨S_, .f32⟩
  | 44 => ⟨S64, .f32⟩
  | 45 => ⟨S64x1, .f32⟩
  | 46 => ⟨S64x100000, .f32⟩
  | 47 => ⟨S64x100000, .f32⟩
  | 48 => ⟨S64x100000, .i1⟩
  | 49 => ⟨S64x100000, .f32⟩
  | 50 => ⟨S64x1, .i1⟩
  | 51 => ⟨S_, .f32⟩
  | 52 => ⟨S64, .f32⟩
  | 53 => ⟨S_, .f32⟩
  | 54 => ⟨S64, .f32⟩
  | 55 => ⟨S64, .f32⟩
  | 56 => ⟨S64x1, .f32⟩
  | 57 => ⟨S64x100000, .f32⟩
  | 58 => ⟨S64x100000, .f32⟩
  | 59 => ⟨S64x100000, .f32⟩
  | 60 => ⟨S_, .f32⟩
  | 61 => ⟨S64, .f32⟩
  | 62 => ⟨S64x1, .f32⟩
  | 63 => ⟨S64x1, .f32⟩
  | 64 => ⟨S64x100000, .f32⟩
  | 65 => ⟨S64x100000, .f32⟩
  | 66 => ⟨S64x100000, .i1⟩
  | 67 => ⟨S64x100000, .f32⟩
  | 68 => ⟨S_, .f32⟩
  | 69 => ⟨S64, .f32⟩
  | 70 => ⟨S64x1, .f32⟩
  | 71 => ⟨S64x100000, .f32⟩
  | 72 => ⟨S64x100000, .i1⟩
  | 73 => ⟨S_, .i32⟩
  | 74 => ⟨S_, .i32⟩
  | 75 => ⟨S64x100000, .i32⟩
  | 76 => ⟨S64x100000, .i32⟩
  | 77 => ⟨S64x100000, .i32⟩
  | 78 => ⟨S_, .i32⟩
  | 79 => ⟨S64, .i32⟩
  | _ => ⟨S64x100000, .f32⟩

abbrev hbmTy (i : Nat) : BufTy := match i / 128 with
  | 0 => hbmTy0_0 i
  | 1 => hbmTy0_1 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_call2_v0 : Ref sig .tc := ⟨.hbm, 41, rfl⟩
abbrev main_call2_v1 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call3_call0_cst : Ref sig .tc := ⟨.hbm, 58, rfl⟩
abbrev main_call3_call0_v0 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_call4_v0 : Ref sig .tc := ⟨.hbm, 72, rfl⟩
abbrev main_call4_v1 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev main_cst_11 : Ref sig .tc := ⟨.hbm, 77, rfl⟩
abbrev main_v43 : Ref sig .tc := ⟨.hbm, 78, rfl⟩
abbrev main_cst_12 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_13 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_14 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_15 : Ref sig .tc := ⟨.hbm, 98, rfl⟩
abbrev main_call5_v0 : Ref sig .tc := ⟨.hbm, 99, rfl⟩
abbrev main_call5_v1 : Ref sig .tc := ⟨.hbm, 100, rfl⟩
abbrev main_v60 : Ref sig .tc := ⟨.hbm, 101, rfl⟩
abbrev main_cst_16 : Ref sig .tc := ⟨.hbm, 102, rfl⟩
abbrev main_v61 : Ref sig .tc := ⟨.hbm, 103, rfl⟩
abbrev main_cst_17 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_18 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_call6_cst : Ref sig .tc := ⟨.hbm, 116, rfl⟩
abbrev main_call6_v0 : Ref sig .tc := ⟨.hbm, 117, rfl⟩
abbrev main_call6_cst_0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_call6_v5 : Ref sig .tc := ⟨.hbm, 123, rfl⟩
abbrev main_call6_v6 : Ref sig .tc := ⟨.hbm, 124, rfl⟩
abbrev main_call6_cst_1 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_v72 : Ref sig .tc := ⟨.hbm, 130, rfl⟩
abbrev main_v73 : Ref sig .tc := ⟨.hbm, 131, rfl⟩
abbrev main_values : Ref sig .tc := ⟨.hbm, 132, rfl⟩
abbrev main_indices : Ref sig .tc := ⟨.hbm, 133, rfl⟩
abbrev main_c_19 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_20 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_21 : Ref sig .tc := ⟨.hbm, 157, rfl⟩
abbrev main_call7_v0 : Ref sig .tc := ⟨.hbm, 158, rfl⟩
abbrev main_call7_v1 : Ref sig .tc := ⟨.hbm, 159, rfl⟩
abbrev main_v95 : Ref sig .tc := ⟨.hbm, 160, rfl⟩
abbrev main_v96 : Ref sig .tc := ⟨.hbm, 161, rfl⟩
abbrev main_cst_22 : Ref sig .tc := ⟨.hbm, 162, rfl⟩
abbrev main_v97 : Ref sig .tc := ⟨.hbm, 163, rfl⟩
abbrev main_cst_23 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_24 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_call8_v0 : Ref sig .tc := ⟨.hbm, 176, rfl⟩
abbrev main_v108 : Ref sig .tc := ⟨.hbm, 177, rfl⟩
abbrev main_v109 : Ref sig .tc := ⟨.hbm, 178, rfl⟩
abbrev main_call9_cst : Ref sig .tc := ⟨.hbm, 179, rfl⟩
abbrev main_call9_v0 : Ref sig .tc := ⟨.hbm, 180, rfl⟩
abbrev main_call9_cst_0 : Ref sig .tc := ⟨.hbm, 181, rfl⟩
abbrev main_call9_v1 : Ref sig .tc := ⟨.hbm, 182, rfl⟩
abbrev main_call9_v2 : Ref sig .tc := ⟨.hbm, 183, rfl⟩
abbrev main_call9_v3 : Ref sig .tc := ⟨.hbm, 184, rfl⟩
abbrev main_call9_v4 : Ref sig .tc := ⟨.hbm, 185, rfl⟩
abbrev main_call9_v5 : Ref sig .tc := ⟨.hbm, 186, rfl⟩
abbrev main_call9_v6 : Ref sig .tc := ⟨.hbm, 187, rfl⟩
abbrev main_call9_cst_1 : Ref sig .tc := ⟨.hbm, 188, rfl⟩
abbrev main_call9_v7 : Ref sig .tc := ⟨.hbm, 189, rfl⟩
abbrev main_call9_v8 : Ref sig .tc := ⟨.hbm, 190, rfl⟩
abbrev main_call9_v9 : Ref sig .tc := ⟨.hbm, 191, rfl⟩
abbrev main_call9_v10 : Ref sig .tc := ⟨.hbm, 192, rfl⟩
abbrev main_v110 : Ref sig .tc := ⟨.hbm, 193, rfl⟩
abbrev main_call10_v0 : Ref sig .tc := ⟨.hbm, 194, rfl⟩
abbrev main_v111 : Ref sig .tc := ⟨.hbm, 195, rfl⟩
abbrev main_cst_25 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_c_26 : Ref sig .tc := ⟨.hbm, 201, rfl⟩
abbrev main_call11_v0 : Ref sig .tc := ⟨.hbm, 202, rfl⟩
abbrev main_call11_v1 : Ref sig .tc := ⟨.hbm, 203, rfl⟩
abbrev main_call11_v2 : Ref sig .tc := ⟨.hbm, 204, rfl⟩
abbrev main_v116 : Ref sig .tc := ⟨.hbm, 205, rfl⟩
abbrev main_c_27 : Ref sig .tc := ⟨.hbm, 206, rfl⟩
abbrev main_v117 : Ref sig .tc := ⟨.hbm, 207, rfl⟩

abbrev nD : Nat := 1
abbrev τ : Topo := Topo.v7x

variable {F : FTy → Type} [FloatOps F]
-- ==== Proof.Trip.lean ====
/-
  One trip of the selection loop, as a function of what it finds.

  A trip takes from each of the block's eight rows its largest remaining element (the last one, among equals), writes it
  out and blanks it in the scratch. The eight rounds of a trip differ only in the row's number, so a round is written
  once (`round`) and a trip is eight rounds; `trip` says that the kernel's trip runs and leaves exactly that.
-/
module

public import proofs.«01_k».proof.Proof.Gen.KernelIdeal.Loops
public import proofs.«01_k».proof.Proof.Gen.KernelIdeal.Frame
public import Idealize.ShloMosaic.Lib.Tactic

@[expose] public section

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The column numbers, the row numbers and the lane numbers the kernel compares with. -/
abbrev colNo : IVec S8x782 32 := iota .tc S8x782 32 [1] iota_S8x782_d1_w32
abbrev rowNo : IVec S8x1 32 := iota .tc S8x1 32 [0] iota_S8x1_d0_w32
abbrev laneNo : IVec S1x128 32 := iota .tc S1x128 32 [1] iota_S1x128_d1_w32

/-- Per row, the last chunk whose maximum is the row's maximum. -/
abbrev c8 (cm : FVec Ideal S8x782 .f32) : IVec S8x1 32 := k0_pay8 colNo cm

/-- Row `w`'s word of a column of eight words. -/
def colW (w : BitVec 32) (x : IVec S8x1 32) : BitVec 32 :=
  extractAt ![0, 0, 0] (shapeCast S1x1x1 (multiReductionI .maxsi [1, 2] S1 (shapeCast S1x8x1
    (select (cmpi .eq rowNo (broadcast S8x1 w)) x (broadcast S8x1 4294967295#32)) shapeCasts_S8x1_S1x8x1)
    2147483648#32 reduces_S1x8x1_S1 rfl) shapeCasts_S1_S1x1x1) inpos_S1x1x1_p0_0_0

/-- Row `w`'s value of a column of eight values. -/
def valW (w : BitVec 32) (x : FVec Ideal S8x1 .f32) : Ideal .f32 :=
  extractAt ![0, 0, 0] (shapeCast S1x1x1 (multiReduction .maximumf [1, 2] S1 (shapeCast S1x8x1
    (select (cmpi .eq rowNo (broadcast S8x1 w)) x (broadcast S8x1 (Named.named κ "mask" 0xF149F2CA#32))) shapeCasts_S8x1_S1x8x1)
    0xFF800000#32 reduces_S1x8x1_S1 (.inl rfl) rfl) shapeCasts_S1_S1x1x1) inpos_S1x1x1_p0_0_0

/-- The last lane of a chunk holding `m`. -/
def laneW (row : Vec Ideal S1x128 .f32) (m : Ideal .f32) : BitVec 32 :=
  extractAt ![0, 0, 0] (shapeCast S1x1x1 (multiReductionI .maxsi [1, 2] S1 (shapeCast S1x1x128
    (select (cmpf .oeq row (broadcast S1x128 m)) laneNo (broadcast S1x128 4294967295#32)) shapeCasts_S1x128_S1x1x128)
    2147483648#32 reduces_S1x1x128_S1 rfl) shapeCasts_S1_S1x1x1) inpos_S1x1x1_p0_0_0

/-- The chunk with lane `j` blanked. -/
def blank (row : Vec Ideal S1x128 .f32) (j : BitVec 32) : FVec Ideal S1x128 .f32 :=
  select (cmpi .eq laneNo (broadcast S1x128 j)) (broadcast S1x128 (Named.named κ "mask" 0xF149F2CA#32)) row

/-- A chunk's maximum. -/
def chunkMax (row : FVec Ideal S1x128 .f32) : Ideal .f32 :=
  extractAt ![0, 0, 0] (shapeCast S1x1x1 (multiReduction .maximumf [1, 2] S1 (shapeCast S1x1x128 row shapeCasts_S1x128_S1x1x128)
    0xFF800000#32 reduces_S1x1x128_S1 (.inl rfl) rfl) shapeCasts_S1_S1x1x1) inpos_S1x1x1_p0_0_0

/-- Where a chunk begins in the scratch, and that it lies inside. -/
def rowOff (b w : BitVec 32) : Fin 2 → Nat := ![(Scalar.indexCast (Scalar.addi b w)).toNat, 0]
abbrev RowOk (b w : BitVec 32) : Prop := ∀ a, rowOff b w a + S1x128.size a ≤ S6256x128.size a
abbrev rowRect (b w : BitVec 32) (h : RowOk b w) : Rect S6256x128 := Rect.unit (s := S6256x128) (rowOff b w) S1x128.size h

/-- What a round carries: the scratch's contents, and per row the new maximum of the chunk taken from and the taken
    element's column. -/
structure St (c : Dev nD) (arg10 : Memref sig .tc .vmem S6256x128 .f32) where
  f : Buf (Elt Ideal) (arg10.view.loc (c : Thread nD τ))
  mx : FVec Ideal S8x1 .f32
  jx : IVec S8x1 32

section
variable (c : Dev nD) (arg10 : Memref sig .tc .vmem S6256x128 .f32)

/-- The chunk a round takes from. -/
def St.row {c : Dev nD} {arg10 : Memref sig .tc .vmem S6256x128 .f32} (s : St c arg10) (b w : BitVec 32) (h : RowOk b w) : Vec Ideal S1x128 .f32 :=
  arg10.view.readAt (Elt Ideal) (rowRect b w h).toLoadRect s.f

/-- One round: row `w`, whose chunks begin at `b`. -/
def round (w b : BitVec 32) (m8 : FVec Ideal S8x1 .f32) (cs : IVec S8x1 32) (h : RowOk b (colW w cs)) (s : St c arg10) : St c arg10 where
  f := arg10.view.writes (Elt Ideal) s.f
    [⟨rowRect b (colW w cs) h, shapeCast S1x128 (blank (s.row b (colW w cs) h) (laneW (s.row b (colW w cs) h) (valW w m8))) shapeCasts_S1x128_S1x128⟩]
  mx := select (cmpi .eq rowNo (broadcast S8x1 w))
    (broadcast S8x1 (chunkMax (blank (s.row b (colW w cs) h) (laneW (s.row b (colW w cs) h) (valW w m8))))) s.mx
  jx := select (cmpi .eq rowNo (broadcast S8x1 w))
    (broadcast S8x1 (Scalar.addi (Scalar.muli (colW w cs) 128#32) (laneW (s.row b (colW w cs) h) (valW w m8)))) s.jx

/-- The eight rounds of a trip. -/
def rounds (cm : FVec Ideal S8x782 .f32) (f : Buf (Elt Ideal) (arg10.view.loc (c : Thread nD τ)))
    (h1 : RowOk 0#32 (colW 0#32 (c8 cm))) (h2 : RowOk 782#32 (colW 1#32 (c8 cm))) (h3 : RowOk 1564#32 (colW 2#32 (c8 cm))) (h4 : RowOk 2346#32 (colW 3#32 (c8 cm))) (h5 : RowOk 3128#32 (colW 4#32 (c8 cm))) (h6 : RowOk 3910#32 (colW 5#32 (c8 cm))) (h7 : RowOk 4692#32 (colW 6#32 (c8 cm))) (h8 : RowOk 5474#32 (colW 7#32 (c8 cm))) : St c arg10 :=
  (round c arg10 7#32 5474#32 (k0_pay7 cm) (c8 cm) h8 (round c arg10 6#32 4692#32 (k0_pay7 cm) (c8 cm) h7 (round c arg10 5#32 3910#32 (k0_pay7 cm) (c8 cm) h6 (round c arg10 4#32 3128#32 (k0_pay7 cm) (c8 cm) h5 (round c arg10 3#32 2346#32 (k0_pay7 cm) (c8 cm) h4 (round c arg10 2#32 1564#32 (k0_pay7 cm) (c8 cm) h3 (round c arg10 1#32 782#32 (k0_pay7 cm) (c8 cm) h2 (round c arg10 0#32 0#32 (k0_pay7 cm) (c8 cm) h1 ⟨f, k0_pay9, k0_pay10⟩))))))))
end

/-- The chunk maxima after a trip. -/
def newCm (cm : FVec Ideal S8x782 .f32) (mx : FVec Ideal S8x1 .f32) : FVec Ideal S8x782 .f32 :=
  select (cmpi .eq colNo (broadcastTo S8x782 (c8 cm) broadcasts_S8x1_S8x782))
    (broadcastTo S8x782 (shapeCast S8x1 mx shapeCasts_S8x1_S8x1) broadcasts_S8x1_S8x782) cm

/-- Column `k` of a table of 64 columns overwritten. -/
def putCol {α : Type} (kw : BitVec 32) (x : S8x1.Idx → α) (t : S8x64.Idx → α) : S8x64.Idx → α :=
  select (broadcastTo S8x64 (shapeCast S1x64 (cmpi .eq (iota .tc S1x64 32 [1] iota_S1x64_d1_w32) (broadcast S1x64 kw)) shapeCasts_S1x64_S1x64) broadcasts_S1x64_S8x64)
    (broadcastTo S8x64 (shapeCast S8x1 x shapeCasts_S8x1_S8x1) broadcasts_S8x1_S8x64) t

set_option maxHeartbeats 4000000 in
theorem trip (c : Dev nD) (i : grid0.Coords) (arg1 : Memref sig .tc .vmem S8x1 .f32) (harg1 : arg1.IsWhole) (arg2 : Memref sig .tc .vmem S8x1 .f32) (harg2 : arg2.IsWhole) (arg3 : Memref sig .tc .vmem S8x1 .i32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x782x128 .f32) (harg6 : arg6.IsWhole) (arg7 : Memref sig .tc .vmem S8x782x128 .f32) (harg7 : arg7.IsWhole) (arg8 : Memref sig .tc .vmem S8x782x128 .f32) (harg8 : arg8.IsWhole) (arg9 : Memref sig .tc .vmem S8x1 .i32) (harg9 : arg9.IsWhole) (arg10 : Memref sig .tc .vmem S6256x128 .f32) (harg10 : arg10.IsWhole)
    (k : Fin k0_t1_loop.trips) (cm : FVec Ideal S8x782 .f32) (vals : FVec Ideal S8x64 .f32) (idxs : IVec S8x64 32)
    (f : Buf (Elt Ideal) (arg10.view.loc (c : Thread nD τ)))
    (h1 : RowOk 0#32 (colW 0#32 (c8 cm))) (h2 : RowOk 782#32 (colW 1#32 (c8 cm))) (h3 : RowOk 1564#32 (colW 2#32 (c8 cm))) (h4 : RowOk 2346#32 (colW 3#32 (c8 cm))) (h5 : RowOk 3128#32 (colW 4#32 (c8 cm))) (h6 : RowOk 3910#32 (colW 5#32 (c8 cm))) (h7 : RowOk 4692#32 (colW 6#32 (c8 cm))) (h8 : RowOk 5474#32 (colW 7#32 (c8 cm))) :
    (iprop(arg10.view.loc (c : Thread nD τ) ↦{fullShare} f) : sProp 𝕄)
    ⊢ wp frame (wpE (defs₀ (F := Ideal)) Variants.none (c : Thread nD τ) none) Set.univ
        (k0_t1_body (F := Ideal) i arg1 harg1 arg2 harg2 arg3 harg3 arg4 harg4 arg5 harg5 arg6 harg6 arg7 harg7 arg8 harg8 arg9 harg9 arg10 harg10 colNo rowNo laneNo k (cm, vals, idxs))
        (fun acc => iprop((arg10.view.loc (c : Thread nD τ) ↦{fullShare} (rounds c arg10 cm f h1 h2 h3 h4 h5 h6 h7 h8).f)
          ∗ ⌜acc = (newCm cm (rounds c arg10 cm f h1 h2 h3 h4 h5 h6 h7 h8).mx,
              putCol (Scf.iv 0#32 1#32 k) (k0_pay7 cm) vals,
              putCol (Scf.iv 0#32 1#32 k) (rounds c arg10 cm f h1 h2 h3 h4 h5 h6 h7 h8).jx idxs)⌝)) := by
  unfold k0_t1_body
  dsimp only
  iintro H10
  have g1 : k0_chk1 (extractAt ![0, 0, 0] (k0_pay11 colNo rowNo cm) inpos_S1x1x1_p0_0_0) := h1
  sl_exec
  generalize hf1 : arg10.view.writes (Elt Ideal) f _ = f1
  generalize hm1 : k0_pay15 (F := Ideal) rowNo k0_pay9 _ = mx1
  generalize hj1 : k0_pay16 rowNo k0_pay10 _ _ = jx1
  have e1 : (⟨f1, mx1, jx1⟩ : St c arg10) = round c arg10 0#32 0#32 (k0_pay7 cm) (c8 cm) h1 ⟨f, k0_pay9, k0_pay10⟩ := by
    subst hf1 hm1 hj1; rfl
  clear hf1 hm1 hj1
  have g2 : k0_chk2 (extractAt ![0, 0, 0] (k0_pay17 rowNo (k0_pay8 colNo cm)) inpos_S1x1x1_p0_0_0) := h2
  sl_exec
  generalize hf2 : arg10.view.writes (Elt Ideal) f1 _ = f2
  generalize hm2 : k0_pay21 (F := Ideal) rowNo laneNo mx1 _ _ = mx2
  generalize hj2 : k0_pay22 rowNo jx1 _ _ = jx2
  have e2 : (⟨f2, mx2, jx2⟩ : St c arg10) = round c arg10 1#32 782#32 (k0_pay7 cm) (c8 cm) h2 ⟨f1, mx1, jx1⟩ := by
    subst hf2 hm2 hj2; rfl
  clear hf2 hm2 hj2
  have g3 : k0_chk3 (extractAt ![0, 0, 0] (k0_pay23 rowNo (k0_pay8 colNo cm)) inpos_S1x1x1_p0_0_0) := h3
  sl_exec
  generalize hf3 : arg10.view.writes (Elt Ideal) f2 _ = f3
  generalize hm3 : k0_pay27 (F := Ideal) rowNo laneNo mx2 _ _ = mx3
  generalize hj3 : k0_pay28 (F := Ideal) rowNo laneNo jx2 _ _ _ = jx3
  have e3 : (⟨f3, mx3, jx3⟩ : St c arg10) = round c arg10 2#32 1564#32 (k0_pay7 cm) (c8 cm) h3 ⟨f2, mx2, jx2⟩ := by
    subst hf3 hm3 hj3; rfl
  clear hf3 hm3 hj3
  have g4 : k0_chk4 (extractAt ![0, 0, 0] (k0_pay29 rowNo (k0_pay8 colNo cm)) inpos_S1x1x1_p0_0_0) := h4
  sl_exec
  generalize hf4 : arg10.view.writes (Elt Ideal) f3 _ = f4
  generalize hm4 : trip.sl.r_4 arg10 cm f3 mx3 g4 = mx4
  generalize hj4 : trip.sl.r_5 arg10 cm f3 jx3 g4 = jx4
  have e4 : (⟨f4, mx4, jx4⟩ : St c arg10) = round c arg10 3#32 2346#32 (k0_pay7 cm) (c8 cm) h4 ⟨f3, mx3, jx3⟩ := by
    subst hf4 hm4 hj4; rfl
  clear hf4 hm4 hj4
  have g5 : k0_chk5 (extractAt ![0, 0, 0] (k0_pay37 (k0_pay36 rowNo (k0_pay8 colNo cm))) inpos_S1x1x1_p0_0_0) := h5
  sl_exec
  generalize hf5 : arg10.view.writes (Elt Ideal) f4 _ = f5
  generalize hm5 : trip.sl.r_7 arg10 cm f4 mx4 g5 = mx5
  generalize hj5 : k0_pay43 jx4 (k0_pay41 rowNo) (trip.sl.r_8 arg10 cm f4 g5) = jx5
  have e5 : (⟨f5, mx5, jx5⟩ : St c arg10) = round c arg10 4#32 3128#32 (k0_pay7 cm) (c8 cm) h5 ⟨f4, mx4, jx4⟩ := by
    subst hf5 hm5 hj5; rfl
  clear hf5 hm5 hj5
  have g6 : k0_chk6 (extractAt ![0, 0, 0] (k0_pay44 rowNo (k0_pay8 colNo cm)) inpos_S1x1x1_p0_0_0) := h6
  sl_exec
  generalize hf6 : arg10.view.writes (Elt Ideal) f5 _ = f6
  generalize hm6 : k0_pay50 mx5 (k0_pay48 rowNo) (trip.sl.r_9 arg10 cm f5 g6) = mx6
  generalize hj6 : k0_pay51 rowNo jx5 (trip.sl.v435 cm) (trip.sl.v454 arg10 cm f5 g6) = jx6
  have e6 : (⟨f6, mx6, jx6⟩ : St c arg10) = round c arg10 5#32 3910#32 (k0_pay7 cm) (c8 cm) h6 ⟨f5, mx5, jx5⟩ := by
    subst hf6 hm6 hj6; rfl
  clear hf6 hm6 hj6
  have g7 : k0_chk7 (extractAt ![0, 0, 0] (k0_pay52 rowNo (k0_pay8 colNo cm)) inpos_S1x1x1_p0_0_0) := h7
  sl_exec
  generalize hf7 : arg10.view.writes (Elt Ideal) f6 _ = f7
  generalize hm7 : k0_pay56 rowNo mx6 (trip.sl.r_10 arg10 cm f6 g7) = mx7
  generalize hj7 : k0_pay57 rowNo jx6 (trip.sl.v485 cm) (trip.sl.v504 arg10 cm f6 g7) = jx7
  have e7 : (⟨f7, mx7, jx7⟩ : St c arg10) = round c arg10 6#32 4692#32 (k0_pay7 cm) (c8 cm) h7 ⟨f6, mx6, jx6⟩ := by
    subst hf7 hm7 hj7; rfl
  clear hf7 hm7 hj7
  have g8 : k0_chk8 (extractAt ![0, 0, 0] (k0_pay58 rowNo (k0_pay8 colNo cm)) inpos_S1x1x1_p0_0_0) := h8
  sl_exec
  have eR : rounds c arg10 cm f h1 h2 h3 h4 h5 h6 h7 h8
      = round c arg10 7#32 5474#32 (k0_pay7 cm) (c8 cm) h8 ⟨f7, mx7, jx7⟩ := by
    unfold rounds
    rw [← e1, ← e2, ← e3, ← e4, ← e5, ← e6, ← e7]
  rw [eR]
  clear eR e1 e2 e3 e4 e5 e6 e7
  sl_step
  isplitl [H10]
  · iexact H10
  ipureintro
  rfl

end Cert.KernelIdeal.Trip
end
-- ==== Proof.Picks.lean ====
/-
  Taking a row's largest elements out one at a time.

  `pick y k` is the place of the element taken at step `k` (the last place holding the maximum of what is left) and
  `pval y k` its value; `left y k` is what is left before step `k`, the taken places reading −∞. `pick_eq_sorted`: as
  long as the values stay above a padding value, step `k` takes what stands `k` places from the end of the row in
  ascending order, equal values in order of place.
-/
module

public import Mathlib.Data.EReal.Operations
public import Mathlib.Algebra.BigOperators.Fin
public import Mathlib.Data.Finset.Max
public import Mathlib.Data.Fintype.Pi
public import Mathlib.Tactic.Linarith

@[expose] public section

noncomputable section

namespace Cert.Rows

open Finset

section tops
variable {ι : Type} [Fintype ι] [LinearOrder ι] [Nonempty ι]

/-- The maximum of a row. -/
def top (Y : ι → EReal) : EReal := univ.sup Y

theorem le_top' (Y : ι → EReal) (p : ι) : Y p ≤ top Y := Finset.le_sup (f := Y) (mem_univ p)

theorem exists_top (Y : ι → EReal) : ∃ p, Y p = top Y := by
  obtain ⟨p, _, h⟩ := Finset.exists_mem_eq_sup univ univ_nonempty Y
  exact ⟨p, h.symm⟩

theorem top_eq (Y : ι → EReal) (p : ι) (h : ∀ q, Y q ≤ Y p) : top Y = Y p :=
  le_antisymm (Finset.sup_le fun q _ => h q) (le_top' Y p)

theorem tops_nonempty (Y : ι → EReal) : (univ.filter fun p => Y p = top Y).Nonempty := by
  obtain ⟨p, h⟩ := exists_top Y
  exact ⟨p, by simp [h]⟩

/-- The last place holding the maximum. -/
def lastTop (Y : ι → EReal) : ι := (univ.filter fun p => Y p = top Y).max' (tops_nonempty Y)
/-- The first place holding the maximum. -/
def firstTop (Y : ι → EReal) : ι := (univ.filter fun p => Y p = top Y).min' (tops_nonempty Y)

theorem lastTop_val (Y : ι → EReal) : Y (lastTop Y) = top Y := by
  have := Finset.max'_mem _ (tops_nonempty Y)
  exact (Finset.mem_filter.mp this).2
theorem firstTop_val (Y : ι → EReal) : Y (firstTop Y) = top Y := by
  have := Finset.min'_mem _ (tops_nonempty Y)
  exact (Finset.mem_filter.mp this).2
theorem le_lastTop (Y : ι → EReal) (p : ι) (h : Y p = top Y) : p ≤ lastTop Y :=
  Finset.le_max' _ _ (by simp [h])
theorem firstTop_le (Y : ι → EReal) (p : ι) (h : Y p = top Y) : firstTop Y ≤ p :=
  Finset.min'_le _ _ (by simp [h])
theorem lastTop_eq (Y : ι → EReal) (p : ι) (h : Y p = top Y) (hl : ∀ q, Y q = top Y → q ≤ p) : lastTop Y = p :=
  le_antisymm (hl _ (lastTop_val Y)) (le_lastTop Y p h)
theorem firstTop_eq (Y : ι → EReal) (p : ι) (h : Y p = top Y) (hl : ∀ q, Y q = top Y → p ≤ q) : firstTop Y = p :=
  le_antisymm (firstTop_le Y p h) (hl _ (firstTop_val Y))

/-- What is left of a row before step `k`. -/
def left (y : ι → EReal) : ℕ → ι → EReal
  | 0 => y
  | k + 1 => Function.update (left y k) (lastTop (left y k)) ⊥

/-- The place taken at step `k`, and its value. -/
def pick (y : ι → EReal) (k : ℕ) : ι := lastTop (left y k)
def pval (y : ι → EReal) (k : ℕ) : EReal := top (left y k)

variable (y : ι → EReal)

theorem left_succ (k : ℕ) : left y (k + 1) = Function.update (left y k) (pick y k) ⊥ := rfl

theorem left_pick (k : ℕ) : left y k (pick y k) = pval y k := lastTop_val _

theorem left_of_picked (k : ℕ) (p : ι) (h : ∃ j < k, pick y j = p) : left y k p = ⊥ := by
  induction k with
  | zero => obtain ⟨j, hj, _⟩ := h; omega
  | succ k ih =>
    rw [left_succ]
    by_cases hp : p = pick y k
    · subst hp; simp
    · rw [Function.update_of_ne hp]
      obtain ⟨j, hj, e⟩ := h
      refine ih ⟨j, ?_, e⟩
      rcases Nat.lt_succ_iff_lt_or_eq.mp hj with h | h
      · exact h
      · subst h; exact absurd e.symm hp

theorem left_of_not_picked (k : ℕ) (p : ι) (h : ∀ j < k, pick y j ≠ p) : left y k p = y p := by
  induction k with
  | zero => rfl
  | succ k ih =>
    rw [left_succ, Function.update_of_ne (fun e => h k (Nat.lt_succ_self k) e.symm)]
    exact ih fun j hj => h j (by omega)

theorem left_succ_le (k : ℕ) (p : ι) : left y (k + 1) p ≤ left y k p := by
  rw [left_succ]
  by_cases hp : p = pick y k
  · subst hp; simp
  · rw [Function.update_of_ne hp]

theorem pval_antitone : Antitone (pval y) := by
  refine antitone_nat_of_succ_le fun k => ?_
  exact Finset.sup_le fun p _ => (left_succ_le y k p).trans (le_top' _ p)

theorem pval_le (k : ℕ) (p : ι) (h : ∀ j < k, pick y j ≠ p) : y p ≤ pval y k := by
  rw [← left_of_not_picked y k p h]; exact le_top' _ p

theorem pick_fresh (k : ℕ) (h : ⊥ < pval y k) : ∀ j < k, pick y j ≠ pick y k := by
  intro j hj e
  have := left_of_picked y k (pick y k) ⟨j, hj, e⟩
  rw [left_pick] at this
  exact absurd this h.ne'

theorem pick_val (k : ℕ) (h : ⊥ < pval y k) : y (pick y k) = pval y k := by
  rw [← left_pick, left_of_not_picked y k _ (pick_fresh y k h)]

theorem pick_inj (j k : ℕ) (hj : ⊥ < pval y j) (hk : ⊥ < pval y k) (e : pick y j = pick y k) : j = k := by
  rcases lt_trichotomy j k with h | h | h
  · exact absurd e (pick_fresh y k hk j h)
  · exact h
  · exact absurd e.symm (pick_fresh y j hj k h)

/-- What is not taken by the end of step `k` is smaller than what step `k` takes, or equal and earlier. -/
theorem pick_behind (k : ℕ) (hk : ⊥ < pval y k) (p : ι) (h : ∀ j ≤ k, pick y j ≠ p) :
    y p < pval y k ∨ (y p = pval y k ∧ p < pick y k) := by
  have hl : left y k p = y p := left_of_not_picked y k p fun j hj => h j hj.le
  have h1 : y p ≤ pval y k := pval_le y k p fun j hj => h j hj.le
  rcases lt_or_eq_of_le h1 with h2 | h2
  · exact Or.inl h2
  · refine Or.inr ⟨h2, lt_of_le_of_ne (le_lastTop _ p (by rw [hl, h2]; rfl)) ?_⟩
    exact fun e => h k le_rfl e.symm

/-- Of two taken places with one value the earlier taken is the later place. -/
theorem pick_tie (j k : ℕ) (hjk : j < k) (hk : ⊥ < pval y k) (e : pval y j = pval y k) : pick y k < pick y j := by
  have hj : ⊥ < pval y j := e ▸ hk
  rcases pick_behind y j hj (pick y k) (fun i hi => pick_fresh y k hk i (lt_of_le_of_lt hi hjk)) with h | h
  · rw [pick_val y k hk, e] at h; exact absurd h (lt_irrefl _)
  · exact h.2

end tops

/-! ### The row in ascending order -/

section sorted
variable {V N : ℕ} [NeZero N] (hVN : V ≤ N)
  (x : Fin V → EReal) (y : Fin N → EReal) (pad : EReal)
  (hy : ∀ p : Fin V, y (Fin.castLE hVN p) = x p) (hpad : ∀ p : Fin N, V ≤ p.val → y p = pad)
  (σ : Fin V → Fin V) (hσ : Function.Bijective σ)
  (hs : ∀ m m' : Fin V, m < m' → x (σ m) < x (σ m') ∨ (x (σ m) = x (σ m') ∧ σ m < σ m'))

include hs in
theorem sorted_mono (m m' : Fin V) (h : m ≤ m') : x (σ m) ≤ x (σ m') := by
  rcases lt_or_eq_of_le h with h | h
  · rcases hs m m' h with h | h
    · exact h.le
    · exact h.1.le
  · rw [h]

include hy hpad hσ hs in
theorem pick_eq_sorted (k : ℕ) (hk : k < V)
    (h : pad < pval y k ∨ pad < x (σ ⟨V - 1 - k, by omega⟩)) :
    pick y k = Fin.castLE hVN (σ ⟨V - 1 - k, by omega⟩) ∧ pval y k = x (σ ⟨V - 1 - k, by omega⟩) := by
  induction k using Nat.strong_induction_on with
  | _ k ih =>
    have ih' : ∀ j (hj : j < k), pick y j = Fin.castLE hVN (σ ⟨V - 1 - j, by omega⟩) := fun j hj => by
      refine (ih j hj (by omega) ?_).1
      rcases h with h | h
      · exact Or.inl (lt_of_lt_of_le h (pval_antitone y hj.le))
      · exact Or.inr (lt_of_lt_of_le h (sorted_mono x σ hs _ _ (by show V - 1 - k ≤ V - 1 - j; omega)))
    set q : Fin V := σ ⟨V - 1 - k, by omega⟩ with hq
    have hfresh : ∀ j < k, pick y j ≠ Fin.castLE hVN q := fun j hj e => by
      rw [ih' j hj] at e
      have e2 := hσ.1 (Fin.castLE_injective hVN e)
      have := congrArg Fin.val e2
      simp only at this
      omega
    have hle : x q ≤ pval y k := by rw [← hy q]; exact pval_le y k _ hfresh
    have hv : pad < pval y k := h.elim id fun h => lt_of_lt_of_le h hle
    have hb : ⊥ < pval y k := lt_of_le_of_lt bot_le hv
    have hval := pick_val y k hb
    have hlt : (pick y k).val < V := by
      by_contra hc
      rw [hpad _ (not_lt.mp hc)] at hval
      exact absurd hval hv.ne
    obtain ⟨m, hm⟩ := hσ.2 ⟨(pick y k).val, hlt⟩
    have hpm : pick y k = Fin.castLE hVN (σ m) := by rw [hm]; rfl
    have hmle : m.val ≤ V - 1 - k := by
      by_contra hc
      have hj : V - 1 - m.val < k := by omega
      have := ih' (V - 1 - m.val) hj
      refine pick_fresh y k hb _ hj ?_
      rw [this, hpm]
      congr 2
      apply Fin.ext
      show V - 1 - (V - 1 - m.val) = m.val
      omega
    have hmk : pick y k = Fin.castLE hVN q := by
      by_contra hne
      have hmlt : m < ⟨V - 1 - k, by omega⟩ := by
        refine lt_of_le_of_ne hmle ?_
        intro e
        apply hne
        rw [hpm, e]
      have h1 := hs _ _ hmlt
      have h2 := pick_behind y k hb (Fin.castLE hVN q) (fun j hj => by
        rcases lt_or_eq_of_le hj with hj | hj
        · exact hfresh j hj
        · subst hj; exact hne)
      rw [hy q, ← hval, hpm, hy] at h2
      rcases h1 with h1 | ⟨h1, h1'⟩ <;> rcases h2 with h2 | ⟨h2, h2'⟩
      · exact lt_asymm h1 h2
      · exact absurd h2 h1.ne'
      · exact absurd h1 h2.ne'
      · have h3 : q < σ m := h2'
        exact lt_asymm h1' h3
    refine ⟨hmk, ?_⟩
    rw [← hval, hmk, hy]

end sorted

end Cert.Rows
end
-- ==== Proof.Word.lean ====
/-
  Words read as places, and the pieces of a trip read at an index.
-/
module

public import proofs.«01_k».proof.Proof.Trip
public import proofs.«01_k».proof.Proof.Picks
public import Idealize.ShloMosaic.Lib.Pointwise
public import Idealize.ShloMosaic.Lib.SortNet.Extract

@[expose] public section

set_option maxRecDepth 16384

noncomputable section

namespace Cert.KernelIdeal.Trip

open Cert.KernelIdeal Cert.KernelIdeal.Gen Cert.Rows
open Idealize.ShloMosaic Idealize.ShloMosaic.SortNet
open Idealize.ShloMosaic.ValueIdx hiding ix2 ix3
open Finset

/-- The masking literal. -/
theorem mask_bot : (Named.named (F := Ideal) κ "mask" (φ := .f32) 0xF149F2CA#32 : EReal) = ⊥ := rfl

theorem ofBits_bot : Ideal.ofBits FTy.f32 4286578688#32 = (⊥ : EReal) := by
  show Ideal.ieee 8 23 4286578688#32 = ⊥
  unfold Ideal.ieee
  simp
theorem ofBits_top : Ideal.ofBits FTy.f32 2139095040#32 = (⊤ : EReal) := by
  show Ideal.ieee 8 23 2139095040#32 = ⊤
  unfold Ideal.ieee
  simp

theorem fold_max {α : Type} (s : Finset α) (g : α → EReal) : s.fold max ⊥ g = s.sup g := rfl
theorem fold_min {α : Type} (s : Finset α) (g : α → EReal) : s.fold min ⊤ g = s.inf g := rfl

theorem word_toInt (n : ℕ) (h : n < 2 ^ 31) : (BitVec.ofNat 32 n).toInt = n := by
  rw [BitVec.toInt_ofNat', Int.bmod_def]; omega

theorem word_inj (a b : ℕ) (ha : a < 2 ^ 31) (hb : b < 2 ^ 31) : BitVec.ofNat 32 a = BitVec.ofNat 32 b ↔ a = b := by
  constructor
  · intro h
    have := congrArg BitVec.toInt h
    rw [word_toInt a ha, word_toInt b hb] at this
    exact_mod_cast this
  · rintro rfl; rfl

theorem sel_word {α : Type} (a b : ℕ) (ha : a < 2 ^ 31) (hb : b < 2 ^ 31) (x y : α) :
    Scalar.select (IntOp.cmpi .eq (BitVec.ofNat 32 a) (BitVec.ofNat 32 b)) x y = if a = b then x else y := by
  rw [show IntOp.cmpi .eq (BitVec.ofNat 32 a) (BitVec.ofNat 32 b) = BitVec.ofBool (BitVec.ofNat 32 a == BitVec.ofNat 32 b) from rfl]
  by_cases h : a = b
  · subst h; simp [Scalar.select]
  · have h' := (word_inj a b ha hb).not.mpr h
    rw [beq_false_of_ne h', if_neg h]; rfl

theorem word_eq {x : BitVec 32} {n : ℕ} (hn : n < 2 ^ 31) (h : x.toInt = n) : x = BitVec.ofNat 32 n :=
  BitVec.eq_of_toInt_eq (by rw [h, word_toInt n hn])

/-- A fold of the signed maximum reaching a known greatest word. -/
theorem foldMax_eq {ι : Type} [DecidableEq ι] (g : ι → BitVec 32) (s : Finset ι) (n : ℕ) (hn : n < 2 ^ 31)
    (hle : ∀ i ∈ s, (g i).toInt ≤ n) (hex : ∃ i ∈ s, g i = BitVec.ofNat 32 n) :
    s.fold IntOp.maxsi 2147483648#32 g = BitVec.ofNat 32 n := by
  obtain ⟨h1, h2, h3⟩ := fold_maxsi_spec g s 2147483648#32
  obtain ⟨i, hi, e⟩ := hex
  have hge := h2 i hi
  rw [e, word_toInt n hn] at hge
  apply word_eq hn
  rcases h3 with h | ⟨j, hj, h⟩
  · rw [h] at hge
    have : (2147483648#32).toInt = -2147483648 := by decide
    omega
  · rw [h] at hge ⊢
    exact le_antisymm (hle j hj) hge

theorem neg_one : (4294967295#32).toInt = -1 := by decide

theorem c8_eq (cm : FVec Ideal S8x782 .f32) (r : Fin 8) :
    c8 cm (ix2 r 0) = BitVec.ofNat 32 (lastTop fun c : Fin 782 => cm (ix2 r c)).val := by
  unfold c8
  pointwise [k0_pay8, k0_pay7]
  rw [ofBits_bot]
  refine foldMax_eq _ _ _ (by omega) (fun c _ => ?_) ⟨lastTop fun c : Fin 782 => cm (ix2 r c), mem_univ _, ?_⟩
  · split
    · next h =>
      rw [word_toInt _ (by omega)]
      exact_mod_cast le_lastTop (fun c : Fin 782 => cm (ix2 r c)) c h
    · rw [neg_one]; omega
  · rw [if_pos]
    exact lastTop_val fun c : Fin 782 => cm (ix2 r c)

theorem m8_eq (cm : FVec Ideal S8x782 .f32) (r : Fin 8) : k0_pay7 cm (ix2 r 0) = top fun c : Fin 782 => cm (ix2 r c) := by
  pointwise [k0_pay7]
  rw [ofBits_bot]; rfl

theorem colW_eq (r : Fin 8) (x : IVec S8x1 32) (n : ℕ) (hn : n < 2 ^ 31) (hx : x (ix2 r 0) = BitVec.ofNat 32 n) :
    colW (BitVec.ofNat 32 r.val) x = BitVec.ofNat 32 n := by
  pointwise [colW]
  have e : ∀ p : Fin 8 × Fin 1, Scalar.select (IntOp.cmpi .eq (BitVec.ofNat 32 p.1.val) (BitVec.ofNat 32 r.val))
      (x (ix2 p.1 0)) 4294967295#32 = if p.1 = r then BitVec.ofNat 32 n else 4294967295#32 := fun p => by
    rw [sel_word _ _ (by omega) (by omega)]
    by_cases h : p.1 = r
    · rw [if_pos h, if_pos (congrArg Fin.val h), h, hx]
    · rw [if_neg h, if_neg fun c => h (Fin.ext c)]
  refine foldMax_eq _ _ n hn (fun p _ => ?_) ⟨(r, 0), mem_univ _, ?_⟩
  · rw [e]; split
    · rw [word_toInt n hn]
    · rw [neg_one]; omega
  · rw [e, if_pos rfl]

theorem valW_eq (r : Fin 8) (x : FVec Ideal S8x1 .f32) : valW (BitVec.ofNat 32 r.val) x = x (ix2 r 0) := by
  pointwise [valW]
  rw [ofBits_bot, fold_max, mask_bot]
  have e : ∀ p : Fin 8 × Fin 1, Scalar.select (IntOp.cmpi .eq (BitVec.ofNat 32 p.1.val) (BitVec.ofNat 32 r.val))
      (x (ix2 p.1 0)) (⊥ : EReal) = if p.1 = r then x (ix2 r 0) else ⊥ := fun p => by
    rw [sel_word _ _ (by omega) (by omega)]
    by_cases h : p.1 = r
    · rw [if_pos h, if_pos (congrArg Fin.val h), h]
    · rw [if_neg h, if_neg fun c => h (Fin.ext c)]
  rw [show (fun p : Fin 8 × Fin 1 => Scalar.select (IntOp.cmpi .eq (BitVec.ofNat 32 p.1.val) (BitVec.ofNat 32 r.val))
      (x (ix2 p.1 0)) (⊥ : EReal)) = fun p => if p.1 = r then x (ix2 r 0) else ⊥ from funext e]
  apply le_antisymm
  · refine Finset.sup_le fun p _ => ?_
    split
    · exact le_rfl
    · exact bot_le
  · have := Finset.le_sup (f := fun p : Fin 8 × Fin 1 => if p.1 = r then (x (ix2 r 0) : EReal) else ⊥) (mem_univ (r, 0))
    simpa using this

theorem laneW_eq (row : Vec Ideal S1x128 .f32) : laneW row (top fun l : Fin 128 => row (ix2 0 l)) =
    BitVec.ofNat 32 (lastTop fun l : Fin 128 => row (ix2 0 l)).val := by
  pointwise [laneW]
  refine foldMax_eq _ _ _ (by omega) (fun p _ => ?_) ⟨(0, lastTop fun l : Fin 128 => row (ix2 0 l)), mem_univ _, ?_⟩
  · split
    · next h =>
      rw [word_toInt _ (by omega)]
      exact_mod_cast le_lastTop (fun l : Fin 128 => row (ix2 0 l)) p.2 h
    · rw [neg_one]; omega
  · rw [if_pos]
    exact lastTop_val fun l : Fin 128 => row (ix2 0 l)

theorem chunkMax_eq (row : FVec Ideal S1x128 .f32) : chunkMax row = top fun l : Fin 128 => row (ix2 0 l) := by
  pointwise [chunkMax]
  rw [ofBits_bot, fold_max]
  apply le_antisymm
  · exact Finset.sup_le fun p _ => le_top' (fun l : Fin 128 => row (ix2 0 l)) p.2
  · exact Finset.sup_le fun l _ => Finset.le_sup (f := fun p : Fin 1 × Fin 128 => (row (ix2 0 p.2) : EReal)) (mem_univ (0, l))

theorem blank_eq (row : Vec Ideal S1x128 .f32) (l' : Fin 128) (l : Fin 128) :
    blank row (BitVec.ofNat 32 l'.val) (ix2 0 l) = if l = l' then ⊥ else row (ix2 0 l) := by
  pointwise [blank]
  rw [mask_bot, sel_word _ _ (by simp; omega) (by omega)]
  by_cases h : l = l'
  · rw [if_pos h, if_pos (congrArg Fin.val h)]
  · rw [if_neg h, if_neg fun c => h (Fin.ext c)]

end Cert.KernelIdeal.Trip
end
-- ==== Proof.Rounds.lean ====
/-
  What the eight rounds of a trip do to the eight rows of a block.

  A row's 100096 elements stand in 782 chunks of 128 lanes; `rowOf` reads them as one row. A trip takes each row's last
  greatest element (`lastTop`) and blanks it.
-/
module

public import proofs.«01_k».proof.Proof.Word
public import Idealize.ShloMosaic.Lib.Writes

@[expose] public section

set_option maxRecDepth 16384

noncomputable section

namespace Cert.KernelIdeal.Trip

open Cert.KernelIdeal Cert.KernelIdeal.Gen Cert.Rows
open Idealize.ShloMosaic Idealize.ShloMosaic.TcCoe
open Finset

instance : NeZero (100096 : ℕ) := ⟨by decide⟩

/-- A place of a row, from its chunk and its lane; and the two read back. -/
def place (c : Fin 782) (l : Fin 128) : Fin 100096 := ⟨c.val * 128 + l.val, by omega⟩
def chunkOf (p : Fin 100096) : Fin 782 := ⟨p.val / 128, by omega⟩
def laneOf (p : Fin 100096) : Fin 128 := ⟨p.val % 128, by omega⟩

theorem place_eta (p : Fin 100096) : place (chunkOf p) (laneOf p) = p := Fin.ext (by simp only [place, chunkOf, laneOf]; omega)
theorem chunkOf_place (c : Fin 782) (l : Fin 128) : chunkOf (place c l) = c := Fin.ext (by simp only [place, chunkOf]; omega)
theorem laneOf_place (c : Fin 782) (l : Fin 128) : laneOf (place c l) = l := Fin.ext (by simp only [place, laneOf]; omega)

/-- The scratch's line holding chunk `c` of row `r`. -/
def line (r : Fin 8) (c : Fin 782) : Fin 6256 := ⟨782 * r.val + c.val, by omega⟩

theorem line_inj (r r' : Fin 8) (c c' : Fin 782) (h : (line r c).val = (line r' c').val) : r = r' ∧ c = c' := by
  simp only [line] at h
  constructor <;> apply Fin.ext <;> omega

/-- The chunk maxima and the lanes determine a row's maximum and the last place holding it. -/
theorem top_row (y : Fin 100096 → EReal) : top (fun c : Fin 782 => top fun l : Fin 128 => y (place c l)) = top y := by
  apply le_antisymm
  · exact Finset.sup_le fun c _ => Finset.sup_le fun l _ => le_top' y _
  · refine Finset.sup_le fun p _ => ?_
    rw [← place_eta p]
    exact (le_top' (fun l : Fin 128 => y (place (chunkOf p) l)) (laneOf p)).trans
      (le_top' (fun c : Fin 782 => top fun l : Fin 128 => y (place c l)) (chunkOf p))

theorem lastTop_row (y : Fin 100096 → EReal) (c : Fin 782) (hc : lastTop (fun c : Fin 782 => top fun l : Fin 128 => y (place c l)) = c) :
    lastTop y = place c (lastTop fun l : Fin 128 => y (place c l)) := by
  have hcv : (top fun l : Fin 128 => y (place c l)) = top y := by
    rw [← top_row y, ← lastTop_val (fun c : Fin 782 => top fun l : Fin 128 => y (place c l)), hc]
  refine lastTop_eq y _ ?_ fun q hq => ?_
  · rw [← hcv]; exact lastTop_val fun l : Fin 128 => y (place c l)
  · have hq1 : (fun c : Fin 782 => top fun l : Fin 128 => y (place c l)) (chunkOf q) = top (fun c : Fin 782 => top fun l : Fin 128 => y (place c l)) := by
      refine le_antisymm (le_top' (fun c : Fin 782 => top fun l : Fin 128 => y (place c l)) _) ?_
      rw [top_row y, ← hq]
      conv_lhs => rw [← place_eta q]
      exact le_top' (fun l : Fin 128 => y (place (chunkOf q) l)) (laneOf q)
    have h1 : chunkOf q ≤ c := hc ▸ le_lastTop (fun c : Fin 782 => top fun l : Fin 128 => y (place c l)) _ hq1
    rcases lt_or_eq_of_le h1 with h | h
    · show q.val ≤ (place c _).val
      have h' : q.val / 128 < c.val := h
      simp only [place]; omega
    · have h2 : laneOf q ≤ lastTop fun l : Fin 128 => y (place c l) := by
        refine le_lastTop (fun l : Fin 128 => y (place c l)) _ ?_
        show y (place c (laneOf q)) = _
        rw [← h, place_eta, h, hcv, hq]
      have h' : q.val / 128 = c.val := congrArg Fin.val h
      have h2' : q.val % 128 ≤ (lastTop fun l : Fin 128 => y (place c l)).val := h2
      show q.val ≤ c.val * 128 + (lastTop fun l : Fin 128 => y (place c l)).val
      omega

section
variable (c : Dev nD) (arg10 : Memref sig .tc .vmem S6256x128 .f32)

/-- What the scratch holds at a line and a lane. -/
def at2 (f : Buf (Elt Ideal) (arg10.view.loc (c : Thread nD τ))) (ρ : Fin 6256) (l : Fin 128) : EReal :=
  arg10.view.read (Elt Ideal) f (ix2 ρ l)

/-- Row `r` of the block, as one row. -/
def rowOf (f : Buf (Elt Ideal) (arg10.view.loc (c : Thread nD τ))) (r : Fin 8) (p : Fin 100096) : EReal :=
  at2 c arg10 f (line r (chunkOf p)) (laneOf p)

theorem rowOf_place (f : Buf (Elt Ideal) (arg10.view.loc (c : Thread nD τ))) (r : Fin 8) (k : Fin 782) (l : Fin 128) :
    rowOf c arg10 f r (place k l) = at2 c arg10 f (line r k) l := by
  unfold rowOf; rw [chunkOf_place, laneOf_place]

variable {c arg10}

theorem rowOff_eq (r : Fin 8) (k : ℕ) (hk : k < 782) (b : BitVec 32) (hb : b = BitVec.ofNat 32 (782 * r.val)) :
    rowOff b (BitVec.ofNat 32 k) = ![782 * r.val + k, 0] := by
  unfold rowOff
  have : (Scalar.indexCast (Scalar.addi b (BitVec.ofNat 32 k))).toNat = 782 * r.val + k := by
    show (b + BitVec.ofNat 32 k).toNat = _
    rw [hb, ← BitVec.ofNat_add, BitVec.toNat_ofNat, Nat.mod_eq_of_lt (by omega)]
  rw [this]

theorem rowOk_of (r : Fin 8) (k : ℕ) (hk : k < 782) (b : BitVec 32) (hb : b = BitVec.ofNat 32 (782 * r.val)) :
    RowOk b (BitVec.ofNat 32 k) := by
  intro a
  rw [rowOff_eq r k hk b hb]
  fin_cases a
  · show 782 * r.val + k + 1 ≤ 6256; omega
  · show 0 + 128 ≤ 128; omega

theorem rowOk (cm : FVec Ideal S8x782 .f32) (r : Fin 8) (w b : BitVec 32) (hw : w = BitVec.ofNat 32 r.val)
    (hb : b = BitVec.ofNat 32 (782 * r.val)) : RowOk b (colW w (c8 cm)) := by
  rw [hw, colW_eq r (c8 cm) _ (by omega) (c8_eq cm r)]
  exact rowOk_of r _ (Fin.isLt _) b hb

theorem row_read (s : St c arg10) (r : Fin 8) (k : Fin 782) (b w : BitVec 32) (hb : b = BitVec.ofNat 32 (782 * r.val))
    (hw : w = BitVec.ofNat 32 k.val) (h : RowOk b w) (l : Fin 128) : s.row b w h (ix2 0 l) = at2 c arg10 s.f (line r k) l := by
  subst hw
  show arg10.view.read (Elt Ideal) s.f ((rowRect b (BitVec.ofNat 32 k.val) h).toLoadRect.idx (ix2 0 l)) = _
  unfold at2
  congr 1
  funext a
  apply Fin.ext
  have := congrFun (rowOff_eq r k.val k.isLt b hb) a
  fin_cases a
  · show rowOff b (BitVec.ofNat 32 k.val) 0 + 1 * 0 = 782 * r.val + k.val
    rw [show rowOff b (BitVec.ofNat 32 k.val) 0 = 782 * r.val + k.val from this]; omega
  · show rowOff b (BitVec.ofNat 32 k.val) 1 + 1 * l.val = l.val
    rw [show rowOff b (BitVec.ofNat 32 k.val) 1 = 0 from this]; omega

/-- The scratch with one element blanked. -/
theorem round_at (s : St c arg10) (r : Fin 8) (k : Fin 782) (w b : BitVec 32) (hw : w = BitVec.ofNat 32 r.val)
    (hb : b = BitVec.ofNat 32 (782 * r.val)) (m8 : FVec Ideal S8x1 .f32) (cs : IVec S8x1 32)
    (hcs : cs (ix2 r 0) = BitVec.ofNat 32 k.val) (h : RowOk b (colW w cs))
    (hm : m8 (ix2 r 0) = top fun l : Fin 128 => at2 c arg10 s.f (line r k) l) (ρ : Fin 6256) (l : Fin 128) :
    at2 c arg10 (round c arg10 w b m8 cs h s).f ρ l
      = if ρ = line r k ∧ l = (lastTop fun l : Fin 128 => at2 c arg10 s.f (line r k) l) then ⊥ else at2 c arg10 s.f ρ l := by
  have hcw : colW w cs = BitVec.ofNat 32 k.val := by rw [hw]; exact colW_eq r cs _ (by omega) hcs
  have hrow : ∀ l, s.row b (colW w cs) h (ix2 0 l) = at2 c arg10 s.f (line r k) l := row_read s r k b _ hb hcw h
  have hrow' : (fun l : Fin 128 => s.row b (colW w cs) h (ix2 0 l)) = fun l => at2 c arg10 s.f (line r k) l := funext hrow
  have hlane : laneW (s.row b (colW w cs) h) (valW w m8) = BitVec.ofNat 32 (lastTop fun l : Fin 128 => at2 c arg10 s.f (line r k) l).val := by
    have hv : valW w m8 = top fun l : Fin 128 => s.row b (colW w cs) h (ix2 0 l) := by
      rw [hrow', ← hm]; subst hw; exact valW_eq r m8
    rw [hv, laneW_eq, hrow']
  have hoff := rowOff_eq r k.val k.isLt b hb
  rw [← hcw] at hoff
  by_cases hρ : ρ = line r k
  · have hhit : at2 c arg10 (round c arg10 w b m8 cs h s).f ρ l
        = shapeCast S1x128 (blank (s.row b (colW w cs) h) (laneW (s.row b (colW w cs) h) (valW w m8))) shapeCasts_S1x128_S1x128 (ix2 0 l) := by
      unfold at2 round
      refine View.read_writes_cons_hit_of_coords arg10.view s.f (rowRect b (colW w cs) h) _ [] (ix2 0 l) (ix2 ρ l) fun a => ?_
      have := congrFun hoff a
      fin_cases a
      · show ρ.val = rowOff b (colW w cs) 0 + 1 * 0
        rw [show rowOff b (colW w cs) 0 = 782 * r.val + k.val from this, hρ]; rfl
      · show l.val = rowOff b (colW w cs) 1 + 1 * l.val
        rw [show rowOff b (colW w cs) 1 = 0 from this]; omega
    rw [hhit, shapeCast_self, hlane, blank_eq, hrow]
    subst hρ
    simp
  · rw [if_neg fun c => hρ c.1]
    unfold at2 round
    have h0 : rowOff b (colW w cs) 0 = 782 * r.val + k.val := congrFun hoff 0
    refine (View.read_writes_cons_miss_of_axis arg10.view s.f ⟨rowRect b (colW w cs) h, _⟩ [] (ix2 ρ l) 0 (782 * r.val + k.val) 1 h0 rfl rfl ?_).trans rfl
    show ρ.val < 782 * r.val + k.val ∨ 782 * r.val + k.val + 1 ≤ ρ.val
    have : ρ.val ≠ 782 * r.val + k.val := fun e => hρ (Fin.ext e)
    omega

theorem rowSel {α : Type} (w : BitVec 32) (x : α) (t : S8x1.Idx → α) (r' : Fin 8) :
    select (cmpi .eq rowNo (broadcast S8x1 w)) (broadcast S8x1 x) t (ix2 r' 0)
      = Scalar.select (IntOp.cmpi .eq (BitVec.ofNat 32 r'.val) w) x (t (ix2 r' 0)) := by
  pointwise

theorem round_mx (s : St c arg10) (r : Fin 8) (k : Fin 782) (w b : BitVec 32) (hw : w = BitVec.ofNat 32 r.val)
    (hb : b = BitVec.ofNat 32 (782 * r.val)) (m8 : FVec Ideal S8x1 .f32) (cs : IVec S8x1 32)
    (hcs : cs (ix2 r 0) = BitVec.ofNat 32 k.val) (h : RowOk b (colW w cs))
    (hm : m8 (ix2 r 0) = top fun l : Fin 128 => at2 c arg10 s.f (line r k) l) (r' : Fin 8) :
    (round c arg10 w b m8 cs h s).mx (ix2 r' 0)
      = (if r' = r then top fun l : Fin 128 => at2 c arg10 (round c arg10 w b m8 cs h s).f (line r k) l else s.mx (ix2 r' 0))
    ∧ (round c arg10 w b m8 cs h s).jx (ix2 r' 0)
      = if r' = r then BitVec.ofNat 32 (place k (lastTop fun l : Fin 128 => at2 c arg10 s.f (line r k) l)).val else s.jx (ix2 r' 0) := by
  have hcw : colW w cs = BitVec.ofNat 32 k.val := by rw [hw]; exact colW_eq r cs _ (by omega) hcs
  have hrow : ∀ l, s.row b (colW w cs) h (ix2 0 l) = at2 c arg10 s.f (line r k) l := row_read s r k b _ hb hcw h
  have hrow' : (fun l : Fin 128 => s.row b (colW w cs) h (ix2 0 l)) = fun l => at2 c arg10 s.f (line r k) l := funext hrow
  have hlane : laneW (s.row b (colW w cs) h) (valW w m8) = BitVec.ofNat 32 (lastTop fun l : Fin 128 => at2 c arg10 s.f (line r k) l).val := by
    have hv : valW w m8 = top fun l : Fin 128 => s.row b (colW w cs) h (ix2 0 l) := by
      rw [hrow', ← hm]; subst hw; exact valW_eq r m8
    rw [hv, laneW_eq, hrow']
  have hat := round_at s r k w b hw hb m8 cs hcs h hm
  have hsel : ∀ {α : Type} (x y : α), Scalar.select (IntOp.cmpi .eq (BitVec.ofNat 32 r'.val) w) x y = if r' = r then x else y := fun x y => by
    rw [hw, sel_word _ _ (by omega) (by omega)]
    by_cases e : r' = r
    · rw [if_pos e, if_pos (congrArg Fin.val e)]
    · rw [if_neg e, if_neg fun c => e (Fin.ext c)]
  constructor
  · have e1 : (round c arg10 w b m8 cs h s).mx (ix2 r' 0) = Scalar.select (IntOp.cmpi .eq (BitVec.ofNat 32 r'.val) w)
        (chunkMax (blank (s.row b (colW w cs) h) (laneW (s.row b (colW w cs) h) (valW w m8)))) (s.mx (ix2 r' 0)) := by
      unfold round
      exact rowSel w _ _ r'
    have e2 : (fun l : Fin 128 => blank (s.row b (colW w cs) h) (laneW (s.row b (colW w cs) h) (valW w m8)) (ix2 0 l))
        = fun l : Fin 128 => at2 c arg10 (round c arg10 w b m8 cs h s).f (line r k) l := by
      funext l
      rw [hlane, blank_eq, hrow, hat]
      simp only [true_and]
    rw [e1, hsel, chunkMax_eq, e2]
  · have e1 : (round c arg10 w b m8 cs h s).jx (ix2 r' 0) = Scalar.select (IntOp.cmpi .eq (BitVec.ofNat 32 r'.val) w)
        (Scalar.addi (Scalar.muli (colW w cs) 128#32) (laneW (s.row b (colW w cs) h) (valW w m8))) (s.jx (ix2 r' 0)) := by
      unfold round
      exact rowSel w _ _ r'
    have e2 : Scalar.addi (Scalar.muli (colW w cs) 128#32) (laneW (s.row b (colW w cs) h) (valW w m8))
        = BitVec.ofNat 32 (place k (lastTop fun l : Fin 128 => at2 c arg10 s.f (line r k) l)).val := by
      rw [hlane, hcw]
      show BitVec.ofNat 32 k.val * BitVec.ofNat 32 128 + BitVec.ofNat 32 _ = _
      rw [← BitVec.ofNat_mul, ← BitVec.ofNat_add]
      rfl
    rw [e1, hsel, e2]

end

end Cert.KernelIdeal.Trip
end
-- ==== Proof.Iter.lean ====
/-
  The selection loop's state after any number of trips.
-/
module

public import proofs.«01_k».proof.Proof.Rounds

@[expose] public section

set_option maxRecDepth 16384

noncomputable section

namespace Cert.KernelIdeal.Trip

open Cert.KernelIdeal Cert.KernelIdeal.Gen Cert.Rows
open Idealize.ShloMosaic Idealize.ShloMosaic.TcCoe
open Finset

section
variable {c : Dev nD} {arg10 : Memref sig .tc .vmem S6256x128 .f32}

/-- After `n` rounds of a trip: the first `n` rows have lost their last greatest element. -/
structure Done (f : Buf (Elt Ideal) (arg10.view.loc (c : Thread nD τ))) (n : ℕ) (s : St c arg10) : Prop where
  ge : ∀ r : Fin 8, n ≤ r.val → ∀ p, rowOf c arg10 s.f r p = rowOf c arg10 f r p
  lt : ∀ r : Fin 8, r.val < n → ∀ p, rowOf c arg10 s.f r p
    = if p = lastTop (rowOf c arg10 f r) then ⊥ else rowOf c arg10 f r p
  mx : ∀ r : Fin 8, r.val < n → s.mx (ix2 r 0)
    = top fun l : Fin 128 => rowOf c arg10 s.f r (place (chunkOf (lastTop (rowOf c arg10 f r))) l)
  jx : ∀ r : Fin 8, r.val < n → s.jx (ix2 r 0) = BitVec.ofNat 32 (lastTop (rowOf c arg10 f r)).val

/-- The chunk maxima are the maxima of the chunks. -/
abbrev CmOk (cm : FVec Ideal S8x782 .f32) (f : Buf (Elt Ideal) (arg10.view.loc (c : Thread nD τ))) : Prop :=
  ∀ (r : Fin 8) (k : Fin 782), cm (ix2 r k) = top fun l : Fin 128 => rowOf c arg10 f r (place k l)

theorem cm_last {cm : FVec Ideal S8x782 .f32} {f : Buf (Elt Ideal) (arg10.view.loc (c : Thread nD τ))} (hcm : CmOk cm f) (r : Fin 8) :
    lastTop (rowOf c arg10 f r) = place (lastTop fun k : Fin 782 => cm (ix2 r k))
      (lastTop fun l : Fin 128 => rowOf c arg10 f r (place (lastTop fun k : Fin 782 => cm (ix2 r k)) l)) := by
  refine lastTop_row _ _ ?_
  congr 1
  funext k
  exact (hcm r k).symm

theorem cm_top {cm : FVec Ideal S8x782 .f32} {f : Buf (Elt Ideal) (arg10.view.loc (c : Thread nD τ))} (hcm : CmOk cm f) (r : Fin 8) :
    (top fun k : Fin 782 => cm (ix2 r k)) = top (rowOf c arg10 f r) := by
  rw [← top_row]
  congr 1
  funext k
  exact hcm r k

theorem done_step {cm : FVec Ideal S8x782 .f32} {f : Buf (Elt Ideal) (arg10.view.loc (c : Thread nD τ))} (hcm : CmOk cm f)
    (s : St c arg10) (r : Fin 8) (n : ℕ) (hn : n = r.val) (w b : BitVec 32) (hw : w = BitVec.ofNat 32 r.val)
    (hb : b = BitVec.ofNat 32 (782 * r.val)) (h : RowOk b (colW w (c8 cm))) (hd : Done f n s) :
    Done f (n + 1) (round c arg10 w b (k0_pay7 cm) (c8 cm) h s) := by
  subst hn
  obtain ⟨k, hk⟩ : ∃ k, k = lastTop fun k : Fin 782 => cm (ix2 r k) := ⟨_, rfl⟩
  have hsame : ∀ l : Fin 128, at2 c arg10 s.f (line r k) l = rowOf c arg10 f r (place k l) := fun l => by
    rw [← rowOf_place]; exact hd.ge r le_rfl _
  have hcs : c8 cm (ix2 r 0) = BitVec.ofNat 32 k.val := by rw [hk]; exact c8_eq cm r
  have hm : k0_pay7 cm (ix2 r 0) = top fun l : Fin 128 => at2 c arg10 s.f (line r k) l := by
    rw [m8_eq, ← lastTop_val fun k : Fin 782 => cm (ix2 r k), ← hk, hcm]
    congr 1
    funext l
    exact (hsame l).symm
  have hlast : lastTop (rowOf c arg10 f r) = place k (lastTop fun l : Fin 128 => at2 c arg10 s.f (line r k) l) := by
    rw [cm_last hcm r, ← hk]
    congr 2
    funext l
    exact (hsame l).symm
  have hat := round_at s r k w b hw hb (k0_pay7 cm) (c8 cm) hcs h hm
  have hmx := round_mx s r k w b hw hb (k0_pay7 cm) (c8 cm) hcs h hm
  have hrow : ∀ (r' : Fin 8) p, rowOf c arg10 (round c arg10 w b (k0_pay7 cm) (c8 cm) h s).f r' p
      = if r' = r ∧ p = lastTop (rowOf c arg10 f r) then ⊥ else rowOf c arg10 s.f r' p := fun r' p => by
    unfold rowOf
    rw [hat]
    refine if_congr ?_ rfl rfl
    constructor
    · rintro ⟨h1, h2⟩
      obtain ⟨e1, e2⟩ := line_inj _ _ _ _ (congrArg Fin.val h1)
      refine ⟨e1, ?_⟩
      show p = lastTop (rowOf c arg10 f r)
      rw [hlast, ← h2, ← e2, place_eta]
    · rintro ⟨e1, e2⟩
      have e2' : p = lastTop (rowOf c arg10 f r) := e2
      rw [e2', hlast, chunkOf_place, laneOf_place, e1]
      exact ⟨rfl, rfl⟩
  refine ⟨fun r' h' p => ?_, fun r' h' p => ?_, fun r' h' => ?_, fun r' h' => ?_⟩
  · rw [hrow, if_neg (fun c => by have := congrArg Fin.val c.1; omega)]
    exact hd.ge r' (by omega) p
  · rw [hrow]
    by_cases e : r' = r
    · subst e
      simp only [true_and]
      rw [hd.ge r' le_rfl p]
    · rw [if_neg (fun c => e c.1)]
      exact hd.lt r' (by have : r'.val ≠ r.val := fun c => e (Fin.ext c); omega) p
  · rw [(hmx r').1]
    clear hmx hat
    generalize (round c arg10 w b (k0_pay7 cm) (c8 cm) h s).f = f2 at hrow ⊢
    by_cases e : r' = r
    · subst e
      rw [if_pos rfl, hlast, chunkOf_place]
      exact congrArg top (funext fun l => (rowOf_place c arg10 f2 r' k l).symm)
    · rw [if_neg e, hd.mx r' (by have : r'.val ≠ r.val := fun c => e (Fin.ext c); omega)]
      exact congrArg top (funext fun l => by rw [hrow, if_neg (fun c => e c.1)])
  · rw [(hmx r').2]
    by_cases e : r' = r
    · subst e
      rw [if_pos rfl, hlast]
    · rw [if_neg e]
      exact hd.jx r' (by have : r'.val ≠ r.val := fun c => e (Fin.ext c); omega)

/-- The trip, its side conditions discharged. -/
def tripSt (cm : FVec Ideal S8x782 .f32) (f : Buf (Elt Ideal) (arg10.view.loc (c : Thread nD τ))) : St c arg10 :=
  rounds c arg10 cm f (rowOk cm 0 _ _ rfl rfl) (rowOk cm 1 _ _ rfl rfl) (rowOk cm 2 _ _ rfl rfl) (rowOk cm 3 _ _ rfl rfl)
    (rowOk cm 4 _ _ rfl rfl) (rowOk cm 5 _ _ rfl rfl) (rowOk cm 6 _ _ rfl rfl) (rowOk cm 7 _ _ rfl rfl)

theorem trip_done {cm : FVec Ideal S8x782 .f32} {f : Buf (Elt Ideal) (arg10.view.loc (c : Thread nD τ))} (hcm : CmOk cm f) :
    Done f 8 (tripSt cm f) := by
  have h0 : Done f 0 (⟨f, k0_pay9, k0_pay10⟩ : St c arg10) :=
    ⟨fun _ _ _ => rfl, fun _ h => absurd h (Nat.not_lt_zero _), fun _ h => absurd h (Nat.not_lt_zero _), fun _ h => absurd h (Nat.not_lt_zero _)⟩
  unfold tripSt rounds
  exact done_step hcm _ 7 7 rfl _ _ rfl rfl _ <| done_step hcm _ 6 6 rfl _ _ rfl rfl _ <| done_step hcm _ 5 5 rfl _ _ rfl rfl _ <|
    done_step hcm _ 4 4 rfl _ _ rfl rfl _ <| done_step hcm _ 3 3 rfl _ _ rfl rfl _ <| done_step hcm _ 2 2 rfl _ _ rfl rfl _ <|
    done_step hcm _ 1 1 rfl _ _ rfl rfl _ <| done_step hcm _ 0 0 rfl _ _ rfl rfl _ h0

theorem newCm_ok {cm : FVec Ideal S8x782 .f32} {f : Buf (Elt Ideal) (arg10.view.loc (c : Thread nD τ))} (hcm : CmOk cm f) :
    CmOk (newCm cm (tripSt cm f).mx) (tripSt cm f).f := by
  intro r k
  have hd := trip_done hcm
  have e : newCm cm (tripSt cm f).mx (ix2 r k)
      = Scalar.select (IntOp.cmpi .eq (BitVec.ofNat 32 k.val) (c8 cm (ix2 r 0))) ((tripSt cm f).mx (ix2 r 0)) (cm (ix2 r k)) := by
    generalize (tripSt cm f).mx = mx
    pointwise [newCm]
  rw [e, c8_eq, sel_word _ _ (by omega) (by omega)]
  by_cases hk : k = lastTop fun k : Fin 782 => cm (ix2 r k)
  · rw [if_pos (congrArg Fin.val hk), hd.mx r r.isLt]
    rw [cm_last hcm r, chunkOf_place, ← hk]
  · rw [if_neg (fun c => hk (Fin.ext c)), hcm]
    congr 1
    funext l
    rw [hd.lt r r.isLt, if_neg]
    intro c'
    rw [cm_last hcm r] at c'
    have := congrArg chunkOf c'
    rw [chunkOf_place, chunkOf_place] at this
    exact hk this

/-- The loop's state: the scratch, the chunk maxima, the values and the places taken. -/
structure LS (c : Dev nD) (arg10 : Memref sig .tc .vmem S6256x128 .f32) where
  f : Buf (Elt Ideal) (arg10.view.loc (c : Thread nD τ))
  cm : FVec Ideal S8x782 .f32
  vals : FVec Ideal S8x64 .f32
  idxs : IVec S8x64 32

/-- One trip of it. -/
def LS.next (k : ℕ) (s : LS c arg10) : LS c arg10 :=
  ⟨(tripSt s.cm s.f).f, newCm s.cm (tripSt s.cm s.f).mx, putCol (BitVec.ofNat 32 k) (k0_pay7 s.cm) s.vals,
    putCol (BitVec.ofNat 32 k) (tripSt s.cm s.f).jx s.idxs⟩

/-- The state after `n` trips. -/
def stateAt (s : LS c arg10) : ℕ → LS c arg10
  | 0 => s
  | n + 1 => (stateAt s n).next n

theorem putCol_at {α : Type} (n : ℕ) (hn : n < 64) (x : S8x1.Idx → α) (t : S8x64.Idx → α) (r : Fin 8) (k : Fin 64) :
    putCol (BitVec.ofNat 32 n) x t (ix2 r k) = if k.val = n then x (ix2 r 0) else t (ix2 r k) := by
  have : putCol (BitVec.ofNat 32 n) x t (ix2 r k)
      = Scalar.select (IntOp.cmpi .eq (BitVec.ofNat 32 k.val) (BitVec.ofNat 32 n)) (x (ix2 r 0)) (t (ix2 r k)) := by
    pointwise [putCol]
  rw [this, sel_word _ _ (by omega) (by omega)]

/-- What the state is, in terms of the picks of each row. -/
structure Reads (y : Fin 8 → Fin 100096 → EReal) (v0 : FVec Ideal S8x64 .f32) (j0 : IVec S8x64 32) (n : ℕ) (s : LS c arg10) : Prop where
  row : ∀ r, rowOf c arg10 s.f r = left (y r) n
  cm : CmOk s.cm s.f
  vals : ∀ (r : Fin 8) (k : Fin 64), s.vals (ix2 r k) = if k.val < n then pval (y r) k.val else v0 (ix2 r k)
  idxs : ∀ (r : Fin 8) (k : Fin 64), s.idxs (ix2 r k) = if k.val < n then BitVec.ofNat 32 (pick (y r) k.val).val else j0 (ix2 r k)

theorem reads_next (y : Fin 8 → Fin 100096 → EReal) (v0 : FVec Ideal S8x64 .f32) (j0 : IVec S8x64 32) (n : ℕ) (hn : n < 64) (s : LS c arg10)
    (h : Reads y v0 j0 n s) : Reads y v0 j0 (n + 1) (s.next n) := by
  have hd := trip_done h.cm
  refine ⟨fun r => ?_, newCm_ok h.cm, fun r k => ?_, fun r k => ?_⟩
  · funext p
    show rowOf c arg10 (tripSt s.cm s.f).f r p = _
    rw [hd.lt r r.isLt, h.row r, left_succ]
    unfold pick
    by_cases e : p = lastTop (left (y r) n)
    · rw [if_pos e, e, Function.update_self]
    · rw [if_neg e, Function.update_of_ne e]
  · show putCol (BitVec.ofNat 32 n) (k0_pay7 s.cm) s.vals (ix2 r k) = _
    rw [putCol_at n hn, h.vals, m8_eq, cm_top h.cm, h.row]
    by_cases e : k.val = n
    · rw [if_pos e, if_pos (by omega), e]; rfl
    · rw [if_neg e]
      by_cases e' : k.val < n
      · rw [if_pos e', if_pos (by omega)]
      · rw [if_neg e', if_neg (by omega)]
  · show putCol (BitVec.ofNat 32 n) (tripSt s.cm s.f).jx s.idxs (ix2 r k) = _
    rw [putCol_at n hn, h.idxs, hd.jx r r.isLt, h.row]
    by_cases e : k.val = n
    · rw [if_pos e, if_pos (by omega), e]; rfl
    · rw [if_neg e]
      by_cases e' : k.val < n
      · rw [if_pos e', if_pos (by omega)]
      · rw [if_neg e', if_neg (by omega)]

theorem reads_stateAt (y : Fin 8 → Fin 100096 → EReal) (s : LS c arg10) (h : Reads y s.vals s.idxs 0 s) (n : ℕ) (hn : n ≤ 64) :
    Reads y s.vals s.idxs n (stateAt s n) := by
  induction n with
  | zero => exact h
  | succ n ih => exact reads_next y _ _ n (by omega) _ (ih (by omega))

end

end Cert.KernelIdeal.Trip
end
-- ==== Proof.Body.lean ====
/-
  The kernel's body on one block of eight rows.
-/
module

public import proofs.«01_k».proof.Proof.Iter
public import Idealize.ShloMosaic.Lib.Pointwise

@[expose] public section

set_option maxRecDepth 16384

noncomputable section

namespace Cert.KernelIdeal.Trip

open Cert.KernelIdeal Cert.KernelIdeal.Gen Cert.Rows
open Idealize.ShloMosaic.ValueIdx hiding ix2 ix3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Row `r` of the block, scaled, as the scratch holds it. -/
def yrow (t : Vec Ideal S8x1 .f32) (x : Vec Ideal S8x782x128 .f32) (r : Fin 8) (p : Fin 100096) : EReal :=
  k0_pay62 t x (ix2 (line r (chunkOf p)) (laneOf p))

theorem yrow_eq (t : Vec Ideal S8x1 .f32) (x : Vec Ideal S8x782x128 .f32) (r : Fin 8) (p : Fin 100096) :
    yrow t x r p = Ideal.div (x (ix3 r (chunkOf p) (laneOf p))) (max (t (ix2 r 0)) (Ideal.ofBits .f32 1008981770#32)) := by
  have e1 : (⟨(line r (chunkOf p)).val / 782, by omega⟩ : Fin 8) = r := Fin.ext (by simp only [line]; omega)
  have e2 : (⟨(line r (chunkOf p)).val % 782, by omega⟩ : Fin 782) = chunkOf p := Fin.ext (by simp only [line]; omega)
  unfold yrow
  pointwise [k0_pay62, k0_pay61]
  rw [e1, e2]

theorem cm0_eq (t : Vec Ideal S8x1 .f32) (x : Vec Ideal S8x782x128 .f32) (r : Fin 8) (k : Fin 782) :
    k0_pay63 t x (ix2 r k) = top fun l : Fin 128 => yrow t x r (place k l) := by
  pointwise [k0_pay63, k0_pay61]
  rw [ofBits_bot, fold_max]
  unfold top
  congr 1
  funext l
  rw [yrow_eq, chunkOf_place, laneOf_place]

/-- The loop's invariant, of what the scratch holds and what is carried. -/
abbrev Loop (c : Dev nD) (arg10 : Memref sig .tc .vmem S6256x128 .f32) (t : Vec Ideal S8x1 .f32) (x : Vec Ideal S8x782x128 .f32) (k : ℕ)
    (g : Buf (Elt Ideal) (arg10.view.loc (c : Thread nD τ))) (acc : FVec Ideal S8x782 .f32 × FVec Ideal S8x64 .f32 × IVec S8x64 32) : Prop :=
  Reads (c := c) (arg10 := arg10) (yrow t x) (k0_pay64 (F := Ideal)) k0_pay65 k ⟨g, acc.1, acc.2.1, acc.2.2⟩

theorem written2' (A : Memref sig .tc .vmem S6256x128 .f32) (f : A.view.ty.Contents (Elt Ideal)) (w : FVec Ideal S6256x128 .f32) (j : S6256x128.Idx) :
    A.view.read (Elt Ideal) (A.view.writes (Elt Ideal) f [⟨Rect.unit ![0, 0] S6256x128.size inb_S6256x128_S6256x128_0_0, w⟩]) j = w j := by
  refine View.read_writes_cons_hit_of_coords A.view f (Rect.unit (s := S6256x128) ![0, 0] S6256x128.size inb_S6256x128_S6256x128_0_0) w [] j j fun a => ?_
  fin_cases a
  · show (j 0).val = 0 + 1 * (j 0).val; omega
  · show (j 1).val = 0 + 1 * (j 1).val; omega

theorem loop_start (c : Dev nD) (arg10 : Memref sig .tc .vmem S6256x128 .f32) (t : Vec Ideal S8x1 .f32) (x : Vec Ideal S8x782x128 .f32)
    (f : Buf (Elt Ideal) (arg10.view.loc (c : Thread nD τ))) :
    Loop c arg10 t x 0 (arg10.view.writes (Elt Ideal) f [⟨Rect.unit (s := S6256x128) ![0, 0] S6256x128.size inb_S6256x128_S6256x128_0_0, k0_pay62 t x⟩])
      (k0_pay63 t x, k0_pay64 (F := Ideal), k0_pay65) := by
  have hrow : ∀ r p, rowOf c arg10 (arg10.view.writes (Elt Ideal) f [⟨Rect.unit (s := S6256x128) ![0, 0] S6256x128.size inb_S6256x128_S6256x128_0_0, k0_pay62 t x⟩]) r p
      = yrow t x r p := fun r p =>
    written2' arg10 f (k0_pay62 t x) (ix2 (line r (chunkOf p)) (laneOf p))
  generalize arg10.view.writes (Elt Ideal) f [⟨Rect.unit (s := S6256x128) ![0, 0] S6256x128.size inb_S6256x128_S6256x128_0_0, k0_pay62 t x⟩] = g at hrow ⊢
  refine ⟨fun r => funext fun p => hrow r p, fun r k => ?_, fun r k => ?_, fun r k => ?_⟩
  · have e := cm0_eq t x r k
    generalize k0_pay63 t x = cm at e ⊢
    exact e.trans (congrArg top (funext fun l => (hrow r _).symm))
  · rw [if_neg (Nat.not_lt_zero _)]
  · rw [if_neg (Nat.not_lt_zero _)]

theorem iv_eq (k : Fin k0_t1_loop.trips) : Scf.iv 0#32 1#32 k = BitVec.ofNat 32 k.val := by
  unfold Scf.iv
  simp

theorem trips_eq : k0_t1_loop.trips = 64 := by decide +kernel

set_option warn.classDefReducibility false in
/-- The loop keeps the state it has reached. -/
@[sl_loop] def loopInv_k0_t1 (c : Dev nD) (i : grid0.Coords) (arg1 : Memref sig .tc .vmem S8x1 .f32) (harg1 : arg1.IsWhole) (arg2 : Memref sig .tc .vmem S8x1 .f32) (harg2 : arg2.IsWhole) (arg3 : Memref sig .tc .vmem S8x1 .i32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x782x128 .f32) (harg6 : arg6.IsWhole) (arg7 : Memref sig .tc .vmem S8x782x128 .f32) (harg7 : arg7.IsWhole) (arg8 : Memref sig .tc .vmem S8x782x128 .f32) (harg8 : arg8.IsWhole) (arg9 : Memref sig .tc .vmem S8x1 .i32) (harg9 : arg9.IsWhole) (arg10 : Memref sig .tc .vmem S6256x128 .f32) (harg10 : arg10.IsWhole)
    (v14 : IVec S8x782 32) (v15 : IVec S8x1 32) (v16 : IVec S1x128 32) (h14 : v14 = colNo) (h15 : v15 = rowNo) (h16 : v16 = laneNo)
    (t : Vec Ideal S8x1 .f32) (x : Vec Ideal S8x782x128 .f32) :
    LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 v14 v15 v16 (k0_pay63 t x, k0_pay64 (F := Ideal), k0_pay65) where
  inv k acc := iprop(∃ g, (arg10.view.loc (c : Thread nD τ) ↦{fullShare} g) ∗ ⌜Loop c arg10 t x k g acc⌝)
  step k acc := by
    obtain ⟨cm, vals, idxs⟩ := acc
    iintro ⟨%g, H, %e⟩
    subst h14 h15 h16
    iapply (wp_wand_r Idealize.ShloMosaic.frame (wpE (defs₀ (F := Ideal)) Variants.none (c : Thread nD τ) none) Set.univ)
    isplitl [H]
    · iapply (trip c i arg1 harg1 arg2 harg2 arg3 harg3 arg4 harg4 arg5 harg5 arg6 harg6 arg7 harg7 arg8 harg8 arg9 harg9 arg10 harg10 k cm vals idxs g (rowOk _ 0 _ _ rfl rfl) (rowOk _ 1 _ _ rfl rfl) (rowOk _ 2 _ _ rfl rfl) (rowOk _ 3 _ _ rfl rfl)
        (rowOk _ 4 _ _ rfl rfl) (rowOk _ 5 _ _ rfl rfl) (rowOk _ 6 _ _ rfl rfl) (rowOk _ 7 _ _ rfl rfl))
      iexact H
    · iintro %acc ⟨H, %e'⟩
      iexists _
      isplitl [H]
      · iexact H
      · ipureintro
        rw [e', iv_eq]
        exact reads_next (yrow t x) _ _ k.val (lt_of_lt_of_eq k.isLt trips_eq) ⟨g, cm, vals, idxs⟩ e

/-- The 64 values and places taken from each row. -/
def valsF (t : Vec Ideal S8x1 .f32) (x : Vec Ideal S8x782x128 .f32) : FVec Ideal S8x64 .f32 := fun j => pval (yrow t x (j 0)) (j 1).val
def idxsF (t : Vec Ideal S8x1 .f32) (x : Vec Ideal S8x782x128 .f32) : IVec S8x64 32 := fun j => BitVec.ofNat 32 (pick (yrow t x (j 0)) (j 1).val).val

theorem loop_end {c : Dev nD} {arg10 : Memref sig .tc .vmem S6256x128 .f32} {t : Vec Ideal S8x1 .f32} {x : Vec Ideal S8x782x128 .f32}
    {g : Buf (Elt Ideal) (arg10.view.loc (c : Thread nD τ))} {acc : FVec Ideal S8x782 .f32 × FVec Ideal S8x64 .f32 × IVec S8x64 32}
    (h : Loop c arg10 t x k0_t1_loop.trips g acc) : acc = (acc.1, valsF t x, idxsF t x) := by
  rw [trips_eq] at h
  have e1 : acc.2.1 = valsF t x := by
    funext j
    rw [← ix2_eta j]
    exact (h.vals (j 0) (j 1)).trans (if_pos (j 1).isLt)
  have e2 : acc.2.2 = idxsF t x := by
    funext j
    rw [← ix2_eta j]
    exact (h.idxs (j 0) (j 1)).trans (if_pos (j 1).isLt)
  rw [← e1, ← e2]

section outs
variable (t tp : Vec Ideal S8x1 .f32) (tk : Vec Ideal S8x1 .i32) (mp : Vec Ideal S8x1 .f32) (pt : Vec Ideal S8x1 .i32) (x : Vec Ideal S8x782x128 .f32)

abbrev kNo : IVec S1x64 32 := iota .tc S1x64 32 [1] iota_S1x64_d1_w32
/-- The k-th greatest value, the least kept value, the least place holding it, and the number kept. -/
def thrF : FVec Ideal S8x1 .f32 := k0_pay73 (valsF t x) tk
def vmF : FVec Ideal S8x1 .f32 := k0_pay75 kNo (valsF t x) (k0_pay71 (valsF t x)) (thrF t tk x) tp mp
def imF : IVec S8x1 32 := k0_pay76 kNo (valsF t x) (idxsF t x) (k0_pay71 (valsF t x)) (thrF t tk x) tp mp
def cntF : FVec Ideal S8x1 .f32 := k0_pay77 kNo (valsF t x) (k0_pay71 (valsF t x)) (thrF t tk x) tp mp
/-- The kept elements, the first two places, and the two probabilities. -/
def fF : FVec Ideal S8x782x128 .f32 := k0_pay82 (k0_pay61 t x) (vmF t tp tk mp x) (imF t tp tk mp x)
def i0F : IVec S8x1x1 32 := k0_pay83 (k0_pay61 t x) (k0_pay71 (valsF t x)) (vmF t tp tk mp x) (imF t tp tk mp x)
def i1F : IVec S8x1x1 32 := k0_pay84 (k0_pay61 t x) (k0_pay71 (valsF t x)) (k0_pay72 (valsF t x)) (vmF t tp tk mp x) (imF t tp tk mp x)
def p0F : FVec Ideal S8x1x1 .f32 := k0_pay86 (k0_pay61 t x) (k0_pay71 (valsF t x)) (vmF t tp tk mp x) (imF t tp tk mp x)
def p1F : FVec Ideal S8x1x1 .f32 := k0_pay88 (k0_pay61 t x) (k0_pay71 (valsF t x)) (k0_pay72 (valsF t x)) (vmF t tp tk mp x) (imF t tp tk mp x)
/-- The three stored results. -/
def outP : FVec Ideal S8x782x128 .f32 := k0_pay4 k0_pay78 (k0_pay79 (k0_pay71 (valsF t x))) (k0_pay80 (k0_pay72 (valsF t x))) (fF t tp tk mp x)
  (i0F t tp tk mp x) (p0F t tp tk mp x) (k0_pay87 (cntF t tp tk mp x)) (p1F t tp tk mp x) k0_pay89 pt
def outL : FVec Ideal S8x782x128 .f32 := k0_pay5 k0_pay78 (k0_pay79 (k0_pay71 (valsF t x))) (k0_pay80 (k0_pay72 (valsF t x))) (fF t tp tk mp x)
  (i0F t tp tk mp x) (p0F t tp tk mp x) (k0_pay87 (cntF t tp tk mp x)) (p1F t tp tk mp x) k0_pay89 pt
def outN : IVec S8x1 32 := k0_pay6 (i0F t tp tk mp x) (i1F t tp tk mp x) (p0F t tp tk mp x) (k0_pay87 (cntF t tp tk mp x)) (p1F t tp tk mp x) k0_pay89 pt
end outs

theorem read2 {e : EltTy} (A : Memref sig .tc .vmem S8x1 e) (f : A.view.ty.Contents (Elt Ideal)) :
    A.view.readAt (Elt Ideal) (Rect.unit ![0, 0] S8x1.size inb_S8x1_S8x1_0_0).toLoadRect f = A.view.read (Elt Ideal) f :=
  View.ld_unit_zero (S := S8x1) (by decide) _ _
theorem read3 {e : EltTy} (A : Memref sig .tc .vmem S8x782x128 e) (f : A.view.ty.Contents (Elt Ideal)) :
    A.view.readAt (Elt Ideal) (Rect.unit ![0, 0, 0] S8x782x128.size inb_S8x782x128_S8x782x128_0_0_0).toLoadRect f = A.view.read (Elt Ideal) f :=
  View.ld_unit_zero (S := S8x782x128) (by decide) _ _
theorem written2 {e : EltTy} (A : Memref sig .tc .vmem S8x1 e) (f : A.view.ty.Contents (Elt Ideal)) (w : S8x1.Idx → Elt Ideal e) :
    A.view.read (Elt Ideal) (A.view.writes (Elt Ideal) f [⟨Rect.unit ![0, 0] S8x1.size inb_S8x1_S8x1_0_0, w⟩]) = w := by
  funext j
  refine View.read_writes_cons_hit_of_coords A.view f (Rect.unit (s := S8x1) ![0, 0] S8x1.size inb_S8x1_S8x1_0_0) w [] j j fun a => ?_
  fin_cases a
  · show (j 0).val = 0 + 1 * (j 0).val; omega
  · show (j 1).val = 0 + 1 * (j 1).val; omega
theorem written3 {e : EltTy} (A : Memref sig .tc .vmem S8x782x128 e) (f : A.view.ty.Contents (Elt Ideal)) (w : S8x782x128.Idx → Elt Ideal e) :
    A.view.read (Elt Ideal) (A.view.writes (Elt Ideal) f [⟨Rect.unit ![0, 0, 0] S8x782x128.size inb_S8x782x128_S8x782x128_0_0_0, w⟩]) = w := by
  funext j
  refine View.read_writes_cons_hit_of_coords A.view f (Rect.unit (s := S8x782x128) ![0, 0, 0] S8x782x128.size inb_S8x782x128_S8x782x128_0_0_0) w [] j j fun a => ?_
  fin_cases a
  · show (j 0).val = 0 + 1 * (j 0).val; omega
  · show (j 1).val = 0 + 1 * (j 1).val; omega
  · show (j 2).val = 0 + 1 * (j 2).val; omega

theorem kernelRun (c : Dev nD) (i : grid0.Coords) (arg1 : Memref sig .tc .vmem S8x1 .f32) (harg1 : arg1.IsWhole) (arg2 : Memref sig .tc .vmem S8x1 .f32) (harg2 : arg2.IsWhole) (arg3 : Memref sig .tc .vmem S8x1 .i32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x782x128 .f32) (harg6 : arg6.IsWhole) (arg7 : Memref sig .tc .vmem S8x782x128 .f32) (harg7 : arg7.IsWhole) (arg8 : Memref sig .tc .vmem S8x782x128 .f32) (harg8 : arg8.IsWhole) (arg9 : Memref sig .tc .vmem S8x1 .i32) (harg9 : arg9.IsWhole) (arg10 : Memref sig .tc .vmem S6256x128 .f32) (harg10 : arg10.IsWhole)
    (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (Q : PUnit → sProp 𝕄) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6)
        ∗ (∃ g, (arg7.view.loc (c : Thread nD τ) ↦{fullShare} g) ∗ ⌜arg7.view.read (Elt Ideal) g = outP (arg1.view.read (Elt Ideal) f1) (arg2.view.read (Elt Ideal) f2) (arg3.view.read (Elt Ideal) f3) (arg4.view.read (Elt Ideal) f4) (arg5.view.read (Elt Ideal) f5) (arg6.view.read (Elt Ideal) f6)⌝)
        ∗ (∃ g, (arg8.view.loc (c : Thread nD τ) ↦{fullShare} g) ∗ ⌜arg8.view.read (Elt Ideal) g = outL (arg1.view.read (Elt Ideal) f1) (arg2.view.read (Elt Ideal) f2) (arg3.view.read (Elt Ideal) f3) (arg4.view.read (Elt Ideal) f4) (arg5.view.read (Elt Ideal) f5) (arg6.view.read (Elt Ideal) f6)⌝)
        ∗ (∃ g, (arg9.view.loc (c : Thread nD τ) ↦{fullShare} g) ∗ ⌜arg9.view.read (Elt Ideal) g = outN (arg1.view.read (Elt Ideal) f1) (arg2.view.read (Elt Ideal) f2) (arg3.view.read (Elt Ideal) f3) (arg4.view.read (Elt Ideal) f4) (arg5.view.read (Elt Ideal) f5) (arg6.view.read (Elt Ideal) f6)⌝)
        ∗ (∃ g, (arg10.view.loc (c : Thread nD τ) ↦{fullShare} g))) -∗ Q ⟨⟩))
    ⊢ wp frame (wpE (defs₀ (F := Ideal)) Variants.none c none) Set.univ
        (cc0__row_kernel i arg1 harg1 arg2 harg2 arg3 harg3 arg4 harg4 arg5 harg5 arg6 harg6 arg7 harg7 arg8 harg8 arg9 harg9 arg10 harg10) Q := by
  iintro ⟨H1, H2, H3, H4, H5, H6, H7, H8, H9, H10, Hk⟩
  have h0 : Loop c arg10 (View.readAt (Elt Ideal) arg1.view (Rect.unit ![0, 0] S8x1.size inb_S8x1_S8x1_0_0).toLoadRect f1)
      (View.readAt (Elt Ideal) arg6.view (Rect.unit ![0, 0, 0] S8x782x128.size inb_S8x782x128_S8x782x128_0_0_0).toLoadRect f6) 0
      (arg10.view.writes (Elt Ideal) arg10.view.junk [⟨Rect.unit (s := S6256x128) ![0, 0] S6256x128.size inb_S6256x128_S6256x128_0_0,
        k0_pay62 (View.readAt (Elt Ideal) arg1.view (Rect.unit ![0, 0] S8x1.size inb_S8x1_S8x1_0_0).toLoadRect f1)
          (View.readAt (Elt Ideal) arg6.view (Rect.unit ![0, 0, 0] S8x782x128.size inb_S8x782x128_S8x782x128_0_0_0).toLoadRect f6)⟩])
      (k0_pay63 (View.readAt (Elt Ideal) arg1.view (Rect.unit ![0, 0] S8x1.size inb_S8x1_S8x1_0_0).toLoadRect f1)
        (View.readAt (Elt Ideal) arg6.view (Rect.unit ![0, 0, 0] S8x782x128.size inb_S8x782x128_S8x782x128_0_0_0).toLoadRect f6),
        k0_pay64 (F := Ideal), k0_pay65) := loop_start c arg10 _ _ _
  sl_exec
  rename_i acc
  have hacc := loop_end hL1
  clear hL1
  generalize acc.1 = cm at hacc
  subst hacc
  have e68 : ∀ V I, kernelRun.sl.v68 c arg2 arg3 arg4 f2 f3 f4 (cm, V, I) = k0_pay74 kNo V (k0_pay71 V) (k0_pay73 V
      (arg3.view.readAt (Elt Ideal) (Rect.unit ![0, 0] S8x1.size inb_S8x1_S8x1_0_0).toLoadRect f3))
      (arg2.view.readAt (Elt Ideal) (Rect.unit ![0, 0] S8x1.size inb_S8x1_S8x1_0_0).toLoadRect f2)
      (arg4.view.readAt (Elt Ideal) (Rect.unit ![0, 0] S8x1.size inb_S8x1_S8x1_0_0).toLoadRect f4) := fun V I => by
    delta kernelRun.sl.v68 kernelRun.sl.v67 kernelRun.sl.v63 k0_pay74
    refine congrArg₂ andi (congrArg₂ andi ?_ (congrArg₂ ori ?_ ?_)) ?_
    · rfl
    · rfl
    · rfl
    · rfl
  have e72 : ∀ V I, kernelRun.sl.v72 c arg2 arg3 arg4 f2 f3 f4 (cm, V, I) = k0_pay75 kNo V (k0_pay71 V) (k0_pay73 V
      (arg3.view.readAt (Elt Ideal) (Rect.unit ![0, 0] S8x1.size inb_S8x1_S8x1_0_0).toLoadRect f3))
      (arg2.view.readAt (Elt Ideal) (Rect.unit ![0, 0] S8x1.size inb_S8x1_S8x1_0_0).toLoadRect f2)
      (arg4.view.readAt (Elt Ideal) (Rect.unit ![0, 0] S8x1.size inb_S8x1_S8x1_0_0).toLoadRect f4) := fun V I => by
    delta kernelRun.sl.v72 kernelRun.sl.v71 kernelRun.sl.v70
    rw [e68]
    rfl
  have e79 : ∀ V I, kernelRun.sl.v79 c arg2 arg3 arg4 f2 f3 f4 (cm, V, I) = k0_pay76 kNo V I (k0_pay71 V) (k0_pay73 V
      (arg3.view.readAt (Elt Ideal) (Rect.unit ![0, 0] S8x1.size inb_S8x1_S8x1_0_0).toLoadRect f3))
      (arg2.view.readAt (Elt Ideal) (Rect.unit ![0, 0] S8x1.size inb_S8x1_S8x1_0_0).toLoadRect f2)
      (arg4.view.readAt (Elt Ideal) (Rect.unit ![0, 0] S8x1.size inb_S8x1_S8x1_0_0).toLoadRect f4) := fun V I => by
    delta kernelRun.sl.v79 kernelRun.sl.v78 kernelRun.sl.v77 kernelRun.sl.v75 kernelRun.sl.v74 kernelRun.sl.v73
    rw [e68, e72]
    rfl
  have e83 : ∀ V I, kernelRun.sl.v83 c arg2 arg3 arg4 f2 f3 f4 (cm, V, I) = k0_pay77 kNo V (k0_pay71 V) (k0_pay73 V
      (arg3.view.readAt (Elt Ideal) (Rect.unit ![0, 0] S8x1.size inb_S8x1_S8x1_0_0).toLoadRect f3))
      (arg2.view.readAt (Elt Ideal) (Rect.unit ![0, 0] S8x1.size inb_S8x1_S8x1_0_0).toLoadRect f2)
      (arg4.view.readAt (Elt Ideal) (Rect.unit ![0, 0] S8x1.size inb_S8x1_S8x1_0_0).toLoadRect f4) := fun V I => by
    delta kernelRun.sl.v83 kernelRun.sl.v82 kernelRun.sl.v81 kernelRun.sl.v80
    rw [e68]
    rfl
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    rw [← read2 arg1 f1, ← read2 arg2 f2, ← read2 arg3 f3, ← read2 arg4 f4, ← read2 arg5 f5, ← read3 arg6 f6]
    refine (written3 arg7 f7 _).trans ?_
    delta kernelRun.sl.r_6 kernelRun.sl.r_7 kernelRun.sl.r_8 kernelRun.sl.r_9 kernelRun.sl.r_11 kernelRun.sl.r_12 kernelRun.sl.r_13 outP fF i0F p0F p1F cntF vmF imF thrF
    delta kernelRun.sl.r kernelRun.sl.r_3 kernelRun.sl.r_4
    rw [e72, e79, e83]
  isplitl [H8]
  · iexists _; isplitl [H8]; · iexact H8
    ipureintro
    rw [← read2 arg1 f1, ← read2 arg2 f2, ← read2 arg3 f3, ← read2 arg4 f4, ← read2 arg5 f5, ← read3 arg6 f6]
    refine (written3 arg8 f8 _).trans ?_
    delta kernelRun.sl.r_6 kernelRun.sl.r_7 kernelRun.sl.r_8 kernelRun.sl.r_9 kernelRun.sl.r_11 kernelRun.sl.r_12 kernelRun.sl.r_13 outL fF i0F p0F p1F cntF vmF imF thrF
    delta kernelRun.sl.r kernelRun.sl.r_3 kernelRun.sl.r_4
    rw [e72, e79, e83]
  isplitl [H9]
  · iexists _; isplitl [H9]; · iexact H9
    ipureintro
    rw [← read2 arg1 f1, ← read2 arg2 f2, ← read2 arg3 f3, ← read2 arg4 f4, ← read2 arg5 f5, ← read3 arg6 f6]
    refine (written2 arg9 f9 _).trans ?_
    delta kernelRun.sl.r_9 kernelRun.sl.r_10 kernelRun.sl.r_11 kernelRun.sl.r_12 kernelRun.sl.r_13 outN i1F i0F p0F p1F cntF vmF imF thrF
    delta kernelRun.sl.r kernelRun.sl.r_3 kernelRun.sl.r_4
    rw [e72, e79, e83]
  iexists _; iexact H10

end Cert.KernelIdeal.Trip
end
-- ==== Proof.Launched.lean ====
/-
  The launch: the body at every grid point, and what the run leaves in every array.
-/
module

public import proofs.«01_k».proof.Proof.Body
public import proofs.«01_k».proof.Proof.Gen.KernelIdeal.Frame
public import Idealize.ShloMosaic.Lib.Pipeline.FrameSuffix
public import Idealize.ShloMosaic.Lib.Pipeline.Value

@[expose] public section

set_option maxRecDepth 16384

noncomputable section

namespace Cert.KernelIdeal.Trip

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem owns_iff {c : Dev nD} {sp : Space} {sh : Shape} {e : EltTy} {M : Memref sig .tc sp sh e} (hw : M.IsWhole) (X : sh.Idx → Elt Ideal e) :
    (owns (c : Thread nD τ) M fullShare X : sProp 𝕄) = iprop(∃ f, ⌜M.view.read (Elt Ideal) f = X⌝ ∗ (M.view.loc (c : Thread nD τ) ↦{fullShare} f)) := by
  obtain ⟨b, hsp, hsh, he, h⟩ := hw
  subst hsp hsh he
  cases h
  unfold owns
  simp only [Memref.whole, View.set_whole]

/-- The body, on buffers owned at contents. -/
theorem kernelOwns (c : Dev nD) (i : grid0.Coords) (arg1 : Memref sig .tc .vmem S8x1 .f32) (harg1 : arg1.IsWhole) (arg2 : Memref sig .tc .vmem S8x1 .f32) (harg2 : arg2.IsWhole) (arg3 : Memref sig .tc .vmem S8x1 .i32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x782x128 .f32) (harg6 : arg6.IsWhole) (arg7 : Memref sig .tc .vmem S8x782x128 .f32) (harg7 : arg7.IsWhole) (arg8 : Memref sig .tc .vmem S8x782x128 .f32) (harg8 : arg8.IsWhole) (arg9 : Memref sig .tc .vmem S8x1 .i32) (harg9 : arg9.IsWhole) (arg10 : Memref sig .tc .vmem S6256x128 .f32) (harg10 : arg10.IsWhole)
    (x1 : Vec Ideal S8x1 .f32) (x2 : Vec Ideal S8x1 .f32) (x3 : Vec Ideal S8x1 .i32) (x4 : Vec Ideal S8x1 .f32) (x5 : Vec Ideal S8x1 .i32) (x6 : Vec Ideal S8x782x128 .f32) (x7 : Vec Ideal S8x782x128 .f32) (x8 : Vec Ideal S8x782x128 .f32) (x9 : Vec Ideal S8x1 .i32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ g, (arg10.view.loc (c : Thread nD τ) ↦{fullShare} g)) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outP x1 x2 x3 x4 x5 x6) ∗ owns (c : Thread nD τ) arg8 fullShare (outL x1 x2 x3 x4 x5 x6) ∗ owns (c : Thread nD τ) arg9 fullShare (outN x1 x2 x3 x4 x5 x6) ∗ (∃ g, (arg10.view.loc (c : Thread nD τ) ↦{fullShare} g))) -∗ Q ⟨⟩))
    ⊢ wp frame (wpE (defs₀ (F := Ideal)) Variants.none c none) Set.univ
        (cc0__row_kernel i arg1 harg1 arg2 harg2 arg3 harg3 arg4 harg4 arg5 harg5 arg6 harg6 arg7 harg7 arg8 harg8 arg9 harg9 arg10 harg10) Q := by
  simp only [owns_iff harg1, owns_iff harg2, owns_iff harg3, owns_iff harg4, owns_iff harg5, owns_iff harg6, owns_iff harg7, owns_iff harg8, owns_iff harg9]
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, H10⟩, Hk⟩
  subst hf1 hf2 hf3 hf4 hf5 hf6 hf7 hf8 hf9
  iapply (kernelRun c i arg1 harg1 arg2 harg2 arg3 harg3 arg4 harg4 arg5 harg5 arg6 harg6 arg7 harg7 arg8 harg8 arg9 harg9 arg10 harg10 f1 f2 f3 f4 f5 f6 f7 f8 f9 f10 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, ⟨%g7, H7, %e7⟩, ⟨%g8, H8, %e8⟩, ⟨%g9, H9, %e9⟩, H10⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  iexact H10

variable (m : (ℓ : Loc nD τ sig) → Buf (Elt Ideal) ℓ) (ρ : Dev nD → PrngReg)

/-- The six blocks a grid point reads. -/
abbrev blkT (c : Dev nD) (t : Fin cfg0.N) : Vec Ideal S8x1 .f32 := iblk m c 0 t
abbrev blkP (c : Dev nD) (t : Fin cfg0.N) : Vec Ideal S8x1 .f32 := iblk m c 1 t
abbrev blkK (c : Dev nD) (t : Fin cfg0.N) : Vec Ideal S8x1 .i32 := iblk m c 2 t
abbrev blkM (c : Dev nD) (t : Fin cfg0.N) : Vec Ideal S8x1 .f32 := iblk m c 3 t
abbrev blkE (c : Dev nD) (t : Fin cfg0.N) : Vec Ideal S8x1 .i32 := iblk m c 4 t
abbrev blkX (c : Dev nD) (t : Fin cfg0.N) : Vec Ideal S8x782x128 .f32 := iblk m c 5 t

/-- What each window's buffer holds after the body. -/
def afterOf (c : Dev nD) (w : Fin cfg0.W) (t : Fin cfg0.N) : (cfg0.win w).block.Idx → Elt Ideal (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => outP (blkT m c t) (blkP m c t) (blkK m c t) (blkM m c t) (blkE m c t) (blkX m c t)
  | ⟨7, _⟩ => outL (blkT m c t) (blkP m c t) (blkK m c t) (blkM m c t) (blkE m c t) (blkX m c t)
  | ⟨8, _⟩ => outN (blkT m c t) (blkP m c t) (blkK m c t) (blkM m c t) (blkE m c t) (blkX m c t)

def dats (_ : Fin 1) (c : Dev nD) : Dat τ (Elt Ideal) Unit ℕ (UR sig nD τ) ℕ cfg0 c where
  A w := V m c (Pipeline.arrRef spec0 w)
  after w t := afterOf m c w t
  Φ _ := Pipeline.ΦA spec0 c
  q _ := fullShare
  owed _ := 0

theorem A_eq (c : Dev nD) (w : Fin cfg0.W) : (dats m 0 c).A w = V m c (Pipeline.arrRef spec0 w) := by
  dsimp only [dats]

theorem body_obligation (c : Dev nD) : BodyObligation (dats m 0 c) (defs₀ (F := Ideal)) Variants.none () Set.univ := fun t => by
  rw [bigSep_W0, bigSep_W0]
  rw [show (dats m 0 c).Φ t.castSucc = Pipeline.ΦA spec0 c from rfl, show (dats m 0 c).Φ t.succ = Pipeline.ΦA spec0 c from rfl]
  unfold Pipeline.ΦA Dat.owesAt Pipeline.owesWithin; rw [scopedRest0_eq]
  rw [show (dats m 0 c).owed t.castSucc = 0 from rfl, show (dats m 0 c).owed t.succ = 0 from rfl]
  iintro ⟨⟨Hs, Hp⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0_of m (dats m 0 c) (A_eq m c 0) (fun _ => rfl)]
  rw [before0_1_of m (dats m 0 c) (A_eq m c 1) (fun _ => rfl)]
  rw [before0_2_of m (dats m 0 c) (A_eq m c 2) (fun _ => rfl)]
  rw [before0_3_of m (dats m 0 c) (A_eq m c 3) (fun _ => rfl)]
  rw [before0_4_of m (dats m 0 c) (A_eq m c 4) (fun _ => rfl)]
  rw [before0_5_of m (dats m 0 c) (A_eq m c 5) (fun _ => rfl)]
  iapply (kernelOwns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _)
    (blkT m c t) (blkP m c t) (blkK m c t) (blkM m c t) (blkE m c t) (blkX m c t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hs]; · iexact Hs
  iintro ⟨H0, H1, H2, H3, H4, H5, H6, H7, H8, Hs⟩
  isplitl [Hs Hp]
  · isplitl [Hs]; · iexact Hs
    iexact Hp
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem run_frame : θ_run defs (onTc (τ := τ) (main (F := Ideal))) (s₀ m ρ) (Pipeline.FramePost cfgs (dats m) 0 (Pipeline.afterTail₀ cfgs (dats m) 0 (V0 m) [hostOps1])) := by
  refine Pipeline.θ_run_frame_around cfgs (dats m) 0 launch0 defs₀ Variants.none m ρ main ?_ ?_ ?_ (V0 m) [hostOps1] sfx_sub sfx_fresh sfx_keeps (hmain m Variants.none) ?_ ?_
  · exact fun c => (body_obligation m c).loose
  · exact fun c w => (dats m 0 c).share_full (fun _ => rfl) w
  · exact fun c t => rfl
  · exact fun c w => A_eq m c w
  · exact fun c t => rfl

end Cert.KernelIdeal.Trip
end
-- ==== Proof.Arrays.lean ====
/-
  What the kernel's program leaves in its three results: row R comes from row R % 8 of grid point R / 8's block.
-/
module

public import proofs.«01_k».proof.Proof.Launched
public import Idealize.ShloMosaic.Lib.StableHlo.Run

@[expose] public section

set_option maxRecDepth 16384

noncomputable section

namespace Cert.KernelIdeal.Trip

open Cert.KernelIdeal Cert.KernelIdeal.Gen Cert.Rows
open Idealize.ShloMosaic.ValueIdx hiding ix1 ix2 ix3
open Idealize.ShloMosaic Idealize.ShloMosaic.TcCoe Idealize.ShloMosaic.Tactic
open Idealize.SL Idealize.SL.Sem Idealize.ShloMosaic.StableHlo

variable (m : (ℓ : Loc nD τ sig) → Buf (Elt Ideal) ℓ) (ρ : Dev nD → PrngReg) (c : Dev nD)

/-- The grid point and the block's row of row `R`. -/
def ptOf (R : Fin 64) : Fin cfg0.N := ⟨R.val / 8, by rw [show cfg0.N = 8 from N_0]; omega⟩
def inBlk (R : Fin 64) : Fin 8 := ⟨R.val % 8, by omega⟩

/-- The three arrays the region leaves. -/
def arrP : S64x782x128.Idx → EReal := fun i =>
  outP (blkT m c (ptOf (i 0))) (blkP m c (ptOf (i 0))) (blkK m c (ptOf (i 0))) (blkM m c (ptOf (i 0))) (blkE m c (ptOf (i 0))) (blkX m c (ptOf (i 0)))
    (ix3 (inBlk (i 0)) (i 1) (i 2))
def arrL : S64x782x128.Idx → EReal := fun i =>
  outL (blkT m c (ptOf (i 0))) (blkP m c (ptOf (i 0))) (blkK m c (ptOf (i 0))) (blkM m c (ptOf (i 0))) (blkE m c (ptOf (i 0))) (blkX m c (ptOf (i 0)))
    (ix3 (inBlk (i 0)) (i 1) (i 2))
def arrN : S64x1.Idx → BitVec 32 := fun i =>
  outN (blkT m c (ptOf (i 0))) (blkP m c (ptOf (i 0))) (blkK m c (ptOf (i 0))) (blkM m c (ptOf (i 0))) (blkE m c (ptOf (i 0))) (blkX m c (ptOf (i 0)))
    (ix2 (inBlk (i 0)) (i 1))

theorem idx6 : ∀ t : Fin grid0.N, win0_6.index t 0 = t.val ∧ win0_6.index t 1 = 0 ∧ win0_6.index t 2 = 0 := by decide +kernel
theorem idx7 : ∀ t : Fin grid0.N, win0_7.index t 0 = t.val ∧ win0_7.index t 1 = 0 ∧ win0_7.index t 2 = 0 := by decide +kernel
theorem idx8 : ∀ t : Fin grid0.N, win0_8.index t 0 = t.val ∧ win0_8.index t 1 = 0 := by decide +kernel
theorem xs6 : ∀ t : Fin grid0.N, win0_6.xsize (grid0.coords t) 0 = 8 ∧ win0_6.xsize (grid0.coords t) 1 = 782 ∧ win0_6.xsize (grid0.coords t) 2 = 128 := by decide +kernel
theorem xs7 : ∀ t : Fin grid0.N, win0_7.xsize (grid0.coords t) 0 = 8 ∧ win0_7.xsize (grid0.coords t) 1 = 782 ∧ win0_7.xsize (grid0.coords t) 2 = 128 := by decide +kernel
theorem xs8 : ∀ t : Fin grid0.N, win0_8.xsize (grid0.coords t) 0 = 8 ∧ win0_8.xsize (grid0.coords t) 1 = 1 := by decide +kernel

theorem pt_eq (t : Fin cfg0.N) (R : Fin 64) (r : Fin 8) (h : R.val = t.val * 8 + 1 * r.val) : ptOf R = t ∧ inBlk R = r :=
  ⟨Fin.ext (by show R.val / 8 = t.val; omega), Fin.ext (by show R.val % 8 = r.val; omega)⟩

theorem flushed6 (t : Fin cfg0.N) : (dats m 0 c).flushed 6 t = ((cfg0.win 6).blk t).view.read (Elt Ideal) (arrP m c) := by
  funext j
  rw [View.read_apply]
  obtain ⟨i0, i1, i2⟩ := idx6 t
  show outP (blkT m c t) (blkP m c t) (blkK m c t) (blkM m c t) (blkE m c t) (blkX m c t) ((cfg0.win 6).xinj (cfg0.grid.coords t) j) = arrP m c (((cfg0.win 6).blk t).view.emb j)
  have h0 : ((((cfg0.win 6).blk t).view.emb j) 0).val = t.val * 8 + 1 * (j 0).val := by show win0_6.index t 0 * 8 + 1 * (j 0).val = _; rw [i0]
  have h1 : ((((cfg0.win 6).blk t).view.emb j) 1).val = (j 1).val := by show win0_6.index t 1 * 782 + 1 * (j 1).val = _; rw [i1]; omega
  have h2 : ((((cfg0.win 6).blk t).view.emb j) 2).val = (j 2).val := by show win0_6.index t 2 * 128 + 1 * (j 2).val = _; rw [i2]; omega
  generalize ((cfg0.win 6).blk t).view.emb j = i at *
  obtain ⟨e1, e2⟩ := pt_eq t (i 0) ⟨(j 0).val, by have := (j 0).isLt; have h := (xs6 t).1; exact lt_of_lt_of_eq this h⟩ h0
  unfold arrP
  rw [e1, e2]
  refine congrArg _ (funext fun a => Fin.ext ?_)
  match a with
  | ⟨0, _⟩ => rfl
  | ⟨1, _⟩ => exact h1.symm
  | ⟨2, _⟩ => exact h2.symm

theorem final6 : (dats m 0 c).arrAt 6 cfg0.N = arrP m c :=
  (dats m 0 c).arrAt_eq_of_cover 6 (arrP m c) (fun t _ => flushed6 m c t) fun i =>
    ⟨ptOf (i 0), flush0_6 _, by
      show i ∈ ((View.whole main_v7_0).slice (win0_6.rect (ptOf (i 0)))).set
      rw [View.set_slice_whole, Rect.mem_set_unit]
      intro a
      have hx := xs6 (ptOf (i 0))
      have hi := idx6 (ptOf (i 0))
      have h0 : (i 0 : Nat) < 64 := (i 0).isLt
      have hp : (ptOf (i 0)).val = (i 0).val / 8 := rfl
      match a with
      | ⟨0, _⟩ => show win0_6.index (ptOf (i 0)) 0 * 8 ≤ (i 0 : Nat) ∧ (i 0 : Nat) < win0_6.index (ptOf (i 0)) 0 * 8 + win0_6.xsize (grid0.coords (ptOf (i 0))) 0
                  rw [hx.1, hi.1, hp]; omega
      | ⟨1, _⟩ => have h1 : (i 1 : Nat) < 782 := (i 1).isLt
                  show win0_6.index (ptOf (i 0)) 1 * 782 ≤ (i 1 : Nat) ∧ (i 1 : Nat) < win0_6.index (ptOf (i 0)) 1 * 782 + win0_6.xsize (grid0.coords (ptOf (i 0))) 1
                  rw [hx.2.1, hi.2.1]; omega
      | ⟨2, _⟩ => have h2 : (i 2 : Nat) < 128 := (i 2).isLt
                  show win0_6.index (ptOf (i 0)) 2 * 128 ≤ (i 2 : Nat) ∧ (i 2 : Nat) < win0_6.index (ptOf (i 0)) 2 * 128 + win0_6.xsize (grid0.coords (ptOf (i 0))) 2
                  rw [hx.2.2, hi.2.2]; omega⟩

theorem flushed7 (t : Fin cfg0.N) : (dats m 0 c).flushed 7 t = ((cfg0.win 7).blk t).view.read (Elt Ideal) (arrL m c) := by
  funext j
  rw [View.read_apply]
  obtain ⟨i0, i1, i2⟩ := idx7 t
  show outL (blkT m c t) (blkP m c t) (blkK m c t) (blkM m c t) (blkE m c t) (blkX m c t) ((cfg0.win 7).xinj (cfg0.grid.coords t) j) = arrL m c (((cfg0.win 7).blk t).view.emb j)
  have h0 : ((((cfg0.win 7).blk t).view.emb j) 0).val = t.val * 8 + 1 * (j 0).val := by show win0_7.index t 0 * 8 + 1 * (j 0).val = _; rw [i0]
  have h1 : ((((cfg0.win 7).blk t).view.emb j) 1).val = (j 1).val := by show win0_7.index t 1 * 782 + 1 * (j 1).val = _; rw [i1]; omega
  have h2 : ((((cfg0.win 7).blk t).view.emb j) 2).val = (j 2).val := by show win0_7.index t 2 * 128 + 1 * (j 2).val = _; rw [i2]; omega
  generalize ((cfg0.win 7).blk t).view.emb j = i at *
  obtain ⟨e1, e2⟩ := pt_eq t (i 0) ⟨(j 0).val, by have := (j 0).isLt; have h := (xs7 t).1; exact lt_of_lt_of_eq this h⟩ h0
  unfold arrL
  rw [e1, e2]
  refine congrArg _ (funext fun a => Fin.ext ?_)
  match a with
  | ⟨0, _⟩ => rfl
  | ⟨1, _⟩ => exact h1.symm
  | ⟨2, _⟩ => exact h2.symm

theorem final7 : (dats m 0 c).arrAt 7 cfg0.N = arrL m c :=
  (dats m 0 c).arrAt_eq_of_cover 7 (arrL m c) (fun t _ => flushed7 m c t) fun i =>
    ⟨ptOf (i 0), flush0_7 _, by
      show i ∈ ((View.whole main_v7_1).slice (win0_7.rect (ptOf (i 0)))).set
      rw [View.set_slice_whole, Rect.mem_set_unit]
      intro a
      have hx := xs7 (ptOf (i 0))
      have hi := idx7 (ptOf (i 0))
      have h0 : (i 0 : Nat) < 64 := (i 0).isLt
      have hp : (ptOf (i 0)).val = (i 0).val / 8 := rfl
      match a with
      | ⟨0, _⟩ => show win0_7.index (ptOf (i 0)) 0 * 8 ≤ (i 0 : Nat) ∧ (i 0 : Nat) < win0_7.index (ptOf (i 0)) 0 * 8 + win0_7.xsize (grid0.coords (ptOf (i 0))) 0
                  rw [hx.1, hi.1, hp]; omega
      | ⟨1, _⟩ => have h1 : (i 1 : Nat) < 782 := (i 1).isLt
                  show win0_7.index (ptOf (i 0)) 1 * 782 ≤ (i 1 : Nat) ∧ (i 1 : Nat) < win0_7.index (ptOf (i 0)) 1 * 782 + win0_7.xsize (grid0.coords (ptOf (i 0))) 1
                  rw [hx.2.1, hi.2.1]; omega
      | ⟨2, _⟩ => have h2 : (i 2 : Nat) < 128 := (i 2).isLt
                  show win0_7.index (ptOf (i 0)) 2 * 128 ≤ (i 2 : Nat) ∧ (i 2 : Nat) < win0_7.index (ptOf (i 0)) 2 * 128 + win0_7.xsize (grid0.coords (ptOf (i 0))) 2
                  rw [hx.2.2, hi.2.2]; omega⟩

theorem flushed8 (t : Fin cfg0.N) : (dats m 0 c).flushed 8 t = ((cfg0.win 8).blk t).view.read (Elt Ideal) (arrN m c) := by
  funext j
  rw [View.read_apply]
  obtain ⟨i0, i1⟩ := idx8 t
  show outN (blkT m c t) (blkP m c t) (blkK m c t) (blkM m c t) (blkE m c t) (blkX m c t) ((cfg0.win 8).xinj (cfg0.grid.coords t) j) = arrN m c (((cfg0.win 8).blk t).view.emb j)
  have h0 : ((((cfg0.win 8).blk t).view.emb j) 0).val = t.val * 8 + 1 * (j 0).val := by show win0_8.index t 0 * 8 + 1 * (j 0).val = _; rw [i0]
  have h1 : ((((cfg0.win 8).blk t).view.emb j) 1).val = (j 1).val := by show win0_8.index t 1 * 1 + 1 * (j 1).val = _; rw [i1]; omega
  generalize ((cfg0.win 8).blk t).view.emb j = i at *
  obtain ⟨e1, e2⟩ := pt_eq t (i 0) ⟨(j 0).val, by have := (j 0).isLt; have h := (xs8 t).1; exact lt_of_lt_of_eq this h⟩ h0
  unfold arrN
  rw [e1, e2]
  refine congrArg _ (funext fun a => Fin.ext ?_)
  match a with
  | ⟨0, _⟩ => rfl
  | ⟨1, _⟩ => exact h1.symm

theorem final8 : (dats m 0 c).arrAt 8 cfg0.N = arrN m c :=
  (dats m 0 c).arrAt_eq_of_cover 8 (arrN m c) (fun t _ => flushed8 m c t) fun i =>
    ⟨ptOf (i 0), flush0_8 _, by
      show i ∈ ((View.whole main_v7_2).slice (win0_8.rect (ptOf (i 0)))).set
      rw [View.set_slice_whole, Rect.mem_set_unit]
      intro a
      have hx := xs8 (ptOf (i 0))
      have hi := idx8 (ptOf (i 0))
      have h0 : (i 0 : Nat) < 64 := (i 0).isLt
      have hp : (ptOf (i 0)).val = (i 0).val / 8 := rfl
      match a with
      | ⟨0, _⟩ => show win0_8.index (ptOf (i 0)) 0 * 8 ≤ (i 0 : Nat) ∧ (i 0 : Nat) < win0_8.index (ptOf (i 0)) 0 * 8 + win0_8.xsize (grid0.coords (ptOf (i 0))) 0
                  rw [hx.1, hi.1, hp]; omega
      | ⟨1, _⟩ => have h1 : (i 1 : Nat) < 1 := (i 1).isLt
                  show win0_8.index (ptOf (i 0)) 1 * 1 ≤ (i 1 : Nat) ∧ (i 1 : Nat) < win0_8.index (ptOf (i 0)) 1 * 1 + win0_8.xsize (grid0.coords (ptOf (i 0))) 1
                  rw [hx.2, hi.2]; omega⟩

/-! ### The host's operations after the region -/

abbrev tailOf (c : Dev nD) : (b : Ref sig .tc) → Buf (Elt Ideal) ((c : Thread nD τ).loc b) := Pipeline.afterTail₀ cfgs (dats m) 0 (V0 m) [hostOps1] c

theorem arr_inj : Function.Injective (Pipeline.arrRef spec0) := by decide

theorem tail9 : tailOf m c main_v9 = extractStridedSlice S64x100000 ![0, 0] (shapeCast S64x100096 (arrP m c) shapeCasts_S64x782x128_S64x100096) slices_S64x100096_S64x100000_0_0 := by
  have h := Pipeline.withArrays_arr spec0 arr_inj c (V0 m c) (fun w => (dats m 0 c).arrAt w cfg0.N) 6
  rw [final6 m c] at h
  unfold tailOf Pipeline.afterTail₀
  simp only [List.flatten_cons, List.flatten_nil, List.append_nil, hostOps1]
  generalize hW : Pipeline.withArrays (cfgs 0).spec c (V0 m c) (fun w => (dats m 0 c).arrAt w (cfgs 0).N) = W
  have h' : W (Proc.devRef .tc main_v7_0) = arrP m c := by rw [← hW]; exact h
  after_results
  rw [h']
  rfl

theorem tail11 : tailOf m c main_v11 = extractStridedSlice S64x100000 ![0, 0] (shapeCast S64x100096 (arrL m c) shapeCasts_S64x782x128_S64x100096) slices_S64x100096_S64x100000_0_0 := by
  have h := Pipeline.withArrays_arr spec0 arr_inj c (V0 m c) (fun w => (dats m 0 c).arrAt w cfg0.N) 7
  rw [final7 m c] at h
  unfold tailOf Pipeline.afterTail₀
  simp only [List.flatten_cons, List.flatten_nil, List.append_nil, hostOps1]
  generalize hW : Pipeline.withArrays (cfgs 0).spec c (V0 m c) (fun w => (dats m 0 c).arrAt w (cfgs 0).N) = W
  have h' : W (Proc.devRef .tc main_v7_1) = arrL m c := by rw [← hW]; exact h
  after_results
  rw [h']
  rfl

theorem tail12 : tailOf m c main_v12 = shapeCast S64 (arrN m c) shapeCasts_S64x1_S64 := by
  have h := Pipeline.withArrays_arr spec0 arr_inj c (V0 m c) (fun w => (dats m 0 c).arrAt w cfg0.N) 8
  rw [final8 m c] at h
  unfold tailOf Pipeline.afterTail₀
  simp only [List.flatten_cons, List.flatten_nil, List.append_nil, hostOps1]
  generalize hW : Pipeline.withArrays (cfgs 0).spec c (V0 m c) (fun w => (dats m 0 c).arrAt w (cfgs 0).N) = W
  have h' : W (Proc.devRef .tc main_v7_2) = arrN m c := by rw [← hW]; exact h
  after_results
  rw [h']
  rfl

/-! ### The host's operations before the region -/

theorem V_v1 : V m c main_v1 = shapeCast S64x782x128 (pad S64x100096 ![0, 0] ![0, 96] ![0, 0] (m ((c : Thread nD τ).loc main_arg0)) (constant (F := Ideal) S_ .f32 0xF149F2CA#32) pads_S64x100000_S64x100096_000_0960 h_S_) shapeCasts_S64x100096_S64x782x128 := by
  unfold V V0
  simp only [List.flatten_cons, List.flatten_nil, List.append_nil, hostOps0, hostOps0_1, hostOps0_2, List.cons_append, List.nil_append, TRef.binary, TRef.unary, TRef.toBuf, TRef.ofBuf, cast_eq]
  after_results
  rfl
theorem V_v2 : V m c main_v2 = shapeCast S64x1 (m ((c : Thread nD τ).loc main_arg1)) shapeCasts_S64_S64x1 := by
  unfold V V0
  simp only [List.flatten_cons, List.flatten_nil, List.append_nil, hostOps0, hostOps0_1, hostOps0_2, List.cons_append, List.nil_append, TRef.binary, TRef.unary, TRef.toBuf, TRef.ofBuf, cast_eq]
  after_results
  rfl
theorem V_v3 : V m c main_v3 = shapeCast S64x1 (m ((c : Thread nD τ).loc main_arg2)) shapeCasts_S64_S64x1 := by
  unfold V V0
  simp only [List.flatten_cons, List.flatten_nil, List.append_nil, hostOps0, hostOps0_1, hostOps0_2, List.cons_append, List.nil_append, TRef.binary, TRef.unary, TRef.toBuf, TRef.ofBuf, cast_eq]
  after_results
  rfl
theorem V_v4 : V m c main_v4 = shapeCast S64x1 (m ((c : Thread nD τ).loc main_arg3)) shapeCasts_S64_S64x1 := by
  unfold V V0
  simp only [List.flatten_cons, List.flatten_nil, List.append_nil, hostOps0, hostOps0_1, hostOps0_2, List.cons_append, List.nil_append, TRef.binary, TRef.unary, TRef.toBuf, TRef.ofBuf, cast_eq]
  after_results
  rfl
theorem V_v5 : V m c main_v5 = shapeCast S64x1 (m ((c : Thread nD τ).loc main_arg4)) shapeCasts_S64_S64x1 := by
  unfold V V0
  simp only [List.flatten_cons, List.flatten_nil, List.append_nil, hostOps0, hostOps0_1, hostOps0_2, List.cons_append, List.nil_append, TRef.binary, TRef.unary, TRef.toBuf, TRef.ofBuf, cast_eq]
  after_results
  rfl
theorem V_v6 : V m c main_v6 = shapeCast S64x1 (m ((c : Thread nD τ).loc main_arg5)) shapeCasts_S64_S64x1 := by
  unfold V V0
  simp only [List.flatten_cons, List.flatten_nil, List.append_nil, hostOps0, hostOps0_1, hostOps0_2, List.cons_append, List.nil_append, TRef.binary, TRef.unary, TRef.toBuf, TRef.ofBuf, cast_eq]
  after_results
  rfl

/-! ### The blocks, as rows of the arguments -/

theorem ind0 : ∀ t : Fin grid0.N, win0_0.index t 0 = t.val ∧ win0_0.index t 1 = 0 := by decide +kernel
theorem blkT_eq (R : Fin 64) : blkT m c (ptOf R) (ix2 (inBlk R) 0) = m ((c : Thread nD τ).loc main_arg1) (ix1 R) := by
  obtain ⟨i0, i1⟩ := ind0 (ptOf R)
  show iblk m c 0 (ptOf R) (ix2 (inBlk R) 0) = _
  unfold iblk
  rw [View.read_apply]
  show V m c main_v2 _ = _
  rw [V_v2]
  have e : ((cfg0.win 0).blk (ptOf R)).view.emb (ix2 (inBlk R) 0) = (ix2 R 0 : S64x1.Idx) := by
    funext a
    apply Fin.ext
    match a with
    | ⟨0, _⟩ => show win0_0.index (ptOf R) 0 * 8 + 1 * (R.val % 8) = R.val; rw [i0]; show R.val / 8 * 8 + _ = _; omega
    | ⟨1, _⟩ => show win0_0.index (ptOf R) 1 * 1 + 1 * 0 = 0; rw [i1]
  rw [e]
  pointwise

theorem ind1 : ∀ t : Fin grid0.N, win0_1.index t 0 = t.val ∧ win0_1.index t 1 = 0 := by decide +kernel
theorem blkP_eq (R : Fin 64) : blkP m c (ptOf R) (ix2 (inBlk R) 0) = m ((c : Thread nD τ).loc main_arg2) (ix1 R) := by
  obtain ⟨i0, i1⟩ := ind1 (ptOf R)
  show iblk m c 1 (ptOf R) (ix2 (inBlk R) 0) = _
  unfold iblk
  rw [View.read_apply]
  show V m c main_v3 _ = _
  rw [V_v3]
  have e : ((cfg0.win 1).blk (ptOf R)).view.emb (ix2 (inBlk R) 0) = (ix2 R 0 : S64x1.Idx) := by
    funext a
    apply Fin.ext
    match a with
    | ⟨0, _⟩ => show win0_1.index (ptOf R) 0 * 8 + 1 * (R.val % 8) = R.val; rw [i0]; show R.val / 8 * 8 + _ = _; omega
    | ⟨1, _⟩ => show win0_1.index (ptOf R) 1 * 1 + 1 * 0 = 0; rw [i1]
  rw [e]
  pointwise

theorem ind2 : ∀ t : Fin grid0.N, win0_2.index t 0 = t.val ∧ win0_2.index t 1 = 0 := by decide +kernel
theorem blkK_eq (R : Fin 64) : blkK m c (ptOf R) (ix2 (inBlk R) 0) = m ((c : Thread nD τ).loc main_arg3) (ix1 R) := by
  obtain ⟨i0, i1⟩ := ind2 (ptOf R)
  show iblk m c 2 (ptOf R) (ix2 (inBlk R) 0) = _
  unfold iblk
  rw [View.read_apply]
  show V m c main_v4 _ = _
  rw [V_v4]
  have e : ((cfg0.win 2).blk (ptOf R)).view.emb (ix2 (inBlk R) 0) = (ix2 R 0 : S64x1.Idx) := by
    funext a
    apply Fin.ext
    match a with
    | ⟨0, _⟩ => show win0_2.index (ptOf R) 0 * 8 + 1 * (R.val % 8) = R.val; rw [i0]; show R.val / 8 * 8 + _ = _; omega
    | ⟨1, _⟩ => show win0_2.index (ptOf R) 1 * 1 + 1 * 0 = 0; rw [i1]
  rw [e]
  pointwise

theorem ind3 : ∀ t : Fin grid0.N, win0_3.index t 0 = t.val ∧ win0_3.index t 1 = 0 := by decide +kernel
theorem blkM_eq (R : Fin 64) : blkM m c (ptOf R) (ix2 (inBlk R) 0) = m ((c : Thread nD τ).loc main_arg4) (ix1 R) := by
  obtain ⟨i0, i1⟩ := ind3 (ptOf R)
  show iblk m c 3 (ptOf R) (ix2 (inBlk R) 0) = _
  unfold iblk
  rw [View.read_apply]
  show V m c main_v5 _ = _
  rw [V_v5]
  have e : ((cfg0.win 3).blk (ptOf R)).view.emb (ix2 (inBlk R) 0) = (ix2 R 0 : S64x1.Idx) := by
    funext a
    apply Fin.ext
    match a with
    | ⟨0, _⟩ => show win0_3.index (ptOf R) 0 * 8 + 1 * (R.val % 8) = R.val; rw [i0]; show R.val / 8 * 8 + _ = _; omega
    | ⟨1, _⟩ => show win0_3.index (ptOf R) 1 * 1 + 1 * 0 = 0; rw [i1]
  rw [e]
  pointwise

theorem ind4 : ∀ t : Fin grid0.N, win0_4.index t 0 = t.val ∧ win0_4.index t 1 = 0 := by decide +kernel
theorem blkE_eq (R : Fin 64) : blkE m c (ptOf R) (ix2 (inBlk R) 0) = m ((c : Thread nD τ).loc main_arg5) (ix1 R) := by
  obtain ⟨i0, i1⟩ := ind4 (ptOf R)
  show iblk m c 4 (ptOf R) (ix2 (inBlk R) 0) = _
  unfold iblk
  rw [View.read_apply]
  show V m c main_v6 _ = _
  rw [V_v6]
  have e : ((cfg0.win 4).blk (ptOf R)).view.emb (ix2 (inBlk R) 0) = (ix2 R 0 : S64x1.Idx) := by
    funext a
    apply Fin.ext
    match a with
    | ⟨0, _⟩ => show win0_4.index (ptOf R) 0 * 8 + 1 * (R.val % 8) = R.val; rw [i0]; show R.val / 8 * 8 + _ = _; omega
    | ⟨1, _⟩ => show win0_4.index (ptOf R) 1 * 1 + 1 * 0 = 0; rw [i1]
  rw [e]
  pointwise

theorem ind5 : ∀ t : Fin grid0.N, win0_5.index t 0 = t.val ∧ win0_5.index t 1 = 0 ∧ win0_5.index t 2 = 0 := by decide +kernel
theorem blkX_eq (R : Fin 64) (p : Fin 100096) : blkX m c (ptOf R) (ix3 (inBlk R) (chunkOf p) (laneOf p)) =
    pad S64x100096 ![0, 0] ![0, 96] ![0, 0] (m ((c : Thread nD τ).loc main_arg0)) (constant (F := Ideal) S_ .f32 0xF149F2CA#32) pads_S64x100000_S64x100096_000_0960 h_S_ (ix2 R p) := by
  obtain ⟨i0, i1, i2⟩ := ind5 (ptOf R)
  show iblk m c 5 (ptOf R) (ix3 (inBlk R) (chunkOf p) (laneOf p)) = _
  unfold iblk
  rw [View.read_apply]
  show V m c main_v1 _ = _
  rw [V_v1]
  have e : ((cfg0.win 5).blk (ptOf R)).view.emb (ix3 (inBlk R) (chunkOf p) (laneOf p)) = (ix3 R (chunkOf p) (laneOf p) : S64x782x128.Idx) := by
    funext a
    apply Fin.ext
    match a with
    | ⟨0, _⟩ => show win0_5.index (ptOf R) 0 * 8 + 1 * (R.val % 8) = R.val; rw [i0]; show R.val / 8 * 8 + _ = _; omega
    | ⟨1, _⟩ => show win0_5.index (ptOf R) 1 * 782 + 1 * (chunkOf p).val = (chunkOf p).val; rw [i1]; omega
    | ⟨2, _⟩ => show win0_5.index (ptOf R) 2 * 128 + 1 * (laneOf p).val = (laneOf p).val; rw [i2]; omega
  rw [e]
  generalize pad S64x100096 ![0, 0] ![0, 96] ![0, 0] (m ((c : Thread nD τ).loc main_arg0)) (constant (F := Ideal) S_ .f32 0xF149F2CA#32) pads_S64x100000_S64x100096_000_0960 h_S_ = X
  pointwise
  exact congrArg X (congrArg (ix2 R) (Fin.ext (by show p.val / 128 * 128 + p.val % 128 = p.val; omega)))

/-! ### The results, as rows -/

theorem res9 (R : Fin 64) (p : Fin 100000) : tailOf m c main_v9 (ix2 R p) = arrP m c (ix3 R (chunkOf (Fin.castLE (by omega) p)) (laneOf (Fin.castLE (by omega) p))) := by
  rw [tail9]
  generalize arrP m c = A
  pointwise
  rfl
theorem res11 (R : Fin 64) (p : Fin 100000) : tailOf m c main_v11 (ix2 R p) = arrL m c (ix3 R (chunkOf (Fin.castLE (by omega) p)) (laneOf (Fin.castLE (by omega) p))) := by
  rw [tail11]
  generalize arrL m c = A
  pointwise
  rfl
theorem res12 (R : Fin 64) : tailOf m c main_v12 (ix1 R) = arrN m c (ix2 R 0) := by
  rw [tail12]
  generalize arrN m c = A
  pointwise

theorem pad_eq (X : FVec Ideal S64x100000 .f32) (R : Fin 64) (p : Fin 100096) :
    pad S64x100096 ![0, 0] ![0, 96] ![0, 0] X (constant (F := Ideal) S_ .f32 0xF149F2CA#32) pads_S64x100000_S64x100096_000_0960 h_S_ (ix2 R p) =
      if h : p.val < 100000 then X (ix2 R ⟨p.val, h⟩) else Ideal.ofBits .f32 0xF149F2CA#32 := by
  pointwise

end Cert.KernelIdeal.Trip
-- ==== Proof.RefOps.lean ====
/-
  The reference's operations in order: its program is their sequence.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 202 (window `main_part0`). -/
abbrev ops_part0_0 : List (HloOp τ sig (Elt F)) :=
  [ nullary main_cst (constant S_ .f32 0x3C23D70A#32),
    unary main_cst main_v0 (broadcastInDim S64 ![] bcast_S_S64 : (⟨S_, .f32⟩ : BufTy).Contents (Elt F) → (⟨S64, .f32⟩ : BufTy).Contents (Elt F)),
    binary main_arg1 main_v0 main_v1 (maximumf : (⟨S64, .f32⟩ : BufTy).Contents (Elt F) → (⟨S64, .f32⟩ : BufTy).Contents (Elt F) → (⟨S64, .f32⟩ : BufTy).Contents (Elt F)),
    unary main_v1 main_v2 (broadcastInDim S64x1 ![0] bcast_S64_S64x1_0 : (⟨S64, .f32⟩ : BufTy).Contents (Elt F) → (⟨S64x1, .f32⟩ : BufTy).Contents (Elt F)),
    unary main_v2 main_v3 (broadcastInDim S64x100000 ![0, 1] bcast_S64x1_S64x100000_0_1 : (⟨S64x1, .f32⟩ : BufTy).Contents (Elt F) → (⟨S64x100000, .f32⟩ : BufTy).Contents (Elt F)),
    binary main_arg0 main_v3 main_v4 (Host.divf : (⟨S64x100000, .f32⟩ : BufTy).Contents (Elt F) → (⟨S64x100000, .f32⟩ : BufTy).Contents (Elt F) → (⟨S64x100000, .f32⟩ : BufTy).Contents (Elt F)),
    nullary main_v5 (iotaInDim S64x100000 32 1),
    nullary main_v6 (iotaInDim S64x100000 32 1),
    binary main_v4 main_v6 main_v7_0 ((fun x y => (Host.sort2 S64x100000 1 comparator_f32_i32_d1 x y).1) : (⟨S64x100000, .f32⟩ : BufTy).Contents (Elt F) → (⟨S64x100000, .i32⟩ : BufTy).Contents (Elt F) → (⟨S64x100000, .f32⟩ : BufTy).Contents (Elt F)),
    binary main_v4 main_v6 main_v7_1 ((fun x y => (Host.sort2 S64x100000 1 comparator_f32_i32_d1 x y).2) : (⟨S64x100000, .f32⟩ : BufTy).Contents (Elt F) → (⟨S64x100000, .i32⟩ : BufTy).Contents (Elt F) → (⟨S64x100000, .i32⟩ : BufTy).Contents (Elt F)),
    nullary main_v8 (iotaInDim S64x100000 32 1),
    nullary main_c (constantI S_ 32 1#32),
    nullary main_c_0 (constantI S_ 32 100000#32),
    TRef.unary (TRef.of (T := ⟨S_, .i32⟩) main_c) (TRef.of (T := ⟨S_, .i32⟩) main_call0_v0) id,
    TRef.unary (TRef.of (T := ⟨S_, .i32⟩) main_call0_v0) (TRef.of (T := ⟨S64, .i32⟩) main_call0_v1) (broadcastInDim S64 ![] bcast_S_S64),
    TRef.binary (TRef.of (T := ⟨S64, .i32⟩) main_call0_v1) (TRef.of (T := ⟨S64, .i32⟩) main_arg3) (TRef.of (T := ⟨S64, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S64, .i32⟩) main_call0_v4) (broadcastInDim S64 ![] bcast_S_S64),
    TRef.binary (TRef.of (T := ⟨S64, .i32⟩) main_call0_v4) (TRef.of (T := ⟨S64, .i32⟩) main_call0_v2) (TRef.of (T := ⟨S64, .i32⟩) main_v9) minsi,
    nullary main_c_1 (constantI S_ 32 100000#32),
    unary main_c_1 main_v10 (broadcastInDim S64 ![] bcast_S_S64 : (⟨S_, .i32⟩ : BufTy).Contents (Elt F) → (⟨S64, .i32⟩ : BufTy).Contents (Elt F)),
    binary main_v10 main_v9 main_v11 (subi : (⟨S64, .i32⟩ : BufTy).Contents (Elt F) → (⟨S64, .i32⟩ : BufTy).Contents (Elt F) → (⟨S64, .i32⟩ : BufTy).Contents (Elt F)),
    unary main_v11 main_v12 (broadcastInDim S64x1 ![0] bcast_S64_S64x1_0 : (⟨S64, .i32⟩ : BufTy).Contents (Elt F) → (⟨S64x1, .i32⟩ : BufTy).Contents (Elt F)),
    unary main_v12 main_v13 (broadcastInDim S64x100000 ![0, 1] bcast_S64x1_S64x100000_0_1 : (⟨S64x1, .i32⟩ : BufTy).Contents (Elt F) → (⟨S64x100000, .i32⟩ : BufTy).Contents (Elt F)),
    binary main_v8 main_v13 main_v14 (cmpi .eq : (⟨S64x100000, .i32⟩ : BufTy).Contents (Elt F) → (⟨S64x100000, .i32⟩ : BufTy).Contents (Elt F) → (⟨S64x100000, .i1⟩ : BufTy).Contents (Elt F)),
    nullary main_cst_2 (constant S_ .f32 0xFF800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S64x100000, .f32⟩) main_call1_v1) (broadcastInDim S64x100000 ![] bcast_S_S64x100000),
    TRef.ternary (TRef.of (T := ⟨S64x100000, .i1⟩) main_v14) (TRef.of (T := ⟨S64x100000, .f32⟩) main_v7_0) (TRef.of (T := ⟨S64x100000, .f32⟩) main_call1_v1) (TRef.of (T := ⟨S64x100000, .f32⟩) main_v15) select,
    nullary main_cst_3 (constant S_ .f32 0xFF800000#32) ]

/-- @main's operations 31 … 60 of 202 (window `main_part0`). -/
abbrev ops_part0_1 : List (HloOp τ sig (Elt F)) :=
  [ binary main_v15 main_cst_3 main_v16 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v16 main_v17 (broadcastInDim S64x1 ![0] bcast_S64_S64x1_0 : (⟨S64, .f32⟩ : BufTy).Contents (Elt F) → (⟨S64x1, .f32⟩ : BufTy).Contents (Elt F)),
    unary main_v17 main_v18 (broadcastInDim S64x100000 ![0, 1] bcast_S64x1_S64x100000_0_1 : (⟨S64x1, .f32⟩ : BufTy).Contents (Elt F) → (⟨S64x100000, .f32⟩ : BufTy).Contents (Elt F)),
    binary main_v7_0 main_v18 main_v19 (cmpf .olt : (⟨S64x100000, .f32⟩ : BufTy).Contents (Elt F) → (⟨S64x100000, .f32⟩ : BufTy).Contents (Elt F) → (⟨S64x100000, .i1⟩ : BufTy).Contents (Elt F)),
    nullary main_cst_4 (constant S_ .f32 0xFF800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S64x100000, .f32⟩) main_call2_v1) (broadcastInDim S64x100000 ![] bcast_S_S64x100000),
    TRef.ternary (TRef.of (T := ⟨S64x100000, .i1⟩) main_v19) (TRef.of (T := ⟨S64x100000, .f32⟩) main_call2_v1) (TRef.of (T := ⟨S64x100000, .f32⟩) main_v7_0) (TRef.of (T := ⟨S64x100000, .f32⟩) main_v20) select,
    nullary main_cst_5 (constant S_ .f32 0xFF800000#32),
    binary main_v20 main_cst_5 main_v21 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    nullary main_cst_6 (constant S_ .f32 0xFF800000#32),
    unary main_cst_6 main_v22 (broadcastInDim S64 ![] bcast_S_S64 : (⟨S_, .f32⟩ : BufTy).Contents (Elt F) → (⟨S64, .f32⟩ : BufTy).Contents (Elt F)),
    binary main_v22 main_v21 main_v23 (maximumf : (⟨S64, .f32⟩ : BufTy).Contents (Elt F) → (⟨S64, .f32⟩ : BufTy).Contents (Elt F) → (⟨S64, .f32⟩ : BufTy).Contents (Elt F)),
    unary main_v23 main_v24 (broadcastInDim S64x1 ![0] bcast_S64_S64x1_0 : (⟨S64, .f32⟩ : BufTy).Contents (Elt F) → (⟨S64x1, .f32⟩ : BufTy).Contents (Elt F)),
    unary main_v24 main_v25 (broadcastInDim S64x100000 ![0, 1] bcast_S64x1_S64x100000_0_1 : (⟨S64x1, .f32⟩ : BufTy).Contents (Elt F) → (⟨S64x100000, .f32⟩ : BufTy).Contents (Elt F)),
    binary main_v20 main_v25 main_v26 (subf : (⟨S64x100000, .f32⟩ : BufTy).Contents (Elt F) → (⟨S64x100000, .f32⟩ : BufTy).Contents (Elt F) → (⟨S64x100000, .f32⟩ : BufTy).Contents (Elt F)),
    unary main_v26 main_v27 (Host.exp : (⟨S64x100000, .f32⟩ : BufTy).Contents (Elt F) → (⟨S64x100000, .f32⟩ : BufTy).Contents (Elt F)),
    nullary main_cst_7 (constant S_ .f32 0x00000000#32),
    binary main_v27 main_cst_7 main_v28 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v28 main_v29 (broadcastInDim S64x1 ![0] bcast_S64_S64x1_0 : (⟨S64, .f32⟩ : BufTy).Contents (Elt F) → (⟨S64x1, .f32⟩ : BufTy).Contents (Elt F)),
    unary main_v29 main_v30 (broadcastInDim S64x100000 ![0, 1] bcast_S64x1_S64x100000_0_1 : (⟨S64x1, .f32⟩ : BufTy).Contents (Elt F) → (⟨S64x100000, .f32⟩ : BufTy).Contents (Elt F)),
    binary main_v27 main_v30 main_v31 (Host.divf : (⟨S64x100000, .f32⟩ : BufTy).Contents (Elt F) → (⟨S64x100000, .f32⟩ : BufTy).Contents (Elt F) → (⟨S64x100000, .f32⟩ : BufTy).Contents (Elt F)),
    TRef.nullary (TRef.of (T := ⟨S_, .f32⟩) main_call3_call0_cst) (constant S_ .f32 0x00000000#32),
    TRef.unary (TRef.of (T := ⟨S_, .f32⟩) main_call3_call0_cst) (TRef.of (T := ⟨S_, .f32⟩) main_call3_call0_v0) (broadcastInDim S_ ![] bcast_S_S_),
    TRef.binary (TRef.of (T := ⟨S64x100000, .f32⟩) main_v31) (TRef.of (T := ⟨S_, .f32⟩) main_call3_call0_v0) (TRef.of (T := ⟨S64x100000, .f32⟩) main_v32) (fun x v => Host.reduceWindowAdd ![1, 100000] ![1, 1] ![0, 99999] ![0, 0] x v reduceWindows_S64x100000_S64x100000_w1s1p0_0_w100000s1p99999_0 h_S_),
    nullary main_cst_8 (constant S_ .f32 0x3F800000#32),
    unary main_cst_8 main_v33 (broadcastInDim S64 ![] bcast_S_S64 : (⟨S_, .f32⟩ : BufTy).Contents (Elt F) → (⟨S64, .f32⟩ : BufTy).Contents (Elt F)),
    binary main_v33 main_arg2 main_v34 (subf : (⟨S64, .f32⟩ : BufTy).Contents (Elt F) → (⟨S64, .f32⟩ : BufTy).Contents (Elt F) → (⟨S64, .f32⟩ : BufTy).Contents (Elt F)),
    unary main_v34 main_v35 (broadcastInDim S64x1 ![0] bcast_S64_S64x1_0 : (⟨S64, .f32⟩ : BufTy).Contents (Elt F) → (⟨S64x1, .f32⟩ : BufTy).Contents (Elt F)),
    unary main_v35 main_v36 (broadcastInDim S64x100000 ![0, 1] bcast_S64x1_S64x100000_0_1 : (⟨S64x1, .f32⟩ : BufTy).Contents (Elt F) → (⟨S64x100000, .f32⟩ : BufTy).Contents (Elt F)) ]

/-- @main's operations 61 … 73 of 202 (window `main_part0`). -/
abbrev ops_part0_2 : List (HloOp τ sig (Elt F)) :=
  [ binary main_v32 main_v36 main_v37 (cmpf .ole : (⟨S64x100000, .f32⟩ : BufTy).Contents (Elt F) → (⟨S64x100000, .f32⟩ : BufTy).Contents (Elt F) → (⟨S64x100000, .i1⟩ : BufTy).Contents (Elt F)),
    nullary main_c_9 (constantI S_ 32 99999#32),
    unary main_c_9 main_v38 (broadcastInDim S64x100000 ![] bcast_S_S64x100000 : (⟨S_, .i32⟩ : BufTy).Contents (Elt F) → (⟨S64x100000, .i32⟩ : BufTy).Contents (Elt F)),
    binary main_v5 main_v38 main_v39 (cmpi .ne : (⟨S64x100000, .i32⟩ : BufTy).Contents (Elt F) → (⟨S64x100000, .i32⟩ : BufTy).Contents (Elt F) → (⟨S64x100000, .i1⟩ : BufTy).Contents (Elt F)),
    binary main_v37 main_v39 main_v40 (andi : (⟨S64x100000, .i1⟩ : BufTy).Contents (Elt F) → (⟨S64x100000, .i1⟩ : BufTy).Contents (Elt F) → (⟨S64x100000, .i1⟩ : BufTy).Contents (Elt F)),
    nullary main_cst_10 (constant S_ .f32 0xFF800000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S64x100000, .f32⟩) main_call4_v1) (broadcastInDim S64x100000 ![] bcast_S_S64x100000),
    TRef.ternary (TRef.of (T := ⟨S64x100000, .i1⟩) main_v40) (TRef.of (T := ⟨S64x100000, .f32⟩) main_call4_v1) (TRef.of (T := ⟨S64x100000, .f32⟩) main_v20) (TRef.of (T := ⟨S64x100000, .f32⟩) main_v41) select,
    binary main_v7_1 main_v41 main_v42_0 ((fun x y => (Host.sort2 S64x100000 1 comparator_i32_f32_d1 x y).1) : (⟨S64x100000, .i32⟩ : BufTy).Contents (Elt F) → (⟨S64x100000, .f32⟩ : BufTy).Contents (Elt F) → (⟨S64x100000, .i32⟩ : BufTy).Contents (Elt F)),
    binary main_v7_1 main_v41 main_v42_1 ((fun x y => (Host.sort2 S64x100000 1 comparator_i32_f32_d1 x y).2) : (⟨S64x100000, .i32⟩ : BufTy).Contents (Elt F) → (⟨S64x100000, .f32⟩ : BufTy).Contents (Elt F) → (⟨S64x100000, .f32⟩ : BufTy).Contents (Elt F)),
    nullary main_cst_11 (constant S_ .f32 0xFF800000#32),
    binary main_v42_1 main_cst_11 main_v43 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 74 … 103 of 202 (window `main_part1`). -/
abbrev ops_part1_0 : List (HloOp τ sig (Elt F)) :=
  [ nullary main_cst_12 (constant S_ .f32 0xFF800000#32),
    unary main_cst_12 main_v44 (broadcastInDim S64 ![] bcast_S_S64 : (⟨S_, .f32⟩ : BufTy).Contents (Elt F) → (⟨S64, .f32⟩ : BufTy).Contents (Elt F)),
    binary main_v44 main_v43 main_v45 (maximumf : (⟨S64, .f32⟩ : BufTy).Contents (Elt F) → (⟨S64, .f32⟩ : BufTy).Contents (Elt F) → (⟨S64, .f32⟩ : BufTy).Contents (Elt F)),
    unary main_v45 main_v46 (broadcastInDim S64x1 ![0] bcast_S64_S64x1_0 : (⟨S64, .f32⟩ : BufTy).Contents (Elt F) → (⟨S64x1, .f32⟩ : BufTy).Contents (Elt F)),
    unary main_v46 main_v47 (broadcastInDim S64x100000 ![0, 1] bcast_S64x1_S64x100000_0_1 : (⟨S64x1, .f32⟩ : BufTy).Contents (Elt F) → (⟨S64x100000, .f32⟩ : BufTy).Contents (Elt F)),
    binary main_v42_1 main_v47 main_v48 (subf : (⟨S64x100000, .f32⟩ : BufTy).Contents (Elt F) → (⟨S64x100000, .f32⟩ : BufTy).Contents (Elt F) → (⟨S64x100000, .f32⟩ : BufTy).Contents (Elt F)),
    unary main_v48 main_v49 (Host.exp : (⟨S64x100000, .f32⟩ : BufTy).Contents (Elt F) → (⟨S64x100000, .f32⟩ : BufTy).Contents (Elt F)),
    nullary main_cst_13 (constant S_ .f32 0x00000000#32),
    binary main_v49 main_cst_13 main_v50 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v50 main_v51 (broadcastInDim S64x1 ![0] bcast_S64_S64x1_0 : (⟨S64, .f32⟩ : BufTy).Contents (Elt F) → (⟨S64x1, .f32⟩ : BufTy).Contents (Elt F)),
    unary main_v51 main_v52 (broadcastInDim S64x100000 ![0, 1] bcast_S64x1_S64x100000_0_1 : (⟨S64x1, .f32⟩ : BufTy).Contents (Elt F) → (⟨S64x100000, .f32⟩ : BufTy).Contents (Elt F)),
    binary main_v49 main_v52 main_v53 (Host.divf : (⟨S64x100000, .f32⟩ : BufTy).Contents (Elt F) → (⟨S64x100000, .f32⟩ : BufTy).Contents (Elt F) → (⟨S64x100000, .f32⟩ : BufTy).Contents (Elt F)),
    nullary main_cst_14 (constant S_ .f32 0xFF800000#32),
    binary main_v53 main_cst_14 main_v54 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v54 main_v55 (broadcastInDim S64x1 ![0] bcast_S64_S64x1_0 : (⟨S64, .f32⟩ : BufTy).Contents (Elt F) → (⟨S64x1, .f32⟩ : BufTy).Contents (Elt F)),
    unary main_arg4 main_v56 (broadcastInDim S64x1 ![0] bcast_S64_S64x1_0 : (⟨S64, .f32⟩ : BufTy).Contents (Elt F) → (⟨S64x1, .f32⟩ : BufTy).Contents (Elt F)),
    binary main_v56 main_v55 main_v57 (mulf : (⟨S64x1, .f32⟩ : BufTy).Contents (Elt F) → (⟨S64x1, .f32⟩ : BufTy).Contents (Elt F) → (⟨S64x1, .f32⟩ : BufTy).Contents (Elt F)),
    unary main_v57 main_v58 (broadcastInDim S64x100000 ![0, 1] bcast_S64x1_S64x100000_0_1 : (⟨S64x1, .f32⟩ : BufTy).Contents (Elt F) → (⟨S64x100000, .f32⟩ : BufTy).Contents (Elt F)),
    binary main_v53 main_v58 main_v59 (cmpf .olt : (⟨S64x100000, .f32⟩ : BufTy).Contents (Elt F) → (⟨S64x100000, .f32⟩ : BufTy).Contents (Elt F) → (⟨S64x100000, .i1⟩ : BufTy).Contents (Elt F)),
    nullary main_cst_15 (constant S_ .f32 0xFF800000#32),
    TRef.unary (TRef.of (T := ⟨S_, .f32⟩) main_cst_15) (TRef.of (T := ⟨S_, .f32⟩) main_call5_v0) id,
    TRef.unary (TRef.of (T := ⟨S_, .f32⟩) main_call5_v0) (TRef.of (T := ⟨S64x100000, .f32⟩) main_call5_v1) (broadcastInDim S64x100000 ![] bcast_S_S64x100000),
    TRef.ternary (TRef.of (T := ⟨S64x100000, .i1⟩) main_v59) (TRef.of (T := ⟨S64x100000, .f32⟩) main_call5_v1) (TRef.of (T := ⟨S64x100000, .f32⟩) main_v42_1) (TRef.of (T := ⟨S64x100000, .f32⟩) main_v60) select,
    nullary main_cst_16 (constant S_ .f32 0xFF800000#32),
    binary main_v60 main_cst_16 main_v61 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    nullary main_cst_17 (constant S_ .f32 0xFF800000#32),
    unary main_cst_17 main_v62 (broadcastInDim S64 ![] bcast_S_S64 : (⟨S_, .f32⟩ : BufTy).Contents (Elt F) → (⟨S64, .f32⟩ : BufTy).Contents (Elt F)),
    binary main_v62 main_v61 main_v63 (maximumf : (⟨S64, .f32⟩ : BufTy).Contents (Elt F) → (⟨S64, .f32⟩ : BufTy).Contents (Elt F) → (⟨S64, .f32⟩ : BufTy).Contents (Elt F)),
    unary main_v63 main_v64 (broadcastInDim S64x1 ![0] bcast_S64_S64x1_0 : (⟨S64, .f32⟩ : BufTy).Contents (Elt F) → (⟨S64x1, .f32⟩ : BufTy).Contents (Elt F)),
    unary main_v64 main_v65 (broadcastInDim S64x100000 ![0, 1] bcast_S64x1_S64x100000_0_1 : (⟨S64x1, .f32⟩ : BufTy).Contents (Elt F) → (⟨S64x100000, .f32⟩ : BufTy).Contents (Elt F)) ]

/-- @main's operations 104 … 133 of 202 (window `main_part1`). -/
abbrev ops_part1_1 : List (HloOp τ sig (Elt F)) :=
  [ binary main_v60 main_v65 main_v66 (subf : (⟨S64x100000, .f32⟩ : BufTy).Contents (Elt F) → (⟨S64x100000, .f32⟩ : BufTy).Contents (Elt F) → (⟨S64x100000, .f32⟩ : BufTy).Contents (Elt F)),
    unary main_v66 main_v67 (Host.exp : (⟨S64x100000, .f32⟩ : BufTy).Contents (Elt F) → (⟨S64x100000, .f32⟩ : BufTy).Contents (Elt F)),
    nullary main_cst_18 (constant S_ .f32 0x00000000#32),
    binary main_v67 main_cst_18 main_v68 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v68 main_v69 (broadcastInDim S64x1 ![0] bcast_S64_S64x1_0 : (⟨S64, .f32⟩ : BufTy).Contents (Elt F) → (⟨S64x1, .f32⟩ : BufTy).Contents (Elt F)),
    unary main_v69 main_v70 (broadcastInDim S64x100000 ![0, 1] bcast_S64x1_S64x100000_0_1 : (⟨S64x1, .f32⟩ : BufTy).Contents (Elt F) → (⟨S64x100000, .f32⟩ : BufTy).Contents (Elt F)),
    binary main_v67 main_v70 main_v71 (Host.divf : (⟨S64x100000, .f32⟩ : BufTy).Contents (Elt F) → (⟨S64x100000, .f32⟩ : BufTy).Contents (Elt F) → (⟨S64x100000, .f32⟩ : BufTy).Contents (Elt F)),
    TRef.nullary (TRef.of (T := ⟨S_, .f32⟩) main_call6_cst) (constant S_ .f32 0xFF800000#32),
    TRef.binary (TRef.of (T := ⟨S64x100000, .f32⟩) main_v60) (TRef.of (T := ⟨S_, .f32⟩) main_call6_cst) (TRef.of (T := ⟨S64, .f32⟩) main_call6_v0) (fun x v => Host.reduce FloatOps.maximumf x v reducesTo_S64x100000_S64_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S64, .f32⟩) main_call6_v1) (broadcastInDim S64 ![] bcast_S_S64),
    TRef.binary (TRef.of (T := ⟨S64, .f32⟩) main_call6_v1) (TRef.of (T := ⟨S64, .f32⟩) main_call6_v0) (TRef.of (T := ⟨S64, .f32⟩) main_call6_v2) maximumf,
    TRef.unary (TRef.of (T := ⟨S64, .f32⟩) main_call6_v2) (TRef.of (T := ⟨S64x1, .f32⟩) main_call6_v3) (broadcastInDim S64x1 ![0] bcast_S64_S64x1_0),
    TRef.unary (TRef.of (T := ⟨S64x1, .f32⟩) main_call6_v3) (TRef.of (T := ⟨S64x100000, .f32⟩) main_call6_v4) (broadcastInDim S64x100000 ![0, 1] bcast_S64x1_S64x100000_0_1),
    TRef.binary (TRef.of (T := ⟨S64x100000, .f32⟩) main_v60) (TRef.of (T := ⟨S64x100000, .f32⟩) main_call6_v4) (TRef.of (T := ⟨S64x100000, .f32⟩) main_call6_v5) subf,
    TRef.unary (TRef.of (T := ⟨S64x100000, .f32⟩) main_call6_v5) (TRef.of (T := ⟨S64x100000, .f32⟩) main_call6_v6) Host.exp,
    TRef.nullary (TRef.of (T := ⟨S_, .f32⟩) main_call6_cst_1) (constant S_ .f32 0x00000000#32),
    TRef.binary (TRef.of (T := ⟨S64x100000, .f32⟩) main_call6_v6) (TRef.of (T := ⟨S_, .f32⟩) main_call6_cst_1) (TRef.of (T := ⟨S64, .f32⟩) main_call6_v7) (fun x v => Host.reduceAdd x v reducesTo_S64x100000_S64_d1 h_S_),
    TRef.unary (TRef.of (T := ⟨S64, .f32⟩) main_call6_v7) (TRef.of (T := ⟨S64x1, .f32⟩) main_call6_v8) (broadcastInDim S64x1 ![0] bcast_S64_S64x1_0),
    TRef.unary (TRef.of (T := ⟨S64x1, .f32⟩) main_call6_v8) (TRef.of (T := ⟨S64x1, .f32⟩) main_call6_v9) Host.log,
    TRef.unary (TRef.of (T := ⟨S64x1, .f32⟩) main_call6_v9) (TRef.of (T := ⟨S64x100000, .f32⟩) main_call6_v10) (broadcastInDim S64x100000 ![0, 1] bcast_S64x1_S64x100000_0_1),
    TRef.binary (TRef.of (T := ⟨S64x100000, .f32⟩) main_call6_v5) (TRef.of (T := ⟨S64x100000, .f32⟩) main_call6_v10) (TRef.of (T := ⟨S64x100000, .f32⟩) main_v72) subf,
    unary main_v72 main_v73 (Host.exp : (⟨S64x100000, .f32⟩ : BufTy).Contents (Elt F) → (⟨S64x100000, .f32⟩ : BufTy).Contents (Elt F)),
    unary main_v73 main_values ((fun x => (Host.topK S64x2 1 (FloatOps.cmpfTotal .gt) x sliceFits_S64x100000_S64x2).1) : (⟨S64x100000, .f32⟩ : BufTy).Contents (Elt F) → (⟨S64x2, .f32⟩ : BufTy).Contents (Elt F)),
    unary main_v73 main_indices ((fun x => (Host.topK S64x2 1 (FloatOps.cmpfTotal .gt) x sliceFits_S64x100000_S64x2).2) : (⟨S64x100000, .f32⟩ : BufTy).Contents (Elt F) → (⟨S64x2, .i32⟩ : BufTy).Contents (Elt F)),
    nullary main_c_19 (constantI S_ 32 3#32),
    unary main_c_19 main_v74 (broadcastInDim S64 ![] bcast_S_S64 : (⟨S_, .i32⟩ : BufTy).Contents (Elt F) → (⟨S64, .i32⟩ : BufTy).Contents (Elt F)),
    binary main_arg5 main_v74 main_v75 (cmpi .slt : (⟨S64, .i32⟩ : BufTy).Contents (Elt F) → (⟨S64, .i32⟩ : BufTy).Contents (Elt F) → (⟨S64, .i1⟩ : BufTy).Contents (Elt F)),
    unary main_values main_v76 ((extractStridedSlice S64x1 ![0, 0] · slices_S64x2_S64x1_0_0) : (⟨S64x2, .f32⟩ : BufTy).Contents (Elt F) → (⟨S64x1, .f32⟩ : BufTy).Contents (Elt F)),
    reshape main_v76 main_v77 (rfl : (.f32 : EltTy) = .f32) shapeCasts_S64x1_S64 ]

/-- @main's operations 134 … 149 of 202 (window `main_part1`). -/
abbrev ops_part1_2 : List (HloOp τ sig (Elt F)) :=
  [ unary main_values main_v78 ((extractStridedSlice S64x1 ![0, 1] · slices_S64x2_S64x1_0_1) : (⟨S64x2, .f32⟩ : BufTy).Contents (Elt F) → (⟨S64x1, .f32⟩ : BufTy).Contents (Elt F)),
    reshape main_v78 main_v79 (rfl : (.f32 : EltTy) = .f32) shapeCasts_S64x1_S64,
    binary main_v77 main_v79 main_v80 (subf : (⟨S64, .f32⟩ : BufTy).Contents (Elt F) → (⟨S64, .f32⟩ : BufTy).Contents (Elt F) → (⟨S64, .f32⟩ : BufTy).Contents (Elt F)),
    nullary main_cst_20 (constant S_ .f32 0x3F666666#32),
    unary main_cst_20 main_v81 (broadcastInDim S64 ![] bcast_S_S64 : (⟨S_, .f32⟩ : BufTy).Contents (Elt F) → (⟨S64, .f32⟩ : BufTy).Contents (Elt F)),
    binary main_v80 main_v81 main_v82 (cmpf .olt : (⟨S64, .f32⟩ : BufTy).Contents (Elt F) → (⟨S64, .f32⟩ : BufTy).Contents (Elt F) → (⟨S64, .i1⟩ : BufTy).Contents (Elt F)),
    binary main_v75 main_v82 main_v83 (andi : (⟨S64, .i1⟩ : BufTy).Contents (Elt F) → (⟨S64, .i1⟩ : BufTy).Contents (Elt F) → (⟨S64, .i1⟩ : BufTy).Contents (Elt F)),
    nullary main_v84 (iotaInDim S100000 32 0),
    unary main_v84 main_v85 (broadcastInDim S1x100000 ![1] bcast_S100000_S1x100000_1 : (⟨S100000, .i32⟩ : BufTy).Contents (Elt F) → (⟨S1x100000, .i32⟩ : BufTy).Contents (Elt F)),
    unary main_v83 main_v86 (broadcastInDim S64x1 ![0] bcast_S64_S64x1_0 : (⟨S64, .i1⟩ : BufTy).Contents (Elt F) → (⟨S64x1, .i1⟩ : BufTy).Contents (Elt F)),
    unary main_indices main_v87 ((extractStridedSlice S64x1 ![0, 0] · slices_S64x2_S64x1_0_0) : (⟨S64x2, .i32⟩ : BufTy).Contents (Elt F) → (⟨S64x1, .i32⟩ : BufTy).Contents (Elt F)),
    reshape main_v87 main_v88 (rfl : (.i32 : EltTy) = .i32) shapeCasts_S64x1_S64,
    unary main_v88 main_v89 (broadcastInDim S64x1 ![0] bcast_S64_S64x1_0 : (⟨S64, .i32⟩ : BufTy).Contents (Elt F) → (⟨S64x1, .i32⟩ : BufTy).Contents (Elt F)),
    unary main_v85 main_v90 (broadcastInDim S64x100000 ![0, 1] bcast_S1x100000_S64x100000_0_1 : (⟨S1x100000, .i32⟩ : BufTy).Contents (Elt F) → (⟨S64x100000, .i32⟩ : BufTy).Contents (Elt F)),
    unary main_v89 main_v91 (broadcastInDim S64x100000 ![0, 1] bcast_S64x1_S64x100000_0_1 : (⟨S64x1, .i32⟩ : BufTy).Contents (Elt F) → (⟨S64x100000, .i32⟩ : BufTy).Contents (Elt F)),
    binary main_v90 main_v91 main_v92 (cmpi .eq : (⟨S64x100000, .i32⟩ : BufTy).Contents (Elt F) → (⟨S64x100000, .i32⟩ : BufTy).Contents (Elt F) → (⟨S64x100000, .i1⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 150 … 202 of 202 (window `main_part2`). -/
abbrev ops_part2 : List (HloOp τ sig (Elt F)) :=
  [ unary main_v86 main_v93 (broadcastInDim S64x100000 ![0, 1] bcast_S64x1_S64x100000_0_1 : (⟨S64x1, .i1⟩ : BufTy).Contents (Elt F) → (⟨S64x100000, .i1⟩ : BufTy).Contents (Elt F)),
    binary main_v93 main_v92 main_v94 (andi : (⟨S64x100000, .i1⟩ : BufTy).Contents (Elt F) → (⟨S64x100000, .i1⟩ : BufTy).Contents (Elt F) → (⟨S64x100000, .i1⟩ : BufTy).Contents (Elt F)),
    nullary main_cst_21 (constant S_ .f32 0xFF800000#32),
    TRef.unary (TRef.of (T := ⟨S_, .f32⟩) main_cst_21) (TRef.of (T := ⟨S_, .f32⟩) main_call7_v0) id,
    TRef.unary (TRef.of (T := ⟨S_, .f32⟩) main_call7_v0) (TRef.of (T := ⟨S64x100000, .f32⟩) main_call7_v1) (broadcastInDim S64x100000 ![] bcast_S_S64x100000),
    TRef.ternary (TRef.of (T := ⟨S64x100000, .i1⟩) main_v94) (TRef.of (T := ⟨S64x100000, .f32⟩) main_call7_v1) (TRef.of (T := ⟨S64x100000, .f32⟩) main_v60) (TRef.of (T := ⟨S64x100000, .f32⟩) main_v95) select,
    unary main_v83 main_v96 (broadcastInDim S64x1 ![0] bcast_S64_S64x1_0 : (⟨S64, .i1⟩ : BufTy).Contents (Elt F) → (⟨S64x1, .i1⟩ : BufTy).Contents (Elt F)),
    nullary main_cst_22 (constant S_ .f32 0xFF800000#32),
    binary main_v95 main_cst_22 main_v97 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    nullary main_cst_23 (constant S_ .f32 0xFF800000#32),
    unary main_cst_23 main_v98 (broadcastInDim S64 ![] bcast_S_S64 : (⟨S_, .f32⟩ : BufTy).Contents (Elt F) → (⟨S64, .f32⟩ : BufTy).Contents (Elt F)),
    binary main_v98 main_v97 main_v99 (maximumf : (⟨S64, .f32⟩ : BufTy).Contents (Elt F) → (⟨S64, .f32⟩ : BufTy).Contents (Elt F) → (⟨S64, .f32⟩ : BufTy).Contents (Elt F)),
    unary main_v99 main_v100 (broadcastInDim S64x1 ![0] bcast_S64_S64x1_0 : (⟨S64, .f32⟩ : BufTy).Contents (Elt F) → (⟨S64x1, .f32⟩ : BufTy).Contents (Elt F)),
    unary main_v100 main_v101 (broadcastInDim S64x100000 ![0, 1] bcast_S64x1_S64x100000_0_1 : (⟨S64x1, .f32⟩ : BufTy).Contents (Elt F) → (⟨S64x100000, .f32⟩ : BufTy).Contents (Elt F)),
    binary main_v95 main_v101 main_v102 (subf : (⟨S64x100000, .f32⟩ : BufTy).Contents (Elt F) → (⟨S64x100000, .f32⟩ : BufTy).Contents (Elt F) → (⟨S64x100000, .f32⟩ : BufTy).Contents (Elt F)),
    unary main_v102 main_v103 (Host.exp : (⟨S64x100000, .f32⟩ : BufTy).Contents (Elt F) → (⟨S64x100000, .f32⟩ : BufTy).Contents (Elt F)),
    nullary main_cst_24 (constant S_ .f32 0x00000000#32),
    binary main_v103 main_cst_24 main_v104 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v104 main_v105 (broadcastInDim S64x1 ![0] bcast_S64_S64x1_0 : (⟨S64, .f32⟩ : BufTy).Contents (Elt F) → (⟨S64x1, .f32⟩ : BufTy).Contents (Elt F)),
    unary main_v105 main_v106 (broadcastInDim S64x100000 ![0, 1] bcast_S64x1_S64x100000_0_1 : (⟨S64x1, .f32⟩ : BufTy).Contents (Elt F) → (⟨S64x100000, .f32⟩ : BufTy).Contents (Elt F)),
    binary main_v103 main_v106 main_v107 (Host.divf : (⟨S64x100000, .f32⟩ : BufTy).Contents (Elt F) → (⟨S64x100000, .f32⟩ : BufTy).Contents (Elt F) → (⟨S64x100000, .f32⟩ : BufTy).Contents (Elt F)),
    TRef.unary (TRef.of (T := ⟨S64x1, .i1⟩) main_v96) (TRef.of (T := ⟨S64x100000, .i1⟩) main_call8_v0) (broadcastInDim S64x100000 ![0, 1] bcast_S64x1_S64x100000_0_1),
    TRef.ternary (TRef.of (T := ⟨S64x100000, .i1⟩) main_call8_v0) (TRef.of (T := ⟨S64x100000, .f32⟩) main_v107) (TRef.of (T := ⟨S64x100000, .f32⟩) main_v71) (TRef.of (T := ⟨S64x100000, .f32⟩) main_v108) select,
    unary main_v83 main_v109 (broadcastInDim S64x1 ![0] bcast_S64_S64x1_0 : (⟨S64, .i1⟩ : BufTy).Contents (Elt F) → (⟨S64x1, .i1⟩ : BufTy).Contents (Elt F)),
    TRef.nullary (TRef.of (T := ⟨S_, .f32⟩) main_call9_cst) (constant S_ .f32 0xFF800000#32),
    TRef.binary (TRef.of (T := ⟨S64x100000, .f32⟩) main_v95) (TRef.of (T := ⟨S_, .f32⟩) main_call9_cst) (TRef.of (T := ⟨S64, .f32⟩) main_call9_v0) (fun x v => Host.reduce FloatOps.maximumf x v reducesTo_S64x100000_S64_d1 h_S_),
    TRef.nullary (TRef.of (T := ⟨S_, .f32⟩) main_call9_cst_0) (constant S_ .f32 0xFF800000#32),
    TRef.unary (TRef.of (T := ⟨S_, .f32⟩) main_call9_cst_0) (TRef.of (T := ⟨S64, .f32⟩) main_call9_v1) (broadcastInDim S64 ![] bcast_S_S64),
    TRef.binary (TRef.of (T := ⟨S64, .f32⟩) main_call9_v1) (TRef.of (T := ⟨S64, .f32⟩) main_call9_v0) (TRef.of (T := ⟨S64, .f32⟩) main_call9_v2) maximumf,
    TRef.unary (TRef.of (T := ⟨S64, .f32⟩) main_call9_v2) (TRef.of (T := ⟨S64x1, .f32⟩) main_call9_v3) (broadcastInDim S64x1 ![0] bcast_S64_S64x1_0),
    TRef.unary (TRef.of (T := ⟨S64x1, .f32⟩) main_call9_v3) (TRef.of (T := ⟨S64x100000, .f32⟩) main_call9_v4) (broadcastInDim S64x100000 ![0, 1] bcast_S64x1_S64x100000_0_1),
    TRef.binary (TRef.of (T := ⟨S64x100000, .f32⟩) main_v95) (TRef.of (T := ⟨S64x100000, .f32⟩) main_call9_v4) (TRef.of (T := ⟨S64x100000, .f32⟩) main_call9_v5) subf,
    TRef.unary (TRef.of (T := ⟨S64x100000, .f32⟩) main_call9_v5) (TRef.of (T := ⟨S64x100000, .f32⟩) main_call9_v6) Host.exp,
    TRef.nullary (TRef.of (T := ⟨S_, .f32⟩) main_call9_cst_1) (constant S_ .f32 0x00000000#32),
    TRef.binary (TRef.of (T := ⟨S64x100000, .f32⟩) main_call9_v6) (TRef.of (T := ⟨S_, .f32⟩) main_call9_cst_1) (TRef.of (T := ⟨S64, .f32⟩) main_call9_v7) (fun x v => Host.reduceAdd x v reducesTo_S64x100000_S64_d1 h_S_),
    TRef.unary (TRef.of (T := ⟨S64, .f32⟩) main_call9_v7) (TRef.of (T := ⟨S64x1, .f32⟩) main_call9_v8) (broadcastInDim S64x1 ![0] bcast_S64_S64x1_0),
    TRef.unary (TRef.of (T := ⟨S64x1, .f32⟩) main_call9_v8) (TRef.of (T := ⟨S64x1, .f32⟩) main_call9_v9) Host.log,
    TRef.unary (TRef.of (T := ⟨S64x1, .f32⟩) main_call9_v9) (TRef.of (T := ⟨S64x100000, .f32⟩) main_call9_v10) (broadcastInDim S64x100000 ![0, 1] bcast_S64x1_S64x100000_0_1),
    TRef.binary (TRef.of (T := ⟨S64x100000, .f32⟩) main_call9_v5) (TRef.of (T := ⟨S64x100000, .f32⟩) main_call9_v10) (TRef.of (T := ⟨S64x100000, .f32⟩) main_v110) subf,
    TRef.unary (TRef.of (T := ⟨S64x1, .i1⟩) main_v109) (TRef.of (T := ⟨S64x100000, .i1⟩) main_call10_v0) (broadcastInDim S64x100000 ![0, 1] bcast_S64x1_S64x100000_0_1),
    TRef.ternary (TRef.of (T := ⟨S64x100000, .i1⟩) main_call10_v0) (TRef.of (T := ⟨S64x100000, .f32⟩) main_v110) (TRef.of (T := ⟨S64x100000, .f32⟩) main_v72) (TRef.of (T := ⟨S64x100000, .f32⟩) main_v111) select,
    nullary main_cst_25 (constant S_ .f32 0xFF800000#32),
    binary main_v108 main_cst_25 main_v112 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v112 main_v113 (broadcastInDim S64x1 ![0] bcast_S64_S64x1_0 : (⟨S64, .f32⟩ : BufTy).Contents (Elt F) → (⟨S64x1, .f32⟩ : BufTy).Contents (Elt F)),
    unary main_v113 main_v114 (broadcastInDim S64x100000 ![0, 1] bcast_S64x1_S64x100000_0_1 : (⟨S64x1, .f32⟩ : BufTy).Contents (Elt F) → (⟨S64x100000, .f32⟩ : BufTy).Contents (Elt F)),
    binary main_v108 main_v114 main_v115 (cmpf .oeq : (⟨S64x100000, .f32⟩ : BufTy).Contents (Elt F) → (⟨S64x100000, .f32⟩ : BufTy).Contents (Elt F) → (⟨S64x100000, .i1⟩ : BufTy).Contents (Elt F)),
    nullary main_c_26 (constantI S_ 32 100000#32),
    TRef.unary (TRef.of (T := ⟨S_, .i32⟩) main_c_26) (TRef.of (T := ⟨S_, .i32⟩) main_call11_v0) id,
    TRef.unary (TRef.of (T := ⟨S1x100000, .i32⟩) main_v85) (TRef.of (T := ⟨S64x100000, .i32⟩) main_call11_v1) (broadcastInDim S64x100000 ![0, 1] bcast_S1x100000_S64x100000_0_1),
    TRef.unary (TRef.of (T := ⟨S_, .i32⟩) main_call11_v0) (TRef.of (T := ⟨S64x100000, .i32⟩) main_call11_v2) (broadcastInDim S64x100000 ![] bcast_S_S64x100000),
    TRef.ternary (TRef.of (T := ⟨S64x100000, .i1⟩) main_v115) (TRef.of (T := ⟨S64x100000, .i32⟩) main_call11_v1) (TRef.of (T := ⟨S64x100000, .i32⟩) main_call11_v2) (TRef.of (T := ⟨S64x100000, .i32⟩) main_v116) select,
    nullary main_c_27 (constantI S_ 32 2147483647#32),
    binary main_v116 main_c_27 main_v117 ((fun x v => Host.reduce IntOp.minsi x v reducesTo_S64x100000_S64_d1 h_S_) : (⟨S64x100000, .i32⟩ : BufTy).Contents (Elt F) → (⟨S_, .i32⟩ : BufTy).Contents (Elt F) → (⟨S64, .i32⟩ : BufTy).Contents (Elt F)) ]

/-- @main's 202 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_0_eq : (do
    hlo rfl (StableHlo.nullary main_cst (constant S_ .f32 0x3C23D70A#32)) (fun _ => .ret ⟨⟩)
    hlo rfl (StableHlo.unary main_cst main_v0 (broadcastInDim S64 ![] bcast_S_S64 : (⟨S_, .f32⟩ : BufTy).Contents (Elt F) → (⟨S64, .f32⟩ : BufTy).Contents (Elt F))) (fun _ => .ret ⟨⟩)
    hlo rfl (StableHlo.binary main_arg1 main_v0 main_v1 (maximumf : (⟨S64, .f32⟩ : BufTy).Contents (Elt F) → (⟨S64, .f32⟩ : BufTy).Contents (Elt F) → (⟨S64, .f32⟩ : BufTy).Contents (Elt F))) (fun _ => .ret ⟨⟩)
    hlo rfl (StableHlo.unary main_v1 main_v2 (broadcastInDim S64x1 ![0] bcast_S64_S64x1_0 : (⟨S64, .f32⟩ : BufTy).Contents (Elt F) → (⟨S64x1, .f32⟩ : BufTy).Contents (Elt F))) (fun _ => .ret ⟨⟩)
    hlo rfl (StableHlo.unary main_v2 main_v3 (broadcastInDim S64x100000 ![0, 1] bcast_S64x1_S64x100000_0_1 : (⟨S64x1, .f32⟩ : BufTy).Contents (Elt F) → (⟨S64x100000, .f32⟩ : BufTy).Contents (Elt F))) (fun _ => .ret ⟨⟩)
    hlo rfl (StableHlo.binary main_arg0 main_v3 main_v4 (Host.divf : (⟨S64x100000, .f32⟩ : BufTy).Contents (Elt F) → (⟨S64x100000, .f32⟩ : BufTy).Contents (Elt F) → (⟨S64x100000, .f32⟩ : BufTy).Contents (Elt F))) (fun _ => .ret ⟨⟩)
    hlo rfl (StableHlo.nullary main_v5 (iotaInDim S64x100000 32 1)) (fun _ => .ret ⟨⟩)
    hlo rfl (StableHlo.nullary main_v6 (iotaInDim S64x100000 32 1)) (fun _ => .ret ⟨⟩)
    hlo rfl (StableHlo.binary main_v4 main_v6 main_v7_0 ((fun x y => (Host.sort2 S64x100000 1 comparator_f32_i32_d1 x y).1) : (⟨S64x100000, .f32⟩ : BufTy).Contents (Elt F) → (⟨S64x100000, .i32⟩ : BufTy).Contents (Elt F) → (⟨S64x100000, .f32⟩ : BufTy).Contents (Elt F))) (fun _ => .ret ⟨⟩)
    hlo rfl (StableHlo.binary main_v4 main_v6 main_v7_1 ((fun x y => (Host.sort2 S64x100000 1 comparator_f32_i32_d1 x y).2) : (⟨S64x100000, .f32⟩ : BufTy).Contents (Elt F) → (⟨S64x100000, .i32⟩ : BufTy).Contents (Elt F) → (⟨S64x100000, .i32⟩ : BufTy).Contents (Elt F))) (fun _ => .ret ⟨⟩)
    hlo rfl (StableHlo.nullary main_v8 (iotaInDim S64x100000 32 1)) (fun _ => .ret ⟨⟩)
    hlo rfl (StableHlo.nullary main_c (constantI S_ 32 1#32)) (fun _ => .ret ⟨⟩)
    hlo rfl (StableHlo.nullary main_c_0 (constantI S_ 32 100000#32)) (fun _ => .ret ⟨⟩)
    fn_clip.body (.of main_arg3) (.of main_c) (.of main_c_0) main_call0
    hlo rfl (StableHlo.nullary main_c_1 (constantI S_ 32 100000#32)) (fun _ => .ret ⟨⟩)
    hlo rfl (StableHlo.unary main_c_1 main_v10 (broadcastInDim S64 ![] bcast_S_S64 : (⟨S_, .i32⟩ : BufTy).Contents (Elt F) → (⟨S64, .i32⟩ : BufTy).Contents (Elt F))) (fun _ => .ret ⟨⟩)
    hlo rfl (StableHlo.binary main_v10 main_v9 main_v11 (subi : (⟨S64, .i32⟩ : BufTy).Contents (Elt F) → (⟨S64, .i32⟩ : BufTy).Contents (Elt F) → (⟨S64, .i32⟩ : BufTy).Contents (Elt F))) (fun _ => .ret ⟨⟩)
    hlo rfl (StableHlo.unary main_v11 main_v12 (broadcastInDim S64x1 ![0] bcast_S64_S64x1_0 : (⟨S64, .i32⟩ : BufTy).Contents (Elt F) → (⟨S64x1, .i32⟩ : BufTy).Contents (Elt F))) (fun _ => .ret ⟨⟩)
    hlo rfl (StableHlo.unary main_v12 main_v13 (broadcastInDim S64x100000 ![0, 1] bcast_S64x1_S64x100000_0_1 : (⟨S64x1, .i32⟩ : BufTy).Contents (Elt F) → (⟨S64x100000, .i32⟩ : BufTy).Contents (Elt F))) (fun _ => .ret ⟨⟩)
    hlo rfl (StableHlo.binary main_v8 main_v13 main_v14 (cmpi .eq : (⟨S64x100000, .i32⟩ : BufTy).Contents (Elt F) → (⟨S64x100000, .i32⟩ : BufTy).Contents (Elt F) → (⟨S64x100000, .i1⟩ : BufTy).Contents (Elt F))) (fun _ => .ret ⟨⟩)
    hlo rfl (StableHlo.nullary main_cst_2 (constant S_ .f32 0xFF800000#32)) (fun _ => .ret ⟨⟩)
    fn_where.body (.of main_v14) (.of main_v7_0) (.of main_cst_2) main_call1
    hlo rfl (StableHlo.nullary main_cst_3 (constant S_ .f32 0xFF800000#32)) (fun _ => .ret ⟨⟩) : Prog (TpuEff nD τ sig (Elt F) (Pipeline.Sig Λ₀ (Fin 0) fun p => (pcfgs (F := F) p).Adm) .tc) PUnit) = seq ops_part0_0 := rfl
set_option maxRecDepth 8192 in
set_option maxHeartbeats 4000000 in
theorem main_part0_1_eq : (do
    hlo rfl (StableHlo.binary main_v15 main_cst_3 main_v16 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F))) (fun _ => .ret ⟨⟩)
    hlo rfl (StableHlo.unary main_v16 main_v17 (broadcastInDim S64x1 ![0] bcast_S64_S64x1_0 : (⟨S64, .f32⟩ : BufTy).Contents (Elt F) → (⟨S64x1, .f32⟩ : BufTy).Contents (Elt F))) (fun _ => .ret ⟨⟩)
    hlo rfl (StableHlo.unary main_v17 main_v18 (broadcastInDim S64x100000 ![0, 1] bcast_S64x1_S64x100000_0_1 : (⟨S64x1, .f32⟩ : BufTy).Contents (Elt F) → (⟨S64x100000, .f32⟩ : BufTy).Contents (Elt F))) (fun _ => .ret ⟨⟩)
    hlo rfl (StableHlo.binary main_v7_0 main_v18 main_v19 (cmpf .olt : (⟨S64x100000, .f32⟩ : BufTy).Contents (Elt F) → (⟨S64x100000, .f32⟩ : BufTy).Contents (Elt F) → (⟨S64x100000, .i1⟩ : BufTy).Contents (Elt F))) (fun _ => .ret ⟨⟩)
    hlo rfl (StableHlo.nullary main_cst_4 (constant S_ .f32 0xFF800000#32)) (fun _ => .ret ⟨⟩)
    fn_where_0.body (.of main_v19) (.of main_cst_4) (.of main_v7_0) main_call2
    hlo rfl (StableHlo.nullary main_cst_5 (constant S_ .f32 0xFF800000#32)) (fun _ => .ret ⟨⟩)
    hlo rfl (StableHlo.binary main_v20 main_cst_5 main_v21 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F))) (fun _ => .ret ⟨⟩)
    hlo rfl (StableHlo.nullary main_cst_6 (constant S_ .f32 0xFF800000#32)) (fun _ => .ret ⟨⟩)
    hlo rfl (StableHlo.unary main_cst_6 main_v22 (broadcastInDim S64 ![] bcast_S_S64 : (⟨S_, .f32⟩ : BufTy).Contents (Elt F) → (⟨S64, .f32⟩ : BufTy).Contents (Elt F))) (fun _ => .ret ⟨⟩)
    hlo rfl (StableHlo.binary main_v22 main_v21 main_v23 (maximumf : (⟨S64, .f32⟩ : BufTy).Contents (Elt F) → (⟨S64, .f32⟩ : BufTy).Contents (Elt F) → (⟨S64, .f32⟩ : BufTy).Contents (Elt F))) (fun _ => .ret ⟨⟩)
    hlo rfl (StableHlo.unary main_v23 main_v24 (broadcastInDim S64x1 ![0] bcast_S64_S64x1_0 : (⟨S64, .f32⟩ : BufTy).Contents (Elt F) → (⟨S64x1, .f32⟩ : BufTy).Contents (Elt F))) (fun _ => .ret ⟨⟩)
    hlo rfl (StableHlo.unary main_v24 main_v25 (broadcastInDim S64x100000 ![0, 1] bcast_S64x1_S64x100000_0_1 : (⟨S64x1, .f32⟩ : BufTy).Contents (Elt F) → (⟨S64x100000, .f32⟩ : BufTy).Contents (Elt F))) (fun _ => .ret ⟨⟩)
    hlo rfl (StableHlo.binary main_v20 main_v25 main_v26 (subf : (⟨S64x100000, .f32⟩ : BufTy).Contents (Elt F) → (⟨S64x100000, .f32⟩ : BufTy).Contents (Elt F) → (⟨S64x100000, .f32⟩ : BufTy).Contents (Elt F))) (fun _ => .ret ⟨⟩)
    hlo rfl (StableHlo.unary main_v26 main_v27 (Host.exp : (⟨S64x100000, .f32⟩ : BufTy).Contents (Elt F) → (⟨S64x100000, .f32⟩ : BufTy).Contents (Elt F))) (fun _ => .ret ⟨⟩)
    hlo rfl (StableHlo.nullary main_cst_7 (constant S_ .f32 0x00000000#32)) (fun _ => .ret ⟨⟩)
    hlo rfl (StableHlo.binary main_v27 main_cst_7 main_v28 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F))) (fun _ => .ret ⟨⟩)
    hlo rfl (StableHlo.unary main_v28 main_v29 (broadcastInDim S64x1 ![0] bcast_S64_S64x1_0 : (⟨S64, .f32⟩ : BufTy).Contents (Elt F) → (⟨S64x1, .f32⟩ : BufTy).Contents (Elt F))) (fun _ => .ret ⟨⟩)
    hlo rfl (StableHlo.unary main_v29 main_v30 (broadcastInDim S64x100000 ![0, 1] bcast_S64x1_S64x100000_0_1 : (⟨S64x1, .f32⟩ : BufTy).Contents (Elt F) → (⟨S64x100000, .f32⟩ : BufTy).Contents (Elt F))) (fun _ => .ret ⟨⟩)
    hlo rfl (StableHlo.binary main_v27 main_v30 main_v31 (Host.divf : (⟨S64x100000, .f32⟩ : BufTy).Contents (Elt F) → (⟨S64x100000, .f32⟩ : BufTy).Contents (Elt F) → (⟨S64x100000, .f32⟩ : BufTy).Contents (Elt F))) (fun _ => .ret ⟨⟩)
    fn_cumsum.body (.of main_v31) main_call3
    hlo rfl (StableHlo.nullary main_cst_8 (constant S_ .f32 0x3F800000#32)) (fun _ => .ret ⟨⟩)
    hlo rfl (StableHlo.unary main_cst_8 main_v33 (broadcastInDim S64 ![] bcast_S_S64 : (⟨S_, .f32⟩ : BufTy).Contents (Elt F) → (⟨S64, .f32⟩ : BufTy).Contents (Elt F))) (fun _ => .ret ⟨⟩)
    hlo rfl (StableHlo.binary main_v33 main_arg2 main_v34 (subf : (⟨S64, .f32⟩ : BufTy).Contents (Elt F) → (⟨S64, .f32⟩ : BufTy).Contents (Elt F) → (⟨S64, .f32⟩ : BufTy).Contents (Elt F))) (fun _ => .ret ⟨⟩)
    hlo rfl (StableHlo.unary main_v34 main_v35 (broadcastInDim S64x1 ![0] bcast_S64_S64x1_0 : (⟨S64, .f32⟩ : BufTy).Contents (Elt F) → (⟨S64x1, .f32⟩ : BufTy).Contents (Elt F))) (fun _ => .ret ⟨⟩)
    hlo rfl (StableHlo.unary main_v35 main_v36 (broadcastInDim S64x100000 ![0, 1] bcast_S64x1_S64x100000_0_1 : (⟨S64x1, .f32⟩ : BufTy).Contents (Elt F) → (⟨S64x100000, .f32⟩ : BufTy).Contents (Elt F))) (fun _ => .ret ⟨⟩) : Prog (TpuEff nD τ sig (Elt F) (Pipeline.Sig Λ₀ (Fin 0) fun p => (pcfgs (F := F) p).Adm) .tc) PUnit) = seq ops_part0_1 := rfl
set_option maxRecDepth 8192 in
set_option maxHeartbeats 4000000 in
theorem main_part0_2_eq : (do
    hlo rfl (StableHlo.binary main_v32 main_v36 main_v37 (cmpf .ole : (⟨S64x100000, .f32⟩ : BufTy).Contents (Elt F) → (⟨S64x100000, .f32⟩ : BufTy).Contents (Elt F) → (⟨S64x100000, .i1⟩ : BufTy).Contents (Elt F))) (fun _ => .ret ⟨⟩)
    hlo rfl (StableHlo.nullary main_c_9 (constantI S_ 32 99999#32)) (fun _ => .ret ⟨⟩)
    hlo rfl (StableHlo.unary main_c_9 main_v38 (broadcastInDim S64x100000 ![] bcast_S_S64x100000 : (⟨S_, .i32⟩ : BufTy).Contents (Elt F) → (⟨S64x100000, .i32⟩ : BufTy).Contents (Elt F))) (fun _ => .ret ⟨⟩)
    hlo rfl (StableHlo.binary main_v5 main_v38 main_v39 (cmpi .ne : (⟨S64x100000, .i32⟩ : BufTy).Contents (Elt F) → (⟨S64x100000, .i32⟩ : BufTy).Contents (Elt F) → (⟨S64x100000, .i1⟩ : BufTy).Contents (Elt F))) (fun _ => .ret ⟨⟩)
    hlo rfl (StableHlo.binary main_v37 main_v39 main_v40 (andi : (⟨S64x100000, .i1⟩ : BufTy).Contents (Elt F) → (⟨S64x100000, .i1⟩ : BufTy).Contents (Elt F) → (⟨S64x100000, .i1⟩ : BufTy).Contents (Elt F))) (fun _ => .ret ⟨⟩)
    hlo rfl (StableHlo.nullary main_cst_10 (constant S_ .f32 0xFF800000#32)) (fun _ => .ret ⟨⟩)
    fn_where_0.body (.of main_v40) (.of main_cst_10) (.of main_v20) main_call4
    hlo rfl (StableHlo.binary main_v7_1 main_v41 main_v42_0 ((fun x y => (Host.sort2 S64x100000 1 comparator_i32_f32_d1 x y).1) : (⟨S64x100000, .i32⟩ : BufTy).Contents (Elt F) → (⟨S64x100000, .f32⟩ : BufTy).Contents (Elt F) → (⟨S64x100000, .i32⟩ : BufTy).Contents (Elt F))) (fun _ => .ret ⟨⟩)
    hlo rfl (StableHlo.binary main_v7_1 main_v41 main_v42_1 ((fun x y => (Host.sort2 S64x100000 1 comparator_i32_f32_d1 x y).2) : (⟨S64x100000, .i32⟩ : BufTy).Contents (Elt F) → (⟨S64x100000, .f32⟩ : BufTy).Contents (Elt F) → (⟨S64x100000, .f32⟩ : BufTy).Contents (Elt F))) (fun _ => .ret ⟨⟩)
    hlo rfl (StableHlo.nullary main_cst_11 (constant S_ .f32 0xFF800000#32)) (fun _ => .ret ⟨⟩)
    hlo rfl (StableHlo.binary main_v42_1 main_cst_11 main_v43 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F))) (fun _ => .ret ⟨⟩) : Prog (TpuEff nD τ sig (Elt F) (Pipeline.Sig Λ₀ (Fin 0) fun p => (pcfgs (F := F) p).Adm) .tc) PUnit) = seq ops_part0_2 := rfl
set_option maxRecDepth 8192 in
set_option maxHeartbeats 4000000 in
theorem main_part0_eq (c : Dev nD) : main_part0 (F := F) c = seq ops_part0 := by
  unfold ops_part0
  rw [seq_append, seq_append, ← main_part0_0_eq, ← main_part0_1_eq, ← main_part0_2_eq]
  unfold main_part0
  simp only [bind_assoc]
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., nullary_bufs_sub .., binary_bufs_sub .., binary_bufs_sub .., nullary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., ternary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., unary_bufs_sub .., ternary_bufs_sub .., binary_bufs_sub .., binary_bufs_sub .., nullary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., nullary_bufs_sub .., unary_bufs_sub .., binary_bufs_sub .., unary_bufs_sub .., reshape_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., reshape_bufs_sub .., binary_bufs_sub .., nullary_bufs_sub .., unary_bufs_sub .., binary_bufs_sub .., binary_bufs_sub .., nullary_bufs_sub .., unary_bufs_sub .., unary_bufs_sub .., unary_bufs_sub .., reshape_bufs_sub .., unary_bufs_sub .., unary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., ternary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., ternary_bufs_sub .., nullary_bufs_sub .., binary_bufs_sub .., unary_bufs_sub .., unary_bufs_sub .., binary_bufs_sub .., nullary_bufs_sub .., unary_bufs_sub .., unary_bufs_sub .., unary_bufs_sub .., ternary_bufs_sub .., nullary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

end Cert.ReferenceIdeal.Whole

end
-- ==== Proof.RefRun.lean ====
/-
  The reference's run read back: what every buffer ends at, as a term of the arguments.
-/
module

public import proofs.«01_k».proof.Proof.RefOps
public import Idealize.ShloMosaic.Lib.StableHlo.Run
public import Idealize.ShloMosaic.Lib.Pipeline.Frame

@[expose] public section

set_option Elab.async false

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v4`'s composed term of the arguments (named: it is used 2 times). -/
def res_main_v4 (V0 : Valuation τ sig (Elt F)) : (Proc.devRef .tc main_v4 : DevRef τ sig).ty.Contents (Elt F) :=
  Host.divf (V0 (Proc.devRef .tc main_arg0)) (broadcastInDim S64x100000 ![0, 1] bcast_S64x1_S64x100000_0_1 (broadcastInDim S64x1 ![0] bcast_S64_S64x1_0 (maximumf (V0 (Proc.devRef .tc main_arg1)) (broadcastInDim S64 ![] bcast_S_S64 (constant S_ .f32 0x3C23D70A#32)))))

set_option maxRecDepth 8192 in
/-- `main_v6`'s composed term of the arguments (named: it is used 2 times). -/
def res_main_v6 (V0 : Valuation τ sig (Elt F)) : (Proc.devRef .tc main_v6 : DevRef τ sig).ty.Contents (Elt F) :=
  iotaInDim S64x100000 32 1

set_option maxRecDepth 8192 in
/-- `main_v7_0`'s composed term of the arguments (named: it is used 3 times). -/
def res_main_v7_0 (V0 : Valuation τ sig (Elt F)) : (Proc.devRef .tc main_v7_0 : DevRef τ sig).ty.Contents (Elt F) :=
  (Host.sort2 S64x100000 1 comparator_f32_i32_d1 (res_main_v4 V0) (res_main_v6 V0)).1

set_option maxRecDepth 8192 in
/-- `main_v7_1`'s composed term of the arguments (named: it is used 2 times). -/
def res_main_v7_1 (V0 : Valuation τ sig (Elt F)) : (Proc.devRef .tc main_v7_1 : DevRef τ sig).ty.Contents (Elt F) :=
  (Host.sort2 S64x100000 1 comparator_f32_i32_d1 (res_main_v4 V0) (res_main_v6 V0)).2

set_option maxRecDepth 8192 in
/-- `main_v20`'s composed term of the arguments (named: it is used 3 times). -/
def res_main_v20 (V0 : Valuation τ sig (Elt F)) : (Proc.devRef .tc main_v20 : DevRef τ sig).ty.Contents (Elt F) :=
  select (cmpf .olt (res_main_v7_0 V0) (broadcastInDim S64x100000 ![0, 1] bcast_S64x1_S64x100000_0_1 (broadcastInDim S64x1 ![0] bcast_S64_S64x1_0 (Host.reduce FloatOps.maximumf (select (cmpi .eq (iotaInDim S64x100000 32 1) (broadcastInDim S64x100000 ![0, 1] bcast_S64x1_S64x100000_0_1 (broadcastInDim S64x1 ![0] bcast_S64_S64x1_0 (subi (broadcastInDim S64 ![] bcast_S_S64 (constantI S_ 32 100000#32)) (minsi (broadcastInDim S64 ![] bcast_S_S64 (id (constantI S_ 32 100000#32))) (maxsi (broadcastInDim S64 ![] bcast_S_S64 (id (constantI S_ 32 1#32))) (V0 (Proc.devRef .tc main_arg3)))))))) (res_main_v7_0 V0) (broadcastInDim S64x100000 ![] bcast_S_S64x100000 (id (constant S_ .f32 0xFF800000#32)))) (constant S_ .f32 0xFF800000#32) reducesTo_S64x100000_S64_d1 h_S_)))) (broadcastInDim S64x100000 ![] bcast_S_S64x100000 (id (constant S_ .f32 0xFF800000#32))) (res_main_v7_0 V0)

set_option maxRecDepth 8192 in
/-- `main_v27`'s composed term of the arguments (named: it is used 2 times). -/
def res_main_v27 (V0 : Valuation τ sig (Elt F)) : (Proc.devRef .tc main_v27 : DevRef τ sig).ty.Contents (Elt F) :=
  Host.exp (subf (res_main_v20 V0) (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (res_main_v20 V0) (constant S_ .f32 0xFF800000#32) reducesTo_S64x100000_S64_d1 h_S_)))))

set_option maxRecDepth 8192 in
/-- `main_v41`'s composed term of the arguments (named: it is used 2 times). -/
def res_main_v41 (V0 : Valuation τ sig (Elt F)) : (Proc.devRef .tc main_v41 : DevRef τ sig).ty.Contents (Elt F) :=
  select (andi (cmpf .ole (Host.reduceWindowAdd ![1, 100000] ![1, 1] ![0, 99999] ![0, 0] (Host.divf (res_main_v27 V0) (broadcastInDim S64x100000 ![0, 1] bcast_S64x1_S64x100000_0_1 (broadcastInDim S64x1 ![0] bcast_S64_S64x1_0 (Host.reduceAdd (res_main_v27 V0) (constant S_ .f32 0x00000000#32) reducesTo_S64x100000_S64_d1 h_S_)))) (broadcastInDim S_ ![] bcast_S_S_ (constant S_ .f32 0x00000000#32)) reduceWindows_S64x100000_S64x100000_w1s1p0_0_w100000s1p99999_0 h_S_) (broadcastInDim S64x100000 ![0, 1] bcast_S64x1_S64x100000_0_1 (broadcastInDim S64x1 ![0] bcast_S64_S64x1_0 (subf (broadcastInDim S64 ![] bcast_S_S64 (constant S_ .f32 0x3F800000#32)) (V0 (Proc.devRef .tc main_arg2)))))) (cmpi .ne (iotaInDim S64x100000 32 1) (broadcastInDim S64x100000 ![] bcast_S_S64x100000 (constantI S_ 32 99999#32)))) (broadcastInDim S64x100000 ![] bcast_S_S64x100000 (id (constant S_ .f32 0xFF800000#32))) (res_main_v20 V0)

set_option maxRecDepth 8192 in
/-- `main_v42_1`'s composed term of the arguments (named: it is used 3 times). -/
def res_main_v42_1 (V0 : Valuation τ sig (Elt F)) : (Proc.devRef .tc main_v42_1 : DevRef τ sig).ty.Contents (Elt F) :=
  (Host.sort2 S64x100000 1 comparator_i32_f32_d1 (res_main_v7_1 V0) (res_main_v41 V0)).2

set_option maxRecDepth 8192 in
/-- `main_v49`'s composed term of the arguments (named: it is used 2 times). -/
def res_main_v49 (V0 : Valuation τ sig (Elt F)) : (Proc.devRef .tc main_v49 : DevRef τ sig).ty.Contents (Elt F) :=
  Host.exp (subf (res_main_v42_1 V0) (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (res_main_v42_1 V0) (constant S_ .f32 0xFF800000#32) reducesTo_S64x100000_S64_d1 h_S_)))))

set_option maxRecDepth 8192 in
/-- `main_v53`'s composed term of the arguments (named: it is used 2 times). -/
def res_main_v53 (V0 : Valuation τ sig (Elt F)) : (Proc.devRef .tc main_v53 : DevRef τ sig).ty.Contents (Elt F) :=
  Host.divf (res_main_v49 V0) (broadcastInDim S64x100000 ![0, 1] bcast_S64x1_S64x100000_0_1 (broadcastInDim S64x1 ![0] bcast_S64_S64x1_0 (Host.reduceAdd (res_main_v49 V0) (constant S_ .f32 0x00000000#32) reducesTo_S64x100000_S64_d1 h_S_)))

set_option maxRecDepth 8192 in
/-- `main_v60`'s composed term of the arguments (named: it is used 5 times). -/
def res_main_v60 (V0 : Valuation τ sig (Elt F)) : (Proc.devRef .tc main_v60 : DevRef τ sig).ty.Contents (Elt F) :=
  select (cmpf .olt (res_main_v53 V0) (broadcastInDim S64x100000 ![0, 1] bcast_S64x1_S64x100000_0_1 (mulf (broadcastInDim S64x1 ![0] bcast_S64_S64x1_0 (V0 (Proc.devRef .tc main_arg4))) (broadcastInDim S64x1 ![0] bcast_S64_S64x1_0 (Host.reduce FloatOps.maximumf (res_main_v53 V0) (constant S_ .f32 0xFF800000#32) reducesTo_S64x100000_S64_d1 h_S_))))) (broadcastInDim S64x100000 ![] bcast_S_S64x100000 (id (constant S_ .f32 0xFF800000#32))) (res_main_v42_1 V0)

set_option maxRecDepth 8192 in
/-- `main_v67`'s composed term of the arguments (named: it is used 2 times). -/
def res_main_v67 (V0 : Valuation τ sig (Elt F)) : (Proc.devRef .tc main_v67 : DevRef τ sig).ty.Contents (Elt F) :=
  Host.exp (subf (res_main_v60 V0) (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (res_main_v60 V0) (constant S_ .f32 0xFF800000#32) reducesTo_S64x100000_S64_d1 h_S_)))))

set_option maxRecDepth 8192 in
/-- `main_call6_v5`'s composed term of the arguments (named: it is used 2 times). -/
def res_main_call6_v5 (V0 : Valuation τ sig (Elt F)) : (Proc.devRef .tc main_call6_v5 : DevRef τ sig).ty.Contents (Elt F) :=
  subf (res_main_v60 V0) (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (res_main_v60 V0) (constant S_ .f32 0xFF800000#32) reducesTo_S64x100000_S64_d1 h_S_))))

set_option maxRecDepth 8192 in
/-- `main_v72`'s composed term of the arguments (named: it is used 2 times). -/
def res_main_v72 (V0 : Valuation τ sig (Elt F)) : (Proc.devRef .tc main_v72 : DevRef τ sig).ty.Contents (Elt F) :=
  subf (res_main_call6_v5 V0) (broadcastInDim S64x100000 ![0, 1] bcast_S64x1_S64x100000_0_1 (Host.log (broadcastInDim S64x1 ![0] bcast_S64_S64x1_0 (Host.reduceAdd (Host.exp (res_main_call6_v5 V0)) (constant S_ .f32 0x00000000#32) reducesTo_S64x100000_S64_d1 h_S_))))

set_option maxRecDepth 8192 in
/-- `main_v73`'s composed term of the arguments (named: it is used 2 times). -/
def res_main_v73 (V0 : Valuation τ sig (Elt F)) : (Proc.devRef .tc main_v73 : DevRef τ sig).ty.Contents (Elt F) :=
  Host.exp (res_main_v72 V0)

set_option maxRecDepth 8192 in
/-- `main_values`'s composed term of the arguments (named: it is used 2 times). -/
def res_main_values (V0 : Valuation τ sig (Elt F)) : (Proc.devRef .tc main_values : DevRef τ sig).ty.Contents (Elt F) :=
  (Host.topK S64x2 1 (FloatOps.cmpfTotal .gt) (res_main_v73 V0) sliceFits_S64x100000_S64x2).1

set_option maxRecDepth 8192 in
/-- `main_v83`'s composed term of the arguments (named: it is used 3 times). -/
def res_main_v83 (V0 : Valuation τ sig (Elt F)) : (Proc.devRef .tc main_v83 : DevRef τ sig).ty.Contents (Elt F) :=
  andi (cmpi .slt (V0 (Proc.devRef .tc main_arg5)) (broadcastInDim S64 ![] bcast_S_S64 (constantI S_ 32 3#32))) (cmpf .olt (subf (shapeCast _ (extractStridedSlice S64x1 ![0, 0] (res_main_values V0) slices_S64x2_S64x1_0_0) shapeCasts_S64x1_S64) (shapeCast _ (extractStridedSlice S64x1 ![0, 1] (res_main_values V0) slices_S64x2_S64x1_0_1) shapeCasts_S64x1_S64)) (broadcastInDim S64 ![] bcast_S_S64 (constant S_ .f32 0x3F666666#32)))

set_option maxRecDepth 8192 in
/-- `main_v85`'s composed term of the arguments (named: it is used 2 times). -/
def res_main_v85 (V0 : Valuation τ sig (Elt F)) : (Proc.devRef .tc main_v85 : DevRef τ sig).ty.Contents (Elt F) :=
  broadcastInDim S1x100000 ![1] bcast_S100000_S1x100000_1 (iotaInDim S100000 32 0)

set_option maxRecDepth 8192 in
/-- `main_v95`'s composed term of the arguments (named: it is used 4 times). -/
def res_main_v95 (V0 : Valuation τ sig (Elt F)) : (Proc.devRef .tc main_v95 : DevRef τ sig).ty.Contents (Elt F) :=
  select (andi (broadcastInDim S64x100000 ![0, 1] bcast_S64x1_S64x100000_0_1 (broadcastInDim S64x1 ![0] bcast_S64_S64x1_0 (res_main_v83 V0))) (cmpi .eq (broadcastInDim S64x100000 ![0, 1] bcast_S1x100000_S64x100000_0_1 (res_main_v85 V0)) (broadcastInDim S64x100000 ![0, 1] bcast_S64x1_S64x100000_0_1 (broadcastInDim S64x1 ![0] bcast_S64_S64x1_0 (shapeCast _ (extractStridedSlice S64x1 ![0, 0] ((Host.topK S64x2 1 (FloatOps.cmpfTotal .gt) (res_main_v73 V0) sliceFits_S64x100000_S64x2).2) slices_S64x2_S64x1_0_0) shapeCasts_S64x1_S64))))) (broadcastInDim S64x100000 ![] bcast_S_S64x100000 (id (constant S_ .f32 0xFF800000#32))) (res_main_v60 V0)

set_option maxRecDepth 8192 in
/-- `main_v103`'s composed term of the arguments (named: it is used 2 times). -/
def res_main_v103 (V0 : Valuation τ sig (Elt F)) : (Proc.devRef .tc main_v103 : DevRef τ sig).ty.Contents (Elt F) :=
  Host.exp (subf (res_main_v95 V0) (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (res_main_v95 V0) (constant S_ .f32 0xFF800000#32) reducesTo_S64x100000_S64_d1 h_S_)))))

set_option maxRecDepth 8192 in
/-- `main_v108`'s composed term of the arguments (named: it is used 2 times). -/
def res_main_v108 (V0 : Valuation τ sig (Elt F)) : (Proc.devRef .tc main_v108 : DevRef τ sig).ty.Contents (Elt F) :=
  select (broadcastInDim S64x100000 ![0, 1] bcast_S64x1_S64x100000_0_1 (broadcastInDim S64x1 ![0] bcast_S64_S64x1_0 (res_main_v83 V0))) (Host.divf (res_main_v103 V0) (broadcastInDim S64x100000 ![0, 1] bcast_S64x1_S64x100000_0_1 (broadcastInDim S64x1 ![0] bcast_S64_S64x1_0 (Host.reduceAdd (res_main_v103 V0) (constant S_ .f32 0x00000000#32) reducesTo_S64x100000_S64_d1 h_S_)))) (Host.divf (res_main_v67 V0) (broadcastInDim S64x100000 ![0, 1] bcast_S64x1_S64x100000_0_1 (broadcastInDim S64x1 ![0] bcast_S64_S64x1_0 (Host.reduceAdd (res_main_v67 V0) (constant S_ .f32 0x00000000#32) reducesTo_S64x100000_S64_d1 h_S_))))

set_option maxRecDepth 8192 in
/-- `main_call9_v5`'s composed term of the arguments (named: it is used 2 times). -/
def res_main_call9_v5 (V0 : Valuation τ sig (Elt F)) : (Proc.devRef .tc main_call9_v5 : DevRef τ sig).ty.Contents (Elt F) :=
  subf (res_main_v95 V0) (broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (res_main_v95 V0) (constant S_ .f32 0xFF800000#32) reducesTo_S64x100000_S64_d1 h_S_))))

/-- `res_main_v108` by its position among the values @main returns, 0 counting from 0: the name for hand proofs to cite, since
    a re-print renumbers `main_v108`. An abbreviation: it unfolds to the `res_main_v108` that `run` states. -/
abbrev res_out0 (V0 : Valuation τ sig (Elt F)) : (Proc.devRef .tc main_v108 : DevRef τ sig).ty.Contents (Elt F) := res_main_v108 V0

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_v2, main_v3, main_v4, main_v5, main_v6, main_v7_0, main_v7_1, main_v8, main_c, main_c_0, main_call0_v0, main_call0_v1, main_call0_v2, main_call0_v3, main_call0_v4, main_v9, main_c_1, main_v10, main_v11, main_v12, main_v13, main_v14, main_cst_2, main_call1_v0, main_call1_v1, main_v15, main_cst_3]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
set_option maxRecDepth 8192 in
set_option maxHeartbeats 2000000 in
theorem val0_1_main_v5 (V0 : Valuation τ sig (Elt F)) : val0_1 V0 (no_index (Proc.devRef .tc main_v5)) = iotaInDim S64x100000 32 1 := by
  unfold val0_1
  simp only [ops_part0_0, TRef.binary, TRef.ternary, TRef.unary, TRef.toBuf, TRef.ofBuf, cast_eq]
  after_results_simp
  all_goals rfl
set_option maxRecDepth 8192 in
set_option maxHeartbeats 2000000 in
theorem val0_1_main_v7_0 (V0 : Valuation τ sig (Elt F)) : val0_1 V0 (no_index (Proc.devRef .tc main_v7_0)) = res_main_v7_0 V0 := by
  unfold val0_1
  simp only [ops_part0_0, TRef.binary, TRef.ternary, TRef.unary, TRef.toBuf, TRef.ofBuf, cast_eq]
  after_results_simp
  simp only [val0_main_arg1, val0_main_arg0] <;> rfl
set_option maxRecDepth 8192 in
set_option maxHeartbeats 2000000 in
theorem val0_1_main_v7_1 (V0 : Valuation τ sig (Elt F)) : val0_1 V0 (no_index (Proc.devRef .tc main_v7_1)) = res_main_v7_1 V0 := by
  unfold val0_1
  simp only [ops_part0_0, TRef.binary, TRef.ternary, TRef.unary, TRef.toBuf, TRef.ofBuf, cast_eq]
  after_results_simp
  simp only [val0_main_arg1, val0_main_arg0] <;> rfl
set_option maxRecDepth 8192 in
set_option maxHeartbeats 2000000 in
theorem val0_1_main_v15 (V0 : Valuation τ sig (Elt F)) : val0_1 V0 (no_index (Proc.devRef .tc main_v15)) = select (cmpi .eq (iotaInDim S64x100000 32 1) (broadcastInDim S64x100000 ![0, 1] bcast_S64x1_S64x100000_0_1 (broadcastInDim S64x1 ![0] bcast_S64_S64x1_0 (subi (broadcastInDim S64 ![] bcast_S_S64 (constantI S_ 32 100000#32)) (minsi (broadcastInDim S64 ![] bcast_S_S64 (id (constantI S_ 32 100000#32))) (maxsi (broadcastInDim S64 ![] bcast_S_S64 (id (constantI S_ 32 1#32))) (V0 (Proc.devRef .tc main_arg3)))))))) (res_main_v7_0 V0) (broadcastInDim S64x100000 ![] bcast_S_S64x100000 (id (constant S_ .f32 0xFF800000#32))) := by
  unfold val0_1
  simp only [ops_part0_0, TRef.binary, TRef.ternary, TRef.unary, TRef.toBuf, TRef.ofBuf, cast_eq]
  after_results_simp
  simp only [val0_main_arg1, val0_main_arg0, val0_main_arg3] <;> rfl
set_option maxRecDepth 8192 in
set_option maxHeartbeats 2000000 in
theorem val0_1_main_cst_3 (V0 : Valuation τ sig (Elt F)) : val0_1 V0 (no_index (Proc.devRef .tc main_cst_3)) = constant S_ .f32 0xFF800000#32 := by
  unfold val0_1
  simp only [ops_part0_0, TRef.binary, TRef.ternary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v16, main_v17, main_v18, main_v19, main_cst_4, main_call2_v0, main_call2_v1, main_v20, main_cst_5, main_v21, main_cst_6, main_v22, main_v23, main_v24, main_v25, main_v26, main_v27, main_cst_7, main_v28, main_v29, main_v30, main_v31, main_call3_call0_cst, main_call3_call0_v0, main_v32, main_cst_8, main_v33, main_v34, main_v35, main_v36]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_v5 (V0 : Valuation τ sig (Elt F)) : val0_2 V0 (no_index (Proc.devRef .tc main_v5)) = iotaInDim S64x100000 32 1 :=
  (val0_2_keep V0 main_v5 (by decide)).trans (val0_1_main_v5 V0)
theorem val0_2_main_v7_1 (V0 : Valuation τ sig (Elt F)) : val0_2 V0 (no_index (Proc.devRef .tc main_v7_1)) = res_main_v7_1 V0 :=
  (val0_2_keep V0 main_v7_1 (by decide)).trans (val0_1_main_v7_1 V0)
set_option maxRecDepth 8192 in
set_option maxHeartbeats 2000000 in
theorem val0_2_main_v20 (V0 : Valuation τ sig (Elt F)) : val0_2 V0 (no_index (Proc.devRef .tc main_v20)) = res_main_v20 V0 := by
  unfold val0_2
  simp only [ops_part0_1, TRef.binary, TRef.nullary, TRef.ternary, TRef.unary, TRef.toBuf, TRef.ofBuf, cast_eq]
  after_results_simp
  simp only [val0_1_main_v7_0, val0_1_main_cst_3, val0_1_main_v15] <;> rfl
set_option maxRecDepth 8192 in
set_option maxHeartbeats 2000000 in
theorem val0_2_main_v32 (V0 : Valuation τ sig (Elt F)) : val0_2 V0 (no_index (Proc.devRef .tc main_v32)) = Host.reduceWindowAdd ![1, 100000] ![1, 1] ![0, 99999] ![0, 0] (Host.divf (res_main_v27 V0) (broadcastInDim S64x100000 ![0, 1] bcast_S64x1_S64x100000_0_1 (broadcastInDim S64x1 ![0] bcast_S64_S64x1_0 (Host.reduceAdd (res_main_v27 V0) (constant S_ .f32 0x00000000#32) reducesTo_S64x100000_S64_d1 h_S_)))) (broadcastInDim S_ ![] bcast_S_S_ (constant S_ .f32 0x00000000#32)) reduceWindows_S64x100000_S64x100000_w1s1p0_0_w100000s1p99999_0 h_S_ := by
  unfold val0_2
  simp only [ops_part0_1, TRef.binary, TRef.nullary, TRef.ternary, TRef.unary, TRef.toBuf, TRef.ofBuf, cast_eq]
  after_results_simp
  simp only [val0_1_main_v7_0, val0_1_main_cst_3, val0_1_main_v15] <;> rfl
set_option maxRecDepth 8192 in
set_option maxHeartbeats 2000000 in
theorem val0_2_main_v36 (V0 : Valuation τ sig (Elt F)) : val0_2 V0 (no_index (Proc.devRef .tc main_v36)) = broadcastInDim S64x100000 ![0, 1] bcast_S64x1_S64x100000_0_1 (broadcastInDim S64x1 ![0] bcast_S64_S64x1_0 (subf (broadcastInDim S64 ![] bcast_S_S64 (constant S_ .f32 0x3F800000#32)) (V0 (Proc.devRef .tc main_arg2)))) := by
  unfold val0_2
  simp only [ops_part0_1, TRef.binary, TRef.nullary, TRef.ternary, TRef.unary, TRef.toBuf, TRef.ofBuf, cast_eq]
  after_results_simp
  simp only [val0_1_main_arg2] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v37, main_c_9, main_v38, main_v39, main_v40, main_cst_10, main_call4_v0, main_call4_v1, main_v41, main_v42_0, main_v42_1, main_cst_11, main_v43]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
set_option maxRecDepth 8192 in
set_option maxHeartbeats 1300000 in
theorem val1_main_v42_1 (V0 : Valuation τ sig (Elt F)) : val1 V0 (no_index (Proc.devRef .tc main_v42_1)) = res_main_v42_1 V0 := by
  unfold val1
  simp only [ops_part0_2, TRef.ternary, TRef.unary, TRef.toBuf, TRef.ofBuf, cast_eq]
  after_results_simp
  simp only [val0_2_main_v20, val0_2_main_v5, val0_2_main_v36, val0_2_main_v32, val0_2_main_v7_1] <;> rfl
set_option maxRecDepth 8192 in
set_option maxHeartbeats 1300000 in
theorem val1_main_v43 (V0 : Valuation τ sig (Elt F)) : val1 V0 (no_index (Proc.devRef .tc main_v43)) = Host.reduce FloatOps.maximumf (res_main_v42_1 V0) (constant S_ .f32 0xFF800000#32) reducesTo_S64x100000_S64_d1 h_S_ := by
  unfold val1
  simp only [ops_part0_2, TRef.ternary, TRef.unary, TRef.toBuf, TRef.ofBuf, cast_eq]
  after_results_simp
  simp only [val0_2_main_v20, val0_2_main_v5, val0_2_main_v36, val0_2_main_v32, val0_2_main_v7_1] <;> rfl

/-- The device's buffer contents after @main's first 103 operations. -/
def val1_1 (V0 : Valuation τ sig (Elt F)) : Valuation τ sig (Elt F) := after ops_part1_0 (val1 V0)
/-- The buffers that window `ops_part1_0`'s operations write. -/
abbrev ops_part1_0_W : List (Ref sig .tc) := [main_cst_12, main_v44, main_v45, main_v46, main_v47, main_v48, main_v49, main_cst_13, main_v50, main_v51, main_v52, main_v53, main_cst_14, main_v54, main_v55, main_v56, main_v57, main_v58, main_v59, main_cst_15, main_call5_v0, main_call5_v1, main_v60, main_cst_16, main_v61, main_cst_17, main_v62, main_v63, main_v64, main_v65]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
set_option maxRecDepth 8192 in
set_option maxHeartbeats 2000000 in
theorem val1_1_main_v60 (V0 : Valuation τ sig (Elt F)) : val1_1 V0 (no_index (Proc.devRef .tc main_v60)) = res_main_v60 V0 := by
  unfold val1_1
  simp only [ops_part1_0, TRef.ternary, TRef.unary, TRef.toBuf, TRef.ofBuf, cast_eq]
  after_results_simp
  simp only [val1_main_v42_1, val1_main_arg4, val1_main_v43] <;> rfl
set_option maxRecDepth 8192 in
set_option maxHeartbeats 2000000 in
theorem val1_1_main_v65 (V0 : Valuation τ sig (Elt F)) : val1_1 V0 (no_index (Proc.devRef .tc main_v65)) = broadcastInDim S64x100000 ![0, 1] bcast_S64x1_S64x100000_0_1 (broadcastInDim S64x1 ![0] bcast_S64_S64x1_0 (maximumf (broadcastInDim S64 ![] bcast_S_S64 (constant S_ .f32 0xFF800000#32)) (Host.reduce FloatOps.maximumf (res_main_v60 V0) (constant S_ .f32 0xFF800000#32) reducesTo_S64x100000_S64_d1 h_S_))) := by
  unfold val1_1
  simp only [ops_part1_0, TRef.ternary, TRef.unary, TRef.toBuf, TRef.ofBuf, cast_eq]
  after_results_simp
  simp only [val1_main_v42_1, val1_main_arg4, val1_main_v43] <;> rfl

/-- The device's buffer contents after @main's first 133 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v66, main_v67, main_cst_18, main_v68, main_v69, main_v70, main_v71, main_call6_cst, main_call6_v0, main_call6_cst_0, main_call6_v1, main_call6_v2, main_call6_v3, main_call6_v4, main_call6_v5, main_call6_v6, main_call6_cst_1, main_call6_v7, main_call6_v8, main_call6_v9, main_call6_v10, main_v72, main_v73, main_values, main_indices, main_c_19, main_v74, main_v75, main_v76, main_v77]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_v60 (V0 : Valuation τ sig (Elt F)) : val1_2 V0 (no_index (Proc.devRef .tc main_v60)) = res_main_v60 V0 :=
  (val1_2_keep V0 main_v60 (by decide)).trans (val1_1_main_v60 V0)
set_option maxRecDepth 8192 in
set_option maxHeartbeats 2000000 in
theorem val1_2_main_v71 (V0 : Valuation τ sig (Elt F)) : val1_2 V0 (no_index (Proc.devRef .tc main_v71)) = Host.divf (res_main_v67 V0) (broadcastInDim S64x100000 ![0, 1] bcast_S64x1_S64x100000_0_1 (broadcastInDim S64x1 ![0] bcast_S64_S64x1_0 (Host.reduceAdd (res_main_v67 V0) (constant S_ .f32 0x00000000#32) reducesTo_S64x100000_S64_d1 h_S_))) := by
  unfold val1_2
  simp only [ops_part1_1, TRef.binary, TRef.nullary, TRef.unary, TRef.toBuf, TRef.ofBuf, cast_eq]
  after_results_simp
  simp only [val1_1_main_v65, val1_1_main_v60] <;> rfl
set_option maxRecDepth 8192 in
set_option maxHeartbeats 2000000 in
theorem val1_2_main_v72 (V0 : Valuation τ sig (Elt F)) : val1_2 V0 (no_index (Proc.devRef .tc main_v72)) = res_main_v72 V0 := by
  unfold val1_2
  simp only [ops_part1_1, TRef.binary, TRef.nullary, TRef.unary, TRef.toBuf, TRef.ofBuf, cast_eq]
  after_results_simp
  simp only [val1_1_main_v60] <;> rfl
set_option maxRecDepth 8192 in
set_option maxHeartbeats 2000000 in
theorem val1_2_main_values (V0 : Valuation τ sig (Elt F)) : val1_2 V0 (no_index (Proc.devRef .tc main_values)) = res_main_values V0 := by
  unfold val1_2
  simp only [ops_part1_1, TRef.binary, TRef.nullary, TRef.unary, TRef.toBuf, TRef.ofBuf, cast_eq]
  after_results_simp
  simp only [val1_1_main_v60] <;> rfl
set_option maxRecDepth 8192 in
set_option maxHeartbeats 2000000 in
theorem val1_2_main_indices (V0 : Valuation τ sig (Elt F)) : val1_2 V0 (no_index (Proc.devRef .tc main_indices)) = (Host.topK S64x2 1 (FloatOps.cmpfTotal .gt) (res_main_v73 V0) sliceFits_S64x100000_S64x2).2 := by
  unfold val1_2
  simp only [ops_part1_1, TRef.binary, TRef.nullary, TRef.unary, TRef.toBuf, TRef.ofBuf, cast_eq]
  after_results_simp
  simp only [val1_1_main_v60] <;> rfl
set_option maxRecDepth 8192 in
set_option maxHeartbeats 2000000 in
theorem val1_2_main_v75 (V0 : Valuation τ sig (Elt F)) : val1_2 V0 (no_index (Proc.devRef .tc main_v75)) = cmpi .slt (V0 (Proc.devRef .tc main_arg5)) (broadcastInDim S64 ![] bcast_S_S64 (constantI S_ 32 3#32)) := by
  unfold val1_2
  simp only [ops_part1_1, TRef.binary, TRef.nullary, TRef.unary, TRef.toBuf, TRef.ofBuf, cast_eq]
  after_results_simp
  simp only [val1_1_main_arg5] <;> rfl
set_option maxRecDepth 8192 in
set_option maxHeartbeats 2000000 in
theorem val1_2_main_v77 (V0 : Valuation τ sig (Elt F)) : val1_2 V0 (no_index (Proc.devRef .tc main_v77)) = shapeCast _ (extractStridedSlice S64x1 ![0, 0] (res_main_values V0) slices_S64x2_S64x1_0_0) shapeCasts_S64x1_S64 := by
  unfold val1_2
  simp only [ops_part1_1, TRef.binary, TRef.nullary, TRef.unary, TRef.toBuf, TRef.ofBuf, cast_eq]
  after_results_simp
  simp only [val1_1_main_v60] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v78, main_v79, main_v80, main_cst_20, main_v81, main_v82, main_v83, main_v84, main_v85, main_v86, main_v87, main_v88, main_v89, main_v90, main_v91, main_v92]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_v60 (V0 : Valuation τ sig (Elt F)) : val2 V0 (no_index (Proc.devRef .tc main_v60)) = res_main_v60 V0 :=
  (val2_keep V0 main_v60 (by decide)).trans (val1_2_main_v60 V0)
theorem val2_main_v71 (V0 : Valuation τ sig (Elt F)) : val2 V0 (no_index (Proc.devRef .tc main_v71)) = Host.divf (res_main_v67 V0) (broadcastInDim S64x100000 ![0, 1] bcast_S64x1_S64x100000_0_1 (broadcastInDim S64x1 ![0] bcast_S64_S64x1_0 (Host.reduceAdd (res_main_v67 V0) (constant S_ .f32 0x00000000#32) reducesTo_S64x100000_S64_d1 h_S_))) :=
  (val2_keep V0 main_v71 (by decide)).trans (val1_2_main_v71 V0)
theorem val2_main_v72 (V0 : Valuation τ sig (Elt F)) : val2 V0 (no_index (Proc.devRef .tc main_v72)) = res_main_v72 V0 :=
  (val2_keep V0 main_v72 (by decide)).trans (val1_2_main_v72 V0)
set_option maxRecDepth 8192 in
set_option maxHeartbeats 1600000 in
theorem val2_main_v83 (V0 : Valuation τ sig (Elt F)) : val2 V0 (no_index (Proc.devRef .tc main_v83)) = res_main_v83 V0 := by
  unfold val2
  simp only [ops_part1_2]
  after_results_simp
  simp only [val1_2_main_values, val1_2_main_v77, val1_2_main_v75] <;> rfl
set_option maxRecDepth 8192 in
set_option maxHeartbeats 1600000 in
theorem val2_main_v85 (V0 : Valuation τ sig (Elt F)) : val2 V0 (no_index (Proc.devRef .tc main_v85)) = res_main_v85 V0 := by
  unfold val2
  simp only [ops_part1_2]
  after_results_simp
  all_goals rfl
set_option maxRecDepth 8192 in
set_option maxHeartbeats 1600000 in
theorem val2_main_v86 (V0 : Valuation τ sig (Elt F)) : val2 V0 (no_index (Proc.devRef .tc main_v86)) = broadcastInDim S64x1 ![0] bcast_S64_S64x1_0 (res_main_v83 V0) := by
  unfold val2
  simp only [ops_part1_2]
  after_results_simp
  simp only [val1_2_main_values, val1_2_main_v77, val1_2_main_v75] <;> rfl
set_option maxRecDepth 8192 in
set_option maxHeartbeats 1600000 in
theorem val2_main_v92 (V0 : Valuation τ sig (Elt F)) : val2 V0 (no_index (Proc.devRef .tc main_v92)) = cmpi .eq (broadcastInDim S64x100000 ![0, 1] bcast_S1x100000_S64x100000_0_1 (res_main_v85 V0)) (broadcastInDim S64x100000 ![0, 1] bcast_S64x1_S64x100000_0_1 (broadcastInDim S64x1 ![0] bcast_S64_S64x1_0 (shapeCast _ (extractStridedSlice S64x1 ![0, 0] ((Host.topK S64x2 1 (FloatOps.cmpfTotal .gt) (res_main_v73 V0) sliceFits_S64x100000_S64x2).2) slices_S64x2_S64x1_0_0) shapeCasts_S64x1_S64))) := by
  unfold val2
  simp only [ops_part1_2]
  after_results_simp
  simp only [val1_2_main_indices] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v93, main_v94, main_cst_21, main_call7_v0, main_call7_v1, main_v95, main_v96, main_cst_22, main_v97, main_cst_23, main_v98, main_v99, main_v100, main_v101, main_v102, main_v103, main_cst_24, main_v104, main_v105, main_v106, main_v107, main_call8_v0, main_v108, main_v109, main_call9_cst, main_call9_v0, main_call9_cst_0, main_call9_v1, main_call9_v2, main_call9_v3, main_call9_v4, main_call9_v5, main_call9_v6, main_call9_cst_1, main_call9_v7, main_call9_v8, main_call9_v9, main_call9_v10, main_v110, main_call10_v0, main_v111, main_cst_25, main_v112, main_v113, main_v114, main_v115, main_c_26, main_call11_v0, main_call11_v1, main_call11_v2, main_v116, main_c_27, main_v117]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
set_option maxRecDepth 8192 in
set_option maxHeartbeats 2000000 in
theorem val3_main_v108 (V0 : Valuation τ sig (Elt F)) : val3 V0 (no_index (Proc.devRef .tc main_v108)) = res_main_v108 V0 := by
  unfold val3
  simp only [ops_part2, TRef.binary, TRef.nullary, TRef.ternary, TRef.unary, TRef.toBuf, TRef.ofBuf, cast_eq]
  after_results_simp
  simp only [val2_main_v71, val2_main_v60, val2_main_v92, val2_main_v86, val2_main_v83] <;> rfl
set_option maxRecDepth 8192 in
set_option maxHeartbeats 2000000 in
theorem val3_main_v111 (V0 : Valuation τ sig (Elt F)) : val3 V0 (no_index (Proc.devRef .tc main_v111)) = select (broadcastInDim S64x100000 ![0, 1] bcast_S64x1_S64x100000_0_1 (broadcastInDim S64x1 ![0] bcast_S64_S64x1_0 (res_main_v83 V0))) (subf (res_main_call9_v5 V0) (broadcastInDim S64x100000 ![0, 1] bcast_S64x1_S64x100000_0_1 (Host.log (broadcastInDim S64x1 ![0] bcast_S64_S64x1_0 (Host.reduceAdd (Host.exp (res_main_call9_v5 V0)) (constant S_ .f32 0x00000000#32) reducesTo_S64x100000_S64_d1 h_S_))))) (res_main_v72 V0) := by
  unfold val3
  simp only [ops_part2, TRef.binary, TRef.nullary, TRef.ternary, TRef.unary, TRef.toBuf, TRef.ofBuf, cast_eq]
  after_results_simp
  simp only [val2_main_v72, val2_main_v60, val2_main_v92, val2_main_v86, val2_main_v83] <;> rfl
set_option maxRecDepth 8192 in
set_option maxHeartbeats 2000000 in
theorem val3_main_v117 (V0 : Valuation τ sig (Elt F)) : val3 V0 (no_index (Proc.devRef .tc main_v117)) = Host.reduce IntOp.minsi (select (cmpf .oeq (res_main_v108 V0) (broadcastInDim S64x100000 ![0, 1] bcast_S64x1_S64x100000_0_1 (broadcastInDim S64x1 ![0] bcast_S64_S64x1_0 (Host.reduce FloatOps.maximumf (res_main_v108 V0) (constant S_ .f32 0xFF800000#32) reducesTo_S64x100000_S64_d1 h_S_)))) (broadcastInDim S64x100000 ![0, 1] bcast_S1x100000_S64x100000_0_1 (res_main_v85 V0)) (broadcastInDim S64x100000 ![] bcast_S_S64x100000 (id (constantI S_ 32 100000#32)))) (constantI S_ 32 2147483647#32) reducesTo_S64x100000_S64_d1 h_S_ := by
  unfold val3
  simp only [ops_part2, TRef.binary, TRef.nullary, TRef.ternary, TRef.unary, TRef.toBuf, TRef.ofBuf, cast_eq]
  after_results_simp
  simp only [val2_main_v85, val2_main_v71, val2_main_v60, val2_main_v92, val2_main_v86, val2_main_v83] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = res_main_v108 (launchContents m c)
      ∧ r.2.mem ((c.tc : Thread nD τ).loc main_v111) = select (broadcastInDim S64x100000 ![0, 1] bcast_S64x1_S64x100000_0_1 (broadcastInDim S64x1 ![0] bcast_S64_S64x1_0 (res_main_v83 (launchContents m c)))) (subf (res_main_call9_v5 (launchContents m c)) (broadcastInDim S64x100000 ![0, 1] bcast_S64x1_S64x100000_0_1 (Host.log (broadcastInDim S64x1 ![0] bcast_S64_S64x1_0 (Host.reduceAdd (Host.exp (res_main_call9_v5 (launchContents m c))) (constant S_ .f32 0x00000000#32) reducesTo_S64x100000_S64_d1 h_S_))))) (res_main_v72 (launchContents m c))
      ∧ r.2.mem ((c.tc : Thread nD τ).loc main_v117) = Host.reduce IntOp.minsi (select (cmpf .oeq (res_main_v108 (launchContents m c)) (broadcastInDim S64x100000 ![0, 1] bcast_S64x1_S64x100000_0_1 (broadcastInDim S64x1 ![0] bcast_S64_S64x1_0 (Host.reduce FloatOps.maximumf (res_main_v108 (launchContents m c)) (constant S_ .f32 0xFF800000#32) reducesTo_S64x100000_S64_d1 h_S_)))) (broadcastInDim S64x100000 ![0, 1] bcast_S1x100000_S64x100000_0_1 (res_main_v85 (launchContents m c))) (broadcastInDim S64x100000 ![] bcast_S_S64x100000 (id (constantI S_ 32 100000#32)))) (constantI S_ 32 2147483647#32) reducesTo_S64x100000_S64_d1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v108).trans ((congrFun (after_ops (launchContents m c)) (Proc.devRef .tc main_v108)).trans (val3_main_v108 (launchContents m c))),
      (h c main_v111).trans ((congrFun (after_ops (launchContents m c)) (Proc.devRef .tc main_v111)).trans (val3_main_v111 (launchContents m c))),
      (h c main_v117).trans ((congrFun (after_ops (launchContents m c)) (Proc.devRef .tc main_v117)).trans (val3_main_v117 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c)))⟩)
    (run_seq scopedRefs_eq scopedSems_eq defs main (fun _ => ops) main_eq (fun _ => ops_sub) m ρ fun _ => ops_fresh)

end Cert.ReferenceIdeal.Whole

end
-- ==== Proof.Frames.lean ====
/-
  Both programs run: they end with their arguments unchanged and every counter back at zero. And what the kernel leaves
  in its three results.
-/
module

public import proofs.«01_k».proof.Defs
public import proofs.«01_k».proof.Proof.Arrays
public import proofs.«01_k».proof.Proof.Gen.KernelIdeal
public import proofs.«01_k».proof.Proof.Gen.ReferenceIdeal
public import proofs.«01_k».proof.Proof.RefRun
public import Idealize.ShloMosaic.Lib.Quiescent
public import Idealize.ShloMosaic.Lib.Pipeline.Quiescent

@[expose] public section

set_option maxRecDepth 16384

noncomputable section

namespace Cert.KernelIdeal.Trip

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The launch of `Launched.lean`, with the counters. -/
theorem run_quiet : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) := by
  refine Pipeline.θ_run_frame_around cfgs (dats m) 0 launch0 defs₀ Variants.none m ρ main ?_ ?_ ?_ (V0 m) [hostOps1] sfx_sub sfx_fresh sfx_keeps (hmain m Variants.none) ?_ ?_
    (Q' := fun r => Pipeline.FramePost cfgs (dats m) 0 (Pipeline.afterTail₀ cfgs (dats m) 0 (V0 m) [hostOps1]) r ∧ r.2.sem = fun _ => 0)
  · exact fun c => (body_obligation m c).loose
  · exact fun c w => (dats m 0 c).share_full (fun _ => rfl) w
  · exact fun c t => rfl
  · exact fun c w => A_eq m c w
  · exact fun c t => rfl

end Cert.KernelIdeal.Trip

namespace Cert.Frames

open Idealize.ShloMosaic Idealize.ShloMosaic.TcCoe Idealize.SL.Sem

theorem quiet_kernel : Cert.quiescent_KernelIdeal (hKernelIdeal := Cert.KernelIdeal.Gen.facts) := fun m g _ =>
  θ_run_with_sems (Cert.KernelIdeal.Gen.frame_of m g (Cert.KernelIdeal.Trip.dats m) (Cert.KernelIdeal.Trip.A_eq m)) (Cert.KernelIdeal.Trip.run_quiet m g)

theorem quiet_reference : Cert.quiescent_ReferenceIdeal (hReferenceIdeal := Cert.ReferenceIdeal.Gen.facts) := fun m g _ =>
  (θ_run Cert.ReferenceIdeal.defs _ _).mono (fun r h => And.intro (fun c => (h c).2.2.2) (sem_eq_zero_of_no_sems (by decide) r.2)) (Cert.ReferenceIdeal.Whole.run m g)

/-- The kernel's run: its three results, and its arguments unchanged. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v9) = Cert.KernelIdeal.Trip.tailOf m c Cert.KernelIdeal.main_v9
      ∧ r.2.mem ((c.tc : Thread Cert.KernelIdeal.nD Cert.KernelIdeal.τ).loc Cert.KernelIdeal.main_v11) = Cert.KernelIdeal.Trip.tailOf m c Cert.KernelIdeal.main_v11
      ∧ r.2.mem ((c.tc : Thread Cert.KernelIdeal.nD Cert.KernelIdeal.τ).loc Cert.KernelIdeal.main_v12) = Cert.KernelIdeal.Trip.tailOf m c Cert.KernelIdeal.main_v12
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  refine (θ_run Cert.KernelIdeal.defs _ _).mono (fun r h c => ?_) (Cert.KernelIdeal.Trip.run_frame m g)
  exact ⟨(h c).2 Cert.KernelIdeal.main_v9 (Pipeline.mem_restRefs_of Cert.KernelIdeal.main_v9 (by decide) (by decide)),
    (h c).2 Cert.KernelIdeal.main_v11 (Pipeline.mem_restRefs_of Cert.KernelIdeal.main_v11 (by decide) (by decide)),
    (h c).2 Cert.KernelIdeal.main_v12 (Pipeline.mem_restRefs_of Cert.KernelIdeal.main_v12 (by decide) (by decide)),
    ((h c).2 Cert.KernelIdeal.main_arg0 (Pipeline.mem_restRefs_of Cert.KernelIdeal.main_arg0 (by decide) (by decide))).trans (Cert.KernelIdeal.Gen.W_main_arg0 m (Cert.KernelIdeal.Trip.dats m) c),
    ((h c).2 Cert.KernelIdeal.main_arg1 (Pipeline.mem_restRefs_of Cert.KernelIdeal.main_arg1 (by decide) (by decide))).trans (Cert.KernelIdeal.Gen.W_main_arg1 m (Cert.KernelIdeal.Trip.dats m) c),
    ((h c).2 Cert.KernelIdeal.main_arg2 (Pipeline.mem_restRefs_of Cert.KernelIdeal.main_arg2 (by decide) (by decide))).trans (Cert.KernelIdeal.Gen.W_main_arg2 m (Cert.KernelIdeal.Trip.dats m) c),
    ((h c).2 Cert.KernelIdeal.main_arg3 (Pipeline.mem_restRefs_of Cert.KernelIdeal.main_arg3 (by decide) (by decide))).trans (Cert.KernelIdeal.Gen.W_main_arg3 m (Cert.KernelIdeal.Trip.dats m) c),
    ((h c).2 Cert.KernelIdeal.main_arg4 (Pipeline.mem_restRefs_of Cert.KernelIdeal.main_arg4 (by decide) (by decide))).trans (Cert.KernelIdeal.Gen.W_main_arg4 m (Cert.KernelIdeal.Trip.dats m) c),
    ((h c).2 Cert.KernelIdeal.main_arg5 (Pipeline.mem_restRefs_of Cert.KernelIdeal.main_arg5 (by decide) (by decide))).trans (Cert.KernelIdeal.Gen.W_main_arg5 m (Cert.KernelIdeal.Trip.dats m) c)⟩

end Cert.Frames
end
-- ==== Proof.Cumul.lean ====
/-
  A running sum along the rows of a two-axis array, printed as a window sum.
-/
module

public import Idealize.ShloMosaic.Lib.Routing.Ops
public import Idealize.ShloMosaic.PureOps.Ideal

@[expose] public section

noncomputable section

namespace Cert.Rows

open Idealize.ShloMosaic Idealize.ShloMosaic.Routing Idealize.ShloMosaic.ValueIdx
open Finset

theorem foldl_plus {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

theorem sum_win {N Nm1 : ℕ} (hN : Nm1 + 1 = N) (f : Fin N → EReal) (j : Fin N) :
    (∑ n : Fin N, if h : Nm1 ≤ j.val + n.val then f ⟨j.val + n.val - Nm1, by omega⟩ else 0) = ∑ m ∈ univ.filter (· ≤ j), f m := by
  rw [← Finset.sum_filter_add_sum_filter_not univ (fun n : Fin N => Nm1 ≤ j.val + n.val),
    Finset.sum_eq_zero (s := univ.filter fun n : Fin N => ¬ Nm1 ≤ j.val + n.val) fun n hn => dif_neg (mem_filter.mp hn).2, add_zero]
  refine Finset.sum_bij' (fun n hn => ⟨j.val + n.val - Nm1, by have := j.isLt; have := n.isLt; omega⟩)
    (fun m hm => ⟨m.val + Nm1 - j.val, by have : m.val ≤ j.val := (mem_filter.mp hm).2; omega⟩) ?_ ?_ ?_ ?_ ?_
  · intro n hn
    refine mem_filter.mpr ⟨mem_univ _, ?_⟩
    show j.val + n.val - Nm1 ≤ j.val
    omega
  · intro m hm
    have : m.val ≤ j.val := (mem_filter.mp hm).2
    refine mem_filter.mpr ⟨mem_univ _, ?_⟩
    show Nm1 ≤ j.val + (m.val + Nm1 - j.val)
    omega
  · intro n hn
    have : Nm1 ≤ j.val + n.val := (mem_filter.mp hn).2
    apply Fin.ext
    show j.val + n.val - Nm1 + Nm1 - j.val = n.val
    omega
  · intro m hm
    have : m.val ≤ j.val := (mem_filter.mp hm).2
    apply Fin.ext
    show j.val + (m.val + Nm1 - j.val) - Nm1 = m.val
    omega
  · intro n hn
    exact dif_pos (mem_filter.mp hn).2

theorem cum_row {M N Nm1 : ℕ} (hN : Nm1 + 1 = N) (x : (shape2 M N).Idx → EReal) (R : Fin M) (f : Fin N → EReal) (hx : ∀ m, x (ix2 R m) = f m)
    (h : (shape2 M N).ReduceWindows (![1, N] : Fin 2 → Nat) ![1, 1] ![0, Nm1] ![0, 0] (shape2 M N)) (j : Fin N) :
    Ideal.hostReduceWindowAdd ![1, N] ![1, 1] ![0, Nm1] ![0, 0] h x 0 (ix2 R j) = ∑ m ∈ univ.filter (· ≤ j), f m := by
  have hj := j.isLt
  unfold Ideal.hostReduceWindowAdd Host.reduceWindow
  have hn : (shape2 1 N).numel = N := numel2 N
  refine Eq.trans (b := (List.finRange (shape2 1 N).numel).foldl
    (fun r n => r + if h : Nm1 ≤ j.val + n.val then f ⟨j.val + n.val - Nm1, by have := n.isLt; omega⟩ else 0) 0) ?_ ?_
  · refine List.foldl_ext _ _ _ fun r n _ => ?_
    refine congrArg (r + ·) ?_
    have hw0 : ((shape2 1 N).rowMajor.symm n 0).val = 0 := by rw [symm2]; rfl
    have hw : ((shape2 1 N).rowMajor.symm n 1).val = n.val := by rw [symm2]; rfl
    have hn' : n.val < N := (n.cast hn).isLt
    dsimp only
    by_cases hin : Nm1 ≤ j.val + n.val
    · rw [dif_pos hin, dif_pos ?_]
      · refine (congrArg x (funext fun a => Fin.ext ?_)).trans (hx ⟨j.val + n.val - Nm1, by omega⟩)
        match a with
        | ⟨0, _⟩ =>
          show R.val * 1 + ((shape2 1 N).rowMajor.symm n 0).val - 0 = R.val
          rw [hw0]; omega
        | ⟨1, _⟩ =>
          show j.val * 1 + ((shape2 1 N).rowMajor.symm n 1).val - Nm1 = j.val + n.val - Nm1
          rw [hw, Nat.mul_one]
      · intro a
        match a with
        | ⟨0, _⟩ =>
          show 0 ≤ R.val * 1 + ((shape2 1 N).rowMajor.symm n 0).val ∧ R.val * 1 + ((shape2 1 N).rowMajor.symm n 0).val - 0 < M
          rw [hw0]
          have := R.isLt
          omega
        | ⟨1, _⟩ =>
          show Nm1 ≤ j.val * 1 + ((shape2 1 N).rowMajor.symm n 1).val
            ∧ j.val * 1 + ((shape2 1 N).rowMajor.symm n 1).val - Nm1 < N
          rw [hw]
          omega
    · rw [dif_neg hin, dif_neg ?_]
      intro hc
      have h1 : Nm1 ≤ j.val * 1 + ((shape2 1 N).rowMajor.symm n 1).val := (hc 1).1
      rw [hw] at h1
      omega
  · rw [foldl_plus, zero_add, ← sum_win hN f j, ← Fin.sum_univ_def]
    exact Fintype.sum_equiv (finCongr hn) _ _ fun n => rfl

end Cert.Rows
end
-- ==== Proof.Order.lean ====
/-
  A stable ascending sort of a row: a permutation, in order of value and then of place. And what sorting by place undoes.
-/
module

public import Idealize.ShloMosaic.Lib.SortFacts
public import Idealize.ShloMosaic.Lib.SortPrefix
public import Mathlib.Order.Monotone.Basic
public import Mathlib.Order.WellFounded

@[expose] public section

namespace Cert.Rows

open Idealize.ShloMosaic

/-- On a list of ascending places a stable sort breaks ties by place. -/
theorem stable_tie {n : ℕ} (R B : Fin n → Fin n → Bool) (h : ∀ a b, a < b → R b a = B b a) (l : List (Fin n))
    (hl : l.Pairwise (· < ·)) : stableSort R l = stableSort B l := by
  induction l with
  | nil => rfl
  | cons a l ih =>
    unfold stableSort
    rw [ih (List.pairwise_cons.mp hl).2]
    refine insertBefore_congr R B a _ fun b hb => h a b ?_
    exact (List.pairwise_cons.mp hl).1 b ((perm_stableSort B l).mem_iff.mp hb)

theorem sortedFrom_tie {n : ℕ} (R B : Fin n → Fin n → Bool) (h : ∀ a b, a < b → R b a = B b a) :
    sortedFrom R = sortedFrom B := by
  funext k
  unfold sortedFrom
  have e : sortPositions n R = sortPositions n B := stable_tie R B h _ (List.pairwise_lt_finRange n)
  rw [List.get_of_eq e]
  rfl

variable {κ : Type} [LinearOrder κ] {n : ℕ} (x : Fin n → κ)

/-- The place a row's value of ascending rank `m` comes from. -/
def rank (x : Fin n → κ) : Fin n → Fin n := sortedFrom fun k k' => decide (x k < x k')

theorem rank_bij : Function.Bijective (rank x) := ⟨sortedFrom_injective _, sortedFrom_surjective _⟩

theorem rank_lt (m m' : Fin n) (h : m < m') : x (rank x m) < x (rank x m') ∨ (x (rank x m) = x (rank x m') ∧ rank x m < rank x m') := by
  have hB := StrictTotalBefore.of_key_then_position (fun a b : κ => decide (a < b)) x (by simp)
    (fun a b c hab hbc => by simp only [decide_eq_true_eq] at hab hbc ⊢; exact hab.trans hbc)
    (fun a b => by simp only [decide_eq_true_eq]; exact lt_trichotomy a b)
  have e : rank x = sortedFrom (fun k k' : Fin n => decide (x k < x k') || (decide (x k = x k') && decide (k < k'))) := by
    refine sortedFrom_tie _ _ fun a b hab => ?_
    have : ¬ b < a := not_lt.mpr hab.le
    simp [this]
  have hno := sortedFrom_noInversion (fun k k' : Fin n => decide (x k < x k') || (decide (x k = x k') && decide (k < k')))
    (fun k k' : Fin n => decide (x k < x k') || (decide (x k = x k') && decide (k < k')))
    (fun a b hab => hB.asymm a b hab) (fun a b hab => hab)
    (fun a b c hab hbc => by
      simp only [Bool.or_eq_false_iff, Bool.and_eq_false_iff, decide_eq_false_iff_not, not_lt] at hab hbc ⊢
      refine ⟨hbc.1.trans hab.1, ?_⟩
      by_cases hac : x a = x c
      · right
        have e1 : x a = x b := le_antisymm (hac ▸ hbc.1) hab.1
        have e2 : x b = x c := e1.symm.trans hac
        exact (hbc.2.resolve_left (not_not.mpr e2)).trans (hab.2.resolve_left (not_not.mpr e1))
      · exact Or.inl hac) m m' h
  rw [← e] at hno
  simp only [Bool.or_eq_false_iff, Bool.and_eq_false_iff, decide_eq_false_iff_not, not_lt] at hno
  rcases lt_or_eq_of_le hno.1 with h1 | h1
  · exact Or.inl h1
  · refine Or.inr ⟨h1, ?_⟩
    refine lt_of_le_of_ne (hno.2.resolve_left (not_not.mpr h1.symm)) fun e' => ?_
    exact absurd ((rank_bij x).1 e') h.ne

/-- Sorting a permutation's places finds its inverse. -/
theorem rank_undo (σ : Fin n → Fin n) (hσ : Function.Bijective σ) (m : Fin n) : rank σ (σ m) = m := by
  have hmono : StrictMono fun k => σ (rank σ k) := fun a b hab => by
    rcases rank_lt σ a b hab with h | h
    · exact h
    · exact absurd ((rank_bij σ).1 (hσ.1 h.1)) hab.ne
  have hid : σ (rank σ (σ m)) = σ m := le_antisymm (hmono.apply_le) (hmono.le_apply)
  exact hσ.1 hid

end Cert.Rows
end
-- ==== Proof.Soft.lean ====
/-
  The softmax of a row with a finite maximum and no entry +∞, in real numbers.

  Each entry's weight `wt f p` is the exponential of its distance to the maximum, a real number between 0 and 1 (0 at −∞,
  1 at the maximum); the weights' sum `zr f` is at least 1; the softmax is their quotient.
-/
module

public import proofs.«01_k».proof.Proof.Picks
public import Idealize.ShloMosaic.PureOps.Ideal
public import Mathlib.Analysis.SpecialFunctions.Log.Basic

@[expose] public section

noncomputable section

namespace Cert.Rows

open Finset Idealize.ShloMosaic

theorem exp_sub_coe (a b : ℝ) : Ideal.exp ((a : EReal) - (b : EReal)) = ((Real.exp (a - b) : ℝ) : EReal) := by
  rw [← EReal.coe_sub]; rfl

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem sum_coe {κ : Type} (s : Finset κ) (g : κ → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

section
variable {ι : Type} [Fintype ι] [LinearOrder ι] [Nonempty ι]

/-- A row with a maximum above −∞ and no entry +∞. -/
def Ok (f : ι → EReal) : Prop := (∀ p, f p ≠ ⊤) ∧ top f ≠ ⊥

/-- The softmax of a row. -/
def soft (f : ι → EReal) (p : ι) : EReal :=
  Ideal.div (Ideal.exp (f p - top f)) (∑ q, Ideal.exp (f q - top f))

/-- An entry's weight. -/
def wt (f : ι → EReal) (p : ι) : ℝ := if f p = ⊥ then 0 else Real.exp ((f p).toReal - (top f).toReal)
/-- The weights' sum. -/
def zr (f : ι → EReal) : ℝ := ∑ p, wt f p

variable {f : ι → EReal} (h : Ok f)
include h

theorem Ok.top_coe : ((top f).toReal : EReal) = top f := by
  refine EReal.coe_toReal ?_ h.2
  obtain ⟨p, hp⟩ := exists_top f
  rw [← hp]; exact h.1 p

theorem wt_coe (p : ι) : Ideal.exp (f p - top f) = ((wt f p : ℝ) : EReal) := by
  unfold wt
  split
  · next hb => rw [hb, EReal.bot_sub]; rfl
  · next hb =>
    rw [← exp_sub_coe, EReal.coe_toReal (h.1 p) hb, h.top_coe]

omit h in
theorem wt_nonneg (f : ι → EReal) (p : ι) : 0 ≤ wt f p := by
  unfold wt; split
  · exact le_rfl
  · exact (Real.exp_pos _).le

omit h in
theorem wt_bot {f : ι → EReal} {p : ι} (hp : f p = ⊥) : wt f p = 0 := by unfold wt; rw [if_pos hp]

theorem wt_top {p : ι} (hp : f p = top f) : wt f p = 1 := by
  unfold wt; rw [if_neg (by rw [hp]; exact h.2), hp, sub_self, Real.exp_zero]

theorem wt_lt_one {p : ι} (hp : f p ≠ top f) : wt f p < 1 := by
  unfold wt; split
  · exact one_pos
  · next hb =>
    rw [Real.exp_lt_one_iff, sub_neg]
    have h1 : f p < top f := lt_of_le_of_ne (le_top' f p) hp
    rw [← EReal.coe_lt_coe_iff, EReal.coe_toReal (h.1 p) hb, h.top_coe]
    exact h1

theorem wt_le_one (p : ι) : wt f p ≤ 1 := by
  by_cases hp : f p = top f
  · exact (wt_top h hp).le
  · exact (wt_lt_one h hp).le

theorem one_le_zr : 1 ≤ zr f := by
  obtain ⟨p, hp⟩ := exists_top f
  rw [← wt_top h hp]
  exact Finset.single_le_sum (f := wt f) (fun q _ => wt_nonneg f q) (mem_univ p)

theorem zr_pos : 0 < zr f := lt_of_lt_of_le one_pos (one_le_zr h)

theorem z_coe : (∑ q, Ideal.exp (f q - top f)) = ((zr f : ℝ) : EReal) := by
  rw [Finset.sum_congr rfl fun q _ => wt_coe h q, sum_coe]; rfl

theorem soft_coe (p : ι) : soft f p = ((wt f p / zr f : ℝ) : EReal) := by
  unfold soft
  rw [wt_coe h, z_coe h, div_coe _ _ (zr_pos h).ne']

theorem top_soft : top (soft f) = ((1 / zr f : ℝ) : EReal) := by
  obtain ⟨p, hp⟩ := exists_top f
  rw [top_eq (soft f) p, soft_coe h, wt_top h hp]
  intro q
  rw [soft_coe h, soft_coe h, wt_top h hp, EReal.coe_le_coe_iff]
  exact div_le_div_of_nonneg_right (wt_le_one h q) (zr_pos h).le

theorem soft_eq_top_iff (p : ι) : soft f p = top (soft f) ↔ f p = top f := by
  rw [top_soft h, soft_coe h, EReal.coe_eq_coe_iff, div_left_inj' (zr_pos h).ne']
  constructor
  · intro e; by_contra hp; exact absurd e (wt_lt_one h hp).ne
  · exact wt_top h

theorem log_z : Ideal.log (∑ q, Ideal.exp (f q - top f)) = ((Real.log (zr f) : ℝ) : EReal) := by
  rw [z_coe h, Ideal.log_coe, if_neg (not_le.mpr (zr_pos h))]

theorem sub_lse (p : ι) : f p - (top f + Ideal.log (∑ q, Ideal.exp (f q - top f)))
    = (f p - top f) - Ideal.log (∑ q, Ideal.exp (f q - top f)) := by
  rw [log_z h]
  by_cases hb : f p = ⊥
  · rw [hb]; simp
  · rw [← EReal.coe_toReal (h.1 p) hb, ← h.top_coe, ← EReal.coe_add, ← EReal.coe_sub, ← EReal.coe_sub, ← EReal.coe_sub,
      sub_sub]

theorem exp_logp (p : ι) : Ideal.exp ((f p - top f) - Ideal.log (∑ q, Ideal.exp (f q - top f))) = soft f p := by
  rw [soft_coe h, log_z h]
  by_cases hb : f p = ⊥
  · rw [hb, wt_bot hb, EReal.bot_sub, EReal.bot_sub]; simp
  · rw [← EReal.coe_toReal (h.1 p) hb, ← h.top_coe, ← EReal.coe_sub, exp_sub_coe, Real.exp_sub, Real.exp_log (zr_pos h)]
    unfold wt; rw [if_neg hb]
end

end Cert.Rows
end
-- ==== Proof.Kept.lean ====
/-
  Which places survive top-k, top-p and min-p: the thresholds read off the 64 elements taken one at a time give the same
  set as the thresholds applied to the row in ascending order.
-/
module

public import proofs.«01_k».proof.Proof.Soft

@[expose] public section

noncomputable section

namespace Cert.Rows

open Finset Idealize.ShloMosaic

theorem sum_castLE {M : Type} [AddCommMonoid M] {n m : ℕ} (h : n ≤ m) (g : Fin m → M) (hz : ∀ k : Fin m, n ≤ k.val → g k = 0) :
    ∑ j : Fin n, g (Fin.castLE h j) = ∑ k, g k := by
  have e := Finset.sum_map univ (Fin.castLEEmb h) g
  refine e.symm.trans ?_
  refine Finset.sum_subset (subset_univ _) fun k _ hk => hz k ?_
  by_contra hc
  refine hk (Finset.mem_map.mpr ⟨⟨k.val, not_le.mp hc⟩, mem_univ _, ?_⟩)
  exact Fin.ext rfl

theorem topp_iff (z a : ℝ) (hz : 0 < z) (tp : EReal) :
    (((z - a) / z : ℝ) : EReal) ≤ 1 - tp ↔ ¬ ((a : EReal) < tp * (z : EReal)) := by
  induction tp using EReal.rec with
  | bot =>
    rw [EReal.bot_mul_coe_of_pos hz]
    have e : (1 : EReal) - ⊥ = ⊤ := rfl
    rw [e]
    simp
  | top =>
    rw [EReal.top_mul_coe_of_pos hz]
    simp
  | coe t =>
    rw [← EReal.coe_mul, EReal.coe_lt_coe_iff, ← EReal.coe_one, ← EReal.coe_sub, EReal.coe_le_coe_iff, div_le_iff₀ hz, not_lt]
    constructor <;> intro h <;> nlinarith

theorem minp_iff (z w : ℝ) (hz : 0 < z) (mp : EReal) :
    ((w / z : ℝ) : EReal) < mp * ((1 / z : ℝ) : EReal) ↔ (w : EReal) < mp := by
  have hz' : 0 < 1 / z := one_div_pos.mpr hz
  induction mp using EReal.rec with
  | bot => rw [EReal.bot_mul_coe_of_pos hz']; simp
  | top => rw [EReal.top_mul_coe_of_pos hz']; simp [EReal.coe_lt_top]
  | coe t =>
    rw [← EReal.coe_mul, EReal.coe_lt_coe_iff, EReal.coe_lt_coe_iff, mul_one_div, div_lt_div_iff_of_pos_right hz]

/-! ### The 64 taken elements -/

/-- The smallest of the first `tk` values. -/
def kthr (v : Fin 64 → EReal) (tk : ℕ) : EReal := univ.inf fun k : Fin 64 => if k.val < tk then v k else ⊤
/-- The weights of the values that reach the threshold. -/
def pm (v : Fin 64 → EReal) (thr : EReal) (k : Fin 64) : EReal := if thr ≤ v k then Ideal.exp (v k - v 0) else 0
/-- The weight before place `k`. -/
def pre (v : Fin 64 → EReal) (thr : EReal) (k : Fin 64) : EReal := ∑ j, pm v thr j * (if j < k then 1 else 0)
/-- What is kept of the 64. -/
def keep (v : Fin 64 → EReal) (thr tp mp : EReal) (k : Fin 64) : Prop :=
  thr ≤ v k ∧ (pre v thr k < tp * (∑ j, pm v thr j) ∨ k = 0) ∧ mp ≤ Ideal.exp (v k - v 0)

/-! ### The thresholds on the ascending row -/

section
variable {V : ℕ} [NeZero V]

/-- What top-k leaves of the ascending row `a`. -/
def topK (a : Fin V → EReal) (thr : EReal) (m : Fin V) : EReal := if a m < thr then ⊥ else a m
/-- What top-p leaves of it. -/
def topP (a : Fin V → EReal) (tp : EReal) (m : Fin V) : EReal :=
  if (∑ m' ∈ univ.filter (· ≤ m), soft a m') ≤ 1 - tp ∧ m.val ≠ V - 1 then ⊥ else a m
/-- What min-p leaves of a row. -/
def minP (f : Fin V → EReal) (mp : EReal) (p : Fin V) : EReal := if soft f p < mp * top (soft f) then ⊥ else f p
end

/-- The place of rank `k` of a row in ascending order. -/
def at' {V : ℕ} (hV : 65 ≤ V) (k : Fin 64) : Fin V := ⟨V - 1 - k.val, by omega⟩

/-- A row `x`, the padded row `y`, the places `σ` of `x` in ascending order, and a threshold: the value of rank `tk - 1`,
    above the padding and above the value of rank 64. -/
structure Setting {V N : ℕ} (x : Fin V → EReal) (y : Fin N → EReal) (pad : EReal) (σ : Fin V → Fin V) (thr : EReal)
    (tk : ℕ) : Prop where
  hV : 65 ≤ V
  hVN : V ≤ N
  hy : ∀ p : Fin V, y (Fin.castLE hVN p) = x p
  hpad : ∀ p : Fin N, V ≤ p.val → y p = pad
  hσ : Function.Bijective σ
  hs : ∀ m m' : Fin V, m < m' → x (σ m) < x (σ m') ∨ (x (σ m) = x (σ m') ∧ σ m < σ m')
  htk : 1 ≤ tk
  htkV : tk ≤ V
  hthr : thr = x (σ ⟨V - tk, by omega⟩)
  hx : ∀ p, x p < ⊤
  h65 : x (σ ⟨V - 65, by omega⟩) < thr
  hpt : pad < thr

section sorted
variable {V N : ℕ} [NeZero V] [NeZero N] {x : Fin V → EReal} {y : Fin N → EReal} {pad : EReal} {σ : Fin V → Fin V}
  {thr : EReal} {tk : ℕ} (tp mp : EReal) (H : Setting x y pad σ thr tk)
include H

theorem reach_lt (m : Fin V) (h : thr ≤ x (σ m)) : V - 65 < m.val := by
  by_contra hc
  exact absurd (lt_of_le_of_lt (h.trans (sorted_mono x σ H.hs m ⟨V - 65, by have := H.hV; have := H.htk; have := H.htkV; omega⟩ (not_lt.mp hc))) H.h65) (lt_irrefl _)

theorem tk_le : tk ≤ 64 := by
  have := reach_lt H ⟨V - tk, by have := H.hV; have := H.htk; have := H.htkV; omega⟩ H.hthr.le
  simp only at this
  omega

theorem reach_pick (k : Fin 64) (h : thr ≤ x (σ (at' H.hV k))) :
    pick y k.val = Fin.castLE H.hVN (σ (at' H.hV k)) ∧ pval y k.val = x (σ (at' H.hV k)) :=
  pick_eq_sorted H.hVN x y pad H.hy H.hpad σ H.hσ H.hs k.val (by have := H.hV; omega) (Or.inr (lt_of_lt_of_le H.hpt h))

theorem reach_iff (k : Fin 64) : thr ≤ pval y k.val ↔ thr ≤ x (σ (at' H.hV k)) := by
  constructor
  · intro h
    have := (pick_eq_sorted H.hVN x y pad H.hy H.hpad σ H.hσ H.hs k.val (by have := H.hV; omega) (Or.inl (lt_of_lt_of_le H.hpt h))).2
    rw [this] at h
    exact h
  · intro h
    rw [(reach_pick H k h).2]
    exact h

theorem kthr_eq (tk' : ℕ) (h' : tk' = min tk 64) : kthr (fun k => pval y k.val) tk' = thr := by
  have h64 := tk_le H
  have e : tk' = tk := by have := H.hV; have := H.htk; have := H.htkV; omega
  subst e
  have hl : thr ≤ pval y (tk' - 1) := by
    have := (reach_iff H ⟨tk' - 1, by have := H.hV; have := H.htk; have := H.htkV; omega⟩).mpr (by
      refine H.hthr.le.trans (le_of_eq ?_); congr 2; apply Fin.ext; show V - tk' = V - 1 - (tk' - 1); have := H.htk; omega)
    exact this
  have hval : pval y (tk' - 1) = thr := by
    have := (reach_pick H ⟨tk' - 1, by have := H.hV; have := H.htk; have := H.htkV; omega⟩
      ((reach_iff H ⟨tk' - 1, by have := H.hV; have := H.htk; have := H.htkV; omega⟩).mp hl)).2
    refine (this.trans ?_).trans H.hthr.symm
    congr 2; apply Fin.ext; show V - 1 - (tk' - 1) = V - tk'; have := H.htk; omega
  apply le_antisymm
  · refine (Finset.inf_le (mem_univ (⟨tk' - 1, by have := H.hV; have := H.htk; have := H.htkV; omega⟩ : Fin 64))).trans ?_
    simp only
    rw [if_pos (by have := H.hV; have := H.htk; have := H.htkV; omega), hval]
  · refine Finset.le_inf fun k _ => ?_
    split
    · next hk => exact hl.trans (pval_antitone y (by have := H.hV; have := H.htk; have := H.htkV; omega))
    · exact le_top

theorem last_reach : thr ≤ x (σ (at' H.hV 0)) := by
  refine H.hthr.le.trans ?_
  refine sorted_mono x σ H.hs _ _ ?_
  show V - tk ≤ V - 1 - 0
  have := H.htk; omega

theorem topK_ok : Ok (topK (fun m => x (σ m)) thr) ∧ top (topK (fun m => x (σ m)) thr) = x (σ (at' H.hV 0)) := by
  have hl := last_reach H
  have h0 : topK (fun m => x (σ m)) thr (at' H.hV 0) = x (σ (at' H.hV 0)) := by
    unfold topK; rw [if_neg (not_lt.mpr hl)]
  have ht : top (topK (fun m => x (σ m)) thr) = x (σ (at' H.hV 0)) := by
    rw [top_eq _ (at' H.hV 0), h0]
    intro q
    rw [h0]
    unfold topK
    split
    · exact bot_le
    · exact sorted_mono x σ H.hs _ _ (by show q.val ≤ V - 1 - 0; omega)
  refine ⟨⟨fun p => ?_, ?_⟩, ht⟩
  · unfold topK; split
    · exact bot_ne_top
    · exact (H.hx _).ne
  · rw [ht]; exact (lt_of_le_of_lt bot_le (lt_of_lt_of_le H.hpt hl)).ne'

theorem pm_eq (k : Fin 64) : pm (fun k => pval y k.val) thr k
    = ((wt (topK (fun m => x (σ m)) thr) (at' H.hV k) : ℝ) : EReal) := by
  obtain ⟨hok, ht⟩ := topK_ok H
  have hl := last_reach H
  have hv0 := (reach_pick H 0 hl).2
  unfold pm
  split
  · next h =>
    have hk := (reach_iff H k).mp h
    have hvk := (reach_pick H k hk).2
    rw [← wt_coe hok, ht]
    have e : topK (fun m => x (σ m)) thr (at' H.hV k) = x (σ (at' H.hV k)) := by unfold topK; rw [if_neg (not_lt.mpr hk)]
    rw [e, ← hvk, ← hv0]
  · next h =>
    have hk := fun h' => h ((reach_iff H k).mpr h')
    rw [wt_bot]
    · rfl
    · unfold topK; rw [if_pos (not_le.mp hk)]

theorem wt_low (m : Fin V) (h : m.val ≤ V - 65) : wt (topK (fun m => x (σ m)) thr) m = 0 := by
  apply wt_bot
  unfold topK
  refine if_pos (lt_of_le_of_lt (sorted_mono x σ H.hs m ⟨V - 65, by have := H.hV; have := H.htk; have := H.htkV; omega⟩ h) H.h65)

theorem sum_at (g : Fin V → ℝ) (hg : ∀ m : Fin V, m.val ≤ V - 65 → g m = 0) :
    ∑ j : Fin 64, g (at' H.hV j) = ∑ m, g m := by
  rw [← Equiv.sum_comp Fin.revPerm g, ← sum_castLE (by have := H.hV; have := H.htk; have := H.htkV; omega : 64 ≤ V) (fun k => g (Fin.revPerm k))]
  · refine Finset.sum_congr rfl fun j _ => congrArg g (Fin.ext ?_)
    show V - 1 - j.val = V - (j.val + 1)
    omega
  · intro k hk
    apply hg
    show V - (k.val + 1) ≤ V - 65
    omega

theorem s_eq : ∑ j, pm (fun k => pval y k.val) thr j = ((zr (topK (fun m => x (σ m)) thr) : ℝ) : EReal) := by
  rw [Finset.sum_congr rfl fun j _ => pm_eq H j, sum_coe]
  congr 1
  exact sum_at H _ fun m hm => wt_low H m hm

theorem pre_eq (k : Fin 64) : pre (fun k => pval y k.val) thr k
    = ((∑ m ∈ univ.filter (at' H.hV k < ·), wt (topK (fun m => x (σ m)) thr) m : ℝ) : EReal) := by
  unfold pre
  rw [Finset.sum_congr rfl fun j _ => by
    rw [pm_eq H j]]
  have e : ∀ j : Fin 64, ((wt (topK (fun m => x (σ m)) thr) (at' H.hV j) : ℝ) : EReal) * (if j < k then 1 else 0)
      = (((if at' H.hV k < at' H.hV j then wt (topK (fun m => x (σ m)) thr) (at' H.hV j) else 0 : ℝ)) : EReal) := by
    intro j
    have hj : at' H.hV k < at' H.hV j ↔ j < k := by
      show V - 1 - k.val < V - 1 - j.val ↔ j.val < k.val
      have := H.hV; omega
    by_cases h : j < k
    · rw [if_pos h, if_pos (hj.mpr h), mul_one]
    · rw [if_neg h, if_neg (fun c => h (hj.mp c)), mul_zero]; rfl
  rw [Finset.sum_congr rfl fun j _ => e j, sum_coe, Finset.sum_filter]
  congr 1
  refine sum_at H
    (fun m => if at' H.hV k < m then wt (topK (fun m => x (σ m)) thr) m else 0) fun m hm => ?_
  split
  · exact wt_low H m hm
  · rfl

theorem cs_iff (m : Fin V) :
    (∑ m' ∈ univ.filter (· ≤ m), soft (topK (fun m => x (σ m)) thr) m') ≤ 1 - tp ↔
      ¬ (((∑ m' ∈ univ.filter (m < ·), wt (topK (fun m => x (σ m)) thr) m' : ℝ) : EReal)
        < tp * ((zr (topK (fun m => x (σ m)) thr) : ℝ) : EReal)) := by
  obtain ⟨hok, ht⟩ := topK_ok H
  rw [← topp_iff _ _ (zr_pos hok), Finset.sum_congr rfl fun m' _ => soft_coe hok m', sum_coe]
  have e : ∑ m' ∈ univ.filter (· ≤ m), wt (topK (fun m => x (σ m)) thr) m' / zr (topK (fun m => x (σ m)) thr)
      = (zr (topK (fun m => x (σ m)) thr) - ∑ m' ∈ univ.filter (m < ·), wt (topK (fun m => x (σ m)) thr) m')
        / zr (topK (fun m => x (σ m)) thr) := by
    rw [← Finset.sum_div]
    congr 1
    rw [eq_sub_iff_add_eq]
    unfold zr
    rw [← Finset.sum_filter_add_sum_filter_not univ (fun m' => m' ≤ m)]
    congr 2
    ext m'; simp
  rw [e]

variable (f1 : Fin V → EReal) (hf1 : ∀ m, f1 (σ m) = topP (topK (fun m => x (σ m)) thr) tp m)
include hf1

theorem f1_ok : Ok f1 ∧ top f1 = x (σ (at' H.hV 0)) := by
  obtain ⟨hok, ht⟩ := topK_ok H
  have hl := last_reach H
  have h0 : f1 (σ (at' H.hV 0)) = x (σ (at' H.hV 0)) := by
    rw [hf1]; unfold topP
    rw [if_neg (fun c => c.2 rfl)]
    unfold topK; rw [if_neg (not_lt.mpr hl)]
  have hle : ∀ m, f1 (σ m) ≤ topK (fun m => x (σ m)) thr m := fun m => by
    rw [hf1]; unfold topP; split
    · exact bot_le
    · exact le_rfl
  have htop : top f1 = x (σ (at' H.hV 0)) := by
    rw [top_eq f1 (σ (at' H.hV 0)), h0]
    intro q
    obtain ⟨m, rfl⟩ := H.hσ.2 q
    rw [h0, ← ht]
    exact (hle m).trans (le_top' _ m)
  refine ⟨⟨fun p => ?_, ?_⟩, htop⟩
  · obtain ⟨m, rfl⟩ := H.hσ.2 p
    exact (lt_of_le_of_lt (hle m) (lt_top_iff_ne_top.mpr (hok.1 m))).ne
  · rw [htop, ← ht]; exact hok.2

/-- The row after top-k, top-p and min-p keeps exactly the kept ones of the 64. -/
theorem kept_row (p : Fin V) :
    ((∃ k : Fin 64, pick y k.val = Fin.castLE H.hVN p ∧ keep (fun k => pval y k.val) thr tp mp k) → minP f1 mp p = x p) ∧
    ((¬ ∃ k : Fin 64, pick y k.val = Fin.castLE H.hVN p ∧ keep (fun k => pval y k.val) thr tp mp k) → minP f1 mp p = ⊥) := by
  obtain ⟨hok, ht⟩ := topK_ok H
  obtain ⟨hok1, ht1⟩ := f1_ok tp H f1 hf1
  have hl := last_reach H
  have hv0 := (reach_pick H 0 hl).2
  obtain ⟨m, rfl⟩ := H.hσ.2 p
  have hmin : minP f1 mp (σ m) = if (wt f1 (σ m) : EReal) < mp then ⊥ else f1 (σ m) := by
    unfold minP
    rw [soft_coe hok1, top_soft hok1]
    by_cases h : (wt f1 (σ m) : EReal) < mp
    · rw [if_pos h, if_pos ((minp_iff _ _ (zr_pos hok1) mp).mpr h)]
    · rw [if_neg h, if_neg fun c => h ((minp_iff _ _ (zr_pos hok1) mp).mp c)]
  have hthis : ∀ k : Fin 64, m = at' H.hV k → thr ≤ x (σ m) →
      (keep (fun k => pval y k.val) thr tp mp k ↔
        (¬ ((∑ m' ∈ univ.filter (· ≤ m), soft (topK (fun m => x (σ m)) thr) m') ≤ 1 - tp ∧ m.val ≠ V - 1)
          ∧ mp ≤ Ideal.exp (x (σ m) - x (σ (at' H.hV 0))))) := by
    intro k hk hT
    subst hk
    have hvk := (reach_pick H k hT).2
    have e1 : thr ≤ pval y k.val := by rw [hvk]; exact hT
    have e2 : Ideal.exp (pval y k.val - pval y (0 : Fin 64).val) = Ideal.exp (x (σ (at' H.hV k)) - x (σ (at' H.hV 0))) := by
      rw [hvk, hv0]
    have e3 : k = 0 ↔ (at' H.hV k : Fin V).val = V - 1 := by
      show k = 0 ↔ V - 1 - k.val = V - 1
      have := H.hV
      constructor
      · intro h; rw [h]; rfl
      · intro h; apply Fin.ext; show k.val = 0; omega
    unfold keep
    rw [pre_eq H k,
      s_eq H, e2, e3,
      cs_iff tp H]
    constructor
    · rintro ⟨_, h1, h2⟩
      refine ⟨?_, h2⟩
      rintro ⟨c1, c2⟩
      exact h1.elim c1 c2
    · rintro ⟨h1, h2⟩
      refine ⟨e1, ?_, h2⟩
      by_contra c
      exact h1 ⟨fun c' => c (Or.inl c'), fun c' => c (Or.inr c')⟩
  constructor
  · rintro ⟨k, hpk, hkeep⟩
    have hT := (reach_iff H k).mp hkeep.1
    rw [(reach_pick H k hT).1] at hpk
    have hm : m = at' H.hV k := (H.hσ.1 (Fin.castLE_injective H.hVN hpk)).symm
    have hT' : thr ≤ x (σ m) := by rw [hm]; exact hT
    obtain ⟨h1, h2⟩ := (hthis k hm hT').mp hkeep
    have hf : f1 (σ m) = x (σ m) := by
      rw [hf1]; unfold topP; rw [if_neg h1]; unfold topK; rw [if_neg (not_lt.mpr hT')]
    rw [hmin, hf, if_neg]
    rw [← wt_coe hok1, hf, ht1]
    exact not_lt.mpr h2
  · intro hno
    by_cases hT : thr ≤ x (σ m)
    · have hlt := reach_lt H m hT
      have hk : m = at' H.hV ⟨V - 1 - m.val, by have := H.hV; have := H.htk; have := H.htkV; omega⟩ := by
        apply Fin.ext; show m.val = V - 1 - (V - 1 - m.val); omega
      have hpk := (reach_pick H ⟨V - 1 - m.val, by have := H.hV; have := H.htk; have := H.htkV; omega⟩ (hk ▸ hT)).1
      rw [← hk] at hpk
      have hnk := fun c => hno ⟨_, hpk, (hthis _ hk hT).mpr c⟩
      rw [hmin]
      by_cases hc : (∑ m' ∈ univ.filter (· ≤ m), soft (topK (fun m => x (σ m)) thr) m') ≤ 1 - tp ∧ m.val ≠ V - 1
      · have hf : f1 (σ m) = ⊥ := by rw [hf1]; unfold topP; rw [if_pos hc]
        rw [hf]; split <;> rfl
      · have hf : f1 (σ m) = x (σ m) := by
          rw [hf1]; unfold topP; rw [if_neg hc]; unfold topK; rw [if_neg (not_lt.mpr hT)]
        rw [if_pos]
        rw [← wt_coe hok1, hf, ht1]
        by_contra c
        exact hnk ⟨hc, not_lt.mp c⟩
    · have hf : f1 (σ m) = ⊥ := by
        rw [hf1]; unfold topP; split
        · rfl
        · unfold topK; rw [if_pos (not_le.mp hT)]
      rw [hmin, hf]; split <;> rfl

omit hf1 in
/-- The first element taken is kept. -/
theorem keep_zero (hmp : mp ≤ 1) : keep (fun k => pval y k.val) thr tp mp 0 := by
  have hl := last_reach H
  have hv0 := (reach_pick H 0 hl).2
  refine ⟨?_, Or.inr rfl, ?_⟩
  · show thr ≤ pval y (0 : Fin 64).val
    rw [hv0]; exact hl
  · show mp ≤ Ideal.exp (pval y (0 : Fin 64).val - pval y (0 : Fin 64).val)
    have e : x (σ (at' H.hV 0)) ≠ ⊥ := (lt_of_le_of_lt bot_le (lt_of_lt_of_le H.hpt hl)).ne'
    rw [hv0, ← EReal.coe_toReal (H.hx _).ne e, exp_sub_coe, sub_self, Real.exp_zero]
    exact hmp

omit hf1 in
/-- What is taken before a kept element is kept. -/
theorem keep_down (j k : Fin 64) (hjk : j ≤ k) (hk : keep (fun k => pval y k.val) thr tp mp k) :
    keep (fun k => pval y k.val) thr tp mp j := by
  have hl := last_reach H
  have hv0 := (reach_pick H 0 hl).2
  obtain ⟨h1, h2, h3⟩ := hk
  have hT := (reach_iff H k).mp h1
  have h1j : thr ≤ pval y j.val := h1.trans (pval_antitone y hjk)
  have hTj := (reach_iff H j).mp h1j
  refine ⟨h1j, ?_, ?_⟩
  · rcases h2 with h2 | h2
    · left
      refine lt_of_le_of_lt ?_ h2
      rw [pre_eq H,
        pre_eq H, EReal.coe_le_coe_iff]
      refine Finset.sum_le_sum_of_subset_of_nonneg ?_ fun m _ _ => wt_nonneg _ m
      intro m hm
      rw [Finset.mem_filter] at hm ⊢
      refine ⟨hm.1, lt_of_le_of_lt ?_ hm.2⟩
      show V - 1 - k.val ≤ V - 1 - j.val
      omega
    · right; subst h2; exact le_antisymm hjk (Fin.zero_le _)
  · refine h3.trans ?_
    show Ideal.exp (pval y k.val - pval y (0 : Fin 64).val) ≤ Ideal.exp (pval y j.val - pval y (0 : Fin 64).val)
    rw [hv0, (reach_pick H k hT).2, (reach_pick H j hTj).2]
    have nb : ∀ q, thr ≤ x q → x q ≠ ⊥ := fun q hq => (lt_of_le_of_lt bot_le (lt_of_lt_of_le H.hpt hq)).ne'
    have hle : x (σ (at' H.hV k)) ≤ x (σ (at' H.hV j)) := sorted_mono x σ H.hs _ _ (by show V - 1 - k.val ≤ V - 1 - j.val; omega)
    rw [← EReal.coe_toReal (H.hx (σ (at' H.hV k))).ne (nb _ hT), ← EReal.coe_toReal (H.hx (σ (at' H.hV j))).ne (nb _ hTj),
      ← EReal.coe_toReal (H.hx (σ (at' H.hV 0))).ne (nb _ hl), exp_sub_coe, exp_sub_coe, EReal.coe_le_coe_iff, Real.exp_le_exp]
    rw [← EReal.coe_toReal (H.hx (σ (at' H.hV k))).ne (nb _ hT), ← EReal.coe_toReal (H.hx (σ (at' H.hV j))).ne (nb _ hTj),
      EReal.coe_le_coe_iff] at hle
    linarith

end sorted

end Cert.Rows
end
-- ==== Proof.Tail.lean ====
/-
  From the kept places to the three results.

  `second f` is the row with the first place of its maximum blanked; when `masks f on c` holds (the mask is on and the
  two best probabilities are closer than `c`) the results are those of `second f`, else those of `f`.
-/
module

public import proofs.«01_k».proof.Proof.Kept

@[expose] public section

noncomputable section

namespace Cert.Rows

open Finset Idealize.ShloMosaic

section tail
variable {ι : Type} [Fintype ι] [LinearOrder ι] [Nonempty ι]

/-- The row with the first place of its maximum blanked. -/
def second (f : ι → EReal) : ι → EReal := Function.update f (firstTop f) ⊥

/-- The mask is on and the two best probabilities are closer than `c`. -/
def masks (f : ι → EReal) (on : Prop) (c : EReal) : Prop :=
  on ∧ Ideal.div 1 (∑ q, Ideal.exp (f q - top f))
    - Ideal.div (Ideal.exp (top (second f) - top f)) (∑ q, Ideal.exp (f q - top f)) < c

open Classical in
/-- The row the results are read off. -/
def final (f : ι → EReal) (on : Prop) (c : EReal) : ι → EReal := if masks f on c then second f else f

/-- The logarithm of the softmax. -/
def logp (g : ι → EReal) (p : ι) : EReal := (g p - top g) - Ideal.log (∑ q, Ideal.exp (g q - top g))

theorem second_le (f : ι → EReal) (p : ι) : second f p ≤ f p := by
  unfold second
  by_cases h : p = firstTop f
  · subst h; simp
  · rw [Function.update_of_ne h]

theorem second_ok {f : ι → EReal} (h : Ok f) (on : Prop) (c : EReal) (hc : c ≤ 1) (hm : masks f on c) :
    top (second f) ≠ ⊥ := by
  intro hb
  have hall : ∀ p, p ≠ firstTop f → f p = ⊥ := fun p hp => by
    have h1 : second f p ≤ ⊥ := hb ▸ le_top' (second f) p
    unfold second at h1
    rw [Function.update_of_ne hp] at h1
    exact le_bot_iff.mp h1
  have hz : zr f = 1 := by
    unfold zr
    rw [Finset.sum_eq_single (firstTop f) (fun p _ hp => wt_bot (hall p hp)) (fun c => absurd (mem_univ _) c)]
    exact wt_top h (firstTop_val f)
  have h2 := hm.2
  rw [hb, EReal.bot_sub, Ideal.exp_bot, z_coe h, hz, ← EReal.coe_one, div_coe _ _ one_ne_zero, ← EReal.coe_zero,
    div_coe _ _ one_ne_zero, ← EReal.coe_sub] at h2
  have : ((1 / 1 - 0 / 1 : ℝ) : EReal) = 1 := by norm_num
  rw [this] at h2
  exact absurd (lt_of_lt_of_le h2 hc) (lt_irrefl _)

theorem final_ok {f : ι → EReal} (h : Ok f) (on : Prop) (c : EReal) (hc : c ≤ 1) : Ok (final f on c) := by
  unfold final
  split
  · next hm =>
    exact ⟨fun p => (lt_of_le_of_lt (second_le f p) (lt_top_iff_ne_top.mpr (h.1 p))).ne, second_ok h on c hc hm⟩
  · exact h

theorem wt_le_iff {f : ι → EReal} (h : Ok f) (p q : ι) : wt f p ≤ wt f q ↔ f p ≤ f q := by
  by_cases hp : f p = ⊥
  · rw [wt_bot hp, hp]; exact ⟨fun _ => bot_le, fun _ => wt_nonneg f q⟩
  by_cases hq : f q = ⊥
  · rw [wt_bot hq, hq, le_bot_iff]
    constructor
    · intro h1
      unfold wt at h1
      rw [if_neg hp] at h1
      exact absurd h1 (not_le.mpr (Real.exp_pos _))
    · exact fun c => absurd c hp
  · unfold wt
    rw [if_neg hp, if_neg hq, Real.exp_le_exp, sub_le_sub_iff_right, ← EReal.coe_le_coe_iff,
      EReal.coe_toReal (h.1 p) hp, EReal.coe_toReal (h.1 q) hq]

theorem soft_le_iff {f : ι → EReal} (h : Ok f) (p q : ι) : soft f p ≤ soft f q ↔ f p ≤ f q := by
  rw [soft_coe h, soft_coe h, EReal.coe_le_coe_iff, div_le_div_iff_of_pos_right (zr_pos h), wt_le_iff h]

/-- The greatest probability and the place it first stands at. -/
theorem firstTop_soft {f : ι → EReal} (h : Ok f) : firstTop (soft f) = firstTop f :=
  firstTop_eq _ _ ((soft_eq_top_iff h _).mpr (firstTop_val f)) fun q hq => firstTop_le f q ((soft_eq_top_iff h q).mp hq)

theorem top_soft' {f : ι → EReal} (h : Ok f) : top (soft f) = Ideal.div 1 (∑ q, Ideal.exp (f q - top f)) := by
  rw [top_soft h, z_coe h, ← EReal.coe_one, div_coe _ _ (zr_pos h).ne']

/-- The second greatest probability. -/
theorem second_soft {f : ι → EReal} (h : Ok f) (q : ι) (hq : q ≠ firstTop f)
    (hl : ∀ p, p ≠ firstTop f → soft f p ≤ soft f q) :
    soft f q = Ideal.div (Ideal.exp (top (second f) - top f)) (∑ q, Ideal.exp (f q - top f)) := by
  have e : top (second f) = f q := by
    have e2 : second f q = f q := by unfold second; rw [Function.update_of_ne hq]
    rw [← e2]
    refine top_eq _ _ fun p => ?_
    rw [e2]
    unfold second
    by_cases hp : p = firstTop f
    · subst hp; simp
    · rw [Function.update_of_ne hp]; exact (soft_le_iff h p q).mp (hl p hp)
  rw [e]; rfl

end tail

/-! ### The kernel's text of the results -/

section kernel
variable {N : ℕ} [NeZero N] (y : Fin N → EReal) (K : Fin 64 → Prop) (h0 : K 0) (hd : ∀ j k : Fin 64, j ≤ k → K k → K j)
  (hb : ∀ k : Fin 64, K k → ⊥ < pval y k.val)
include h0 hd hb

open Classical in
theorem rowkeep_iff (vm : EReal) (hvm : vm = univ.inf fun k : Fin 64 => if K k then pval y k.val else ⊤)
    (im : ℕ) (him1 : ∀ k : Fin 64, K k → pval y k.val = vm → im ≤ (pick y k.val).val)
    (him2 : (∃ k : Fin 64, K k ∧ pval y k.val = vm) → ∃ k : Fin 64, K k ∧ pval y k.val = vm ∧ im = (pick y k.val).val) (p : Fin N) :
    (vm < y p ∨ (y p = vm ∧ im ≤ p.val)) ↔ ∃ k : Fin 64, pick y k.val = p ∧ K k := by
  obtain ⟨κ, hκ, hmax⟩ : ∃ κ, K κ ∧ ∀ k, K k → k ≤ κ := by
    have hne : (univ.filter K).Nonempty := ⟨0, by simp [h0]⟩
    refine ⟨(univ.filter K).max' hne, (Finset.mem_filter.mp (Finset.max'_mem _ hne)).2, fun k hk => Finset.le_max' _ _ (by simp [hk])⟩
  have hv : vm = pval y κ.val := by
    rw [hvm]
    apply le_antisymm
    · refine (Finset.inf_le (mem_univ κ)).trans ?_
      rw [if_pos hκ]
    · refine Finset.le_inf fun k _ => ?_
      split
      · next hk => exact pval_antitone y (hmax k hk)
      · exact le_top
  constructor
  · intro h
    by_contra hno
    have hfree : ∀ j ≤ κ.val, pick y j ≠ p := fun j hj e =>
      hno ⟨⟨j, lt_of_le_of_lt hj κ.isLt⟩, e, hd _ κ hj hκ⟩
    have hbeh := pick_behind y κ.val (hb κ hκ) p hfree
    rw [← hv] at hbeh
    rcases h with h | ⟨h1, h2⟩
    · rcases hbeh with c | c
      · exact lt_asymm h c
      · exact absurd c.1 h.ne'
    · rcases hbeh with c | c
      · exact absurd h1 c.ne
      · obtain ⟨k, hk, hkv, hki⟩ := him2 ⟨κ, hκ, hv.symm⟩
        have hle := hmax k hk
        have hlt : p.val < (pick y κ.val).val := c.2
        rcases lt_or_eq_of_le hle with hlt' | heq
        · have ht : (pick y κ.val).val < (pick y k.val).val := pick_tie y k.val κ.val hlt' (hb κ hκ) (hkv.trans hv)
          omega
        · subst heq; omega
  · rintro ⟨k, rfl, hk⟩
    rw [pick_val y k.val (hb k hk)]
    have hle : vm ≤ pval y k.val := hv ▸ pval_antitone y (hmax k hk)
    rcases lt_or_eq_of_le hle with h | h
    · exact Or.inl h
    · exact Or.inr ⟨h.symm, him1 k hk h.symm⟩

variable (f : Fin N → EReal) (hf1 : ∀ p, (∃ k : Fin 64, pick y k.val = p ∧ K k) → f p = y p)
  (hf2 : ∀ p, (¬ ∃ k : Fin 64, pick y k.val = p ∧ K k) → f p = ⊥)
include hf1 hf2

theorem f_pick (k : Fin 64) (hk : K k) : f (pick y k.val) = pval y k.val := by
  rw [hf1 _ ⟨k, rfl, hk⟩, pick_val y k.val (hb k hk)]

theorem f_cases (p : Fin N) : (∃ k : Fin 64, pick y k.val = p ∧ K k ∧ f p = pval y k.val) ∨ f p = ⊥ := by
  by_cases h : ∃ k : Fin 64, pick y k.val = p ∧ K k
  · left
    obtain ⟨k, e, hk⟩ := h
    refine ⟨k, e, hk, ?_⟩
    rw [← e]; exact f_pick y K h0 hd hb f hf1 hf2 k hk
  · right; exact hf2 p h

theorem top_f : top f = pval y 0 := by
  have e := f_pick y K h0 hd hb f hf1 hf2 0 h0
  have e' : f (pick y 0) = pval y 0 := e
  rw [← e']
  refine top_eq _ _ fun q => ?_
  rw [e']
  rcases f_cases y K h0 hd hb f hf1 hf2 q with ⟨k, _, _, h⟩ | h
  · rw [h]; exact pval_antitone y (Nat.zero_le _)
  · rw [h]; exact bot_le

theorem f_ok (hx : ∀ p, (∃ k : Fin 64, pick y k.val = p ∧ K k) → y p ≠ ⊤) : Ok f := by
  refine ⟨fun p => ?_, ?_⟩
  · by_cases h : ∃ k : Fin 64, pick y k.val = p ∧ K k
    · rw [hf1 p h]; exact hx p h
    · rw [hf2 p h]; exact bot_ne_top
  · rw [top_f y K h0 hd hb f hf1 hf2]; exact (hb 0 h0).ne'

/-- A kept place holds the value `w` exactly when `f` holds it. -/
theorem f_eq_iff (w : EReal) (hw : w ≠ ⊥) (p : Fin N) :
    ((∃ k : Fin 64, pick y k.val = p ∧ K k) ∧ y p = w) ↔ f p = w := by
  constructor
  · rintro ⟨h, e⟩; rw [hf1 p h]; exact e
  · intro e
    by_cases h : ∃ k : Fin 64, pick y k.val = p ∧ K k
    · exact ⟨h, by rw [← hf1 p h]; exact e⟩
    · rw [hf2 p h] at e; exact absurd e.symm hw

theorem top_second (h1 : K 1) : top (second f) = pval y 1 := by
  have hp1 : f (pick y 1) = pval y 1 := f_pick y K h0 hd hb f hf1 hf2 1 h1
  have hp0 : f (pick y 0) = pval y 0 := f_pick y K h0 hd hb f hf1 hf2 0 h0
  have ht := top_f y K h0 hd hb f hf1 hf2
  have hb1 : ⊥ < pval y 1 := hb 1 h1
  have hb0 : ⊥ < pval y 0 := hb 0 h0
  have hft : f (firstTop f) = pval y 0 := (firstTop_val f).trans ht
  obtain ⟨k0, hk0, hK0, hv0⟩ : ∃ k : Fin 64, pick y k.val = firstTop f ∧ K k ∧ f (firstTop f) = pval y k.val :=
    (f_cases y K h0 hd hb f hf1 hf2 (firstTop f)).resolve_right (by rw [hft]; exact hb0.ne')
  -- where `second f` holds the second value
  have hex : ∃ q, second f q = pval y 1 := by
    by_cases hz : k0.val = 0
    · refine ⟨pick y 1, ?_⟩
      unfold second
      rw [Function.update_of_ne, hp1]
      rw [← hk0, hz]
      exact fun e => pick_fresh y 1 hb1 0 one_pos e.symm
    · refine ⟨pick y 0, ?_⟩
      have hne : pick y 0 ≠ firstTop f := by
        rw [← hk0]
        exact pick_fresh y k0.val (hb k0 hK0) 0 (by omega)
      unfold second
      rw [Function.update_of_ne hne, hp0]
      apply le_antisymm
      · rw [← hft, hv0]; exact pval_antitone y (by omega)
      · exact pval_antitone y (by omega)
  obtain ⟨q, hq⟩ := hex
  rw [← hq]
  refine top_eq _ _ fun p => ?_
  rw [hq]
  by_cases hp : p = firstTop f
  · subst hp; unfold second; simp
  · have : second f p = f p := by unfold second; rw [Function.update_of_ne hp]
    rw [this]
    rcases f_cases y K h0 hd hb f hf1 hf2 p with ⟨k, e, hk, h⟩ | h
    · rw [h]
      by_cases hz : k.val = 0
      · have hk0' : k0.val ≠ 0 := fun c => hp (by rw [← e, ← hk0, hz, c])
        rw [hz, ← hft, hv0]
        exact pval_antitone y (by omega)
      · exact pval_antitone y (by omega)
    · rw [h]; exact bot_le

theorem top_second_none (h1 : ¬ K 1) : top (second f) = ⊥ := by
  have only : ∀ k : Fin 64, K k → k.val = 0 := fun k hk => by
    by_contra c
    exact h1 (hd 1 k (by show 1 ≤ k.val; omega) hk)
  have ht := top_f y K h0 hd hb f hf1 hf2
  have hft : f (firstTop f) = pval y 0 := (firstTop_val f).trans ht
  obtain ⟨k0, hk0, hK0, _⟩ : ∃ k : Fin 64, pick y k.val = firstTop f ∧ K k ∧ f (firstTop f) = pval y k.val :=
    (f_cases y K h0 hd hb f hf1 hf2 (firstTop f)).resolve_right (by rw [hft]; exact (hb 0 h0).ne')
  refine le_bot_iff.mp (Finset.sup_le fun p _ => ?_)
  by_cases hp : p = firstTop f
  · subst hp; unfold second; simp
  · have e : second f p = f p := by unfold second; rw [Function.update_of_ne hp]
    rw [e]
    rcases f_cases y K h0 hd hb f hf1 hf2 p with ⟨k, e, hk, h⟩ | h
    · exact absurd (by rw [← e, ← hk0, only k hk, only k0 hK0]) hp
    · rw [h]

open Classical in
/-- The kernel's second probability. -/
theorem p1_eq (hok : Ok f) : (if K 1 then Ideal.div (Ideal.exp (pval y 1 - pval y 0)) (∑ q, Ideal.exp (f q - pval y 0)) else 0)
    = Ideal.div (Ideal.exp (top (second f) - top f)) (∑ q, Ideal.exp (f q - top f)) := by
  have ht := top_f y K h0 hd hb f hf1 hf2
  split
  · next h => rw [top_second y K h0 hd hb f hf1 hf2 h, ht]
  · next h =>
    rw [top_second_none y K h0 hd hb f hf1 hf2 h, EReal.bot_sub, Ideal.exp_bot, z_coe hok, ← EReal.coe_zero,
      div_coe _ _ (zr_pos hok).ne', _root_.zero_div]

end kernel

/-! ### A row padded with −∞ -/

section pad
variable {V N : ℕ} [NeZero V] [NeZero N] (hVN : V ≤ N) (f : Fin N → EReal) (hout : ∀ p : Fin N, V ≤ p.val → f p = ⊥)
include hout

theorem top_pad : top f = top (fun p : Fin V => f (Fin.castLE hVN p)) := by
  apply le_antisymm
  · refine Finset.sup_le fun p _ => ?_
    by_cases h : p.val < V
    · exact le_top' (fun p : Fin V => f (Fin.castLE hVN p)) ⟨p.val, h⟩
    · rw [hout p (not_lt.mp h)]; exact bot_le
  · exact Finset.sup_le fun p _ => le_top' f _

theorem z_pad (M : EReal) : ∑ q, Ideal.exp (f q - M) = ∑ q : Fin V, Ideal.exp (f (Fin.castLE hVN q) - M) := by
  refine (sum_castLE hVN (fun q => Ideal.exp (f q - M)) fun k hk => ?_).symm
  rw [hout k hk, EReal.bot_sub]; rfl

theorem firstTop_pad (hb : top f ≠ ⊥) : firstTop f = Fin.castLE hVN (firstTop fun p : Fin V => f (Fin.castLE hVN p)) := by
  refine firstTop_eq _ _ ?_ fun q hq => ?_
  · rw [top_pad hVN f hout]
    exact firstTop_val fun p : Fin V => f (Fin.castLE hVN p)
  · by_cases h : q.val < V
    · exact firstTop_le (fun p : Fin V => f (Fin.castLE hVN p)) ⟨q.val, h⟩ (by rw [← top_pad hVN f hout]; exact hq)
    · rw [hout q (not_lt.mp h)] at hq; exact absurd hq.symm hb

theorem second_pad (hb : top f ≠ ⊥) (p : Fin V) :
    second f (Fin.castLE hVN p) = second (fun p : Fin V => f (Fin.castLE hVN p)) p := by
  unfold second
  rw [firstTop_pad hVN f hout hb]
  by_cases h : p = firstTop fun p : Fin V => f (Fin.castLE hVN p)
  · rw [← h]; simp
  · rw [Function.update_of_ne h, Function.update_of_ne]
    exact fun c => h (Fin.castLE_injective hVN c)

theorem second_out (p : Fin N) (h : V ≤ p.val) : second f p = ⊥ :=
  le_bot_iff.mp ((second_le f p).trans (hout p h).le)

theorem masks_pad (hb : top f ≠ ⊥) (on : Prop) (c : EReal) :
    masks f on c ↔ masks (fun p : Fin V => f (Fin.castLE hVN p)) on c := by
  unfold masks
  rw [z_pad hVN f hout, ← top_pad hVN f hout, top_pad hVN (second f) (second_out f hout),
    show (fun p : Fin V => second f (Fin.castLE hVN p)) = second (fun p : Fin V => f (Fin.castLE hVN p)) from
      funext (second_pad hVN f hout hb)]

theorem final_pad (hb : top f ≠ ⊥) (on : Prop) (c : EReal) (p : Fin V) :
    final f on c (Fin.castLE hVN p) = final (fun p : Fin V => f (Fin.castLE hVN p)) on c p := by
  unfold final
  by_cases h : masks f on c
  · rw [if_pos h, if_pos ((masks_pad hVN f hout hb on c).mp h)]; exact second_pad hVN f hout hb p
  · rw [if_neg h, if_neg fun c' => h ((masks_pad hVN f hout hb on c).mpr c')]

theorem final_out (on : Prop) (c : EReal) (p : Fin N) (h : V ≤ p.val) : final f on c p = ⊥ := by
  unfold final; split
  · exact second_out f hout p h
  · exact hout p h

theorem soft_pad (p : Fin V) : soft f (Fin.castLE hVN p) = soft (fun p : Fin V => f (Fin.castLE hVN p)) p := by
  unfold soft; rw [z_pad hVN f hout, ← top_pad hVN f hout]

theorem logp_pad (p : Fin V) : logp f (Fin.castLE hVN p) = logp (fun p : Fin V => f (Fin.castLE hVN p)) p := by
  unfold logp; rw [z_pad hVN f hout, ← top_pad hVN f hout]

end pad

end Cert.Rows
end
-- ==== Proof.Heads.lean ====
/-
  What the kernel computes of the 64 taken elements, read one row at a time: the threshold, the kept set, the kept row, its
  first two places and their probabilities.
-/
module

public import proofs.«01_k».proof.Proof.Body
public import proofs.«01_k».proof.Proof.Tail
public import proofs.«01_k».proof.Proof.Kept

@[expose] public section

set_option maxRecDepth 16384

noncomputable section

namespace Cert.Rows

open Finset Idealize.ShloMosaic
open Cert.KernelIdeal.Trip (word_toInt word_inj word_eq)

theorem bool_one (p : Prop) [Decidable p] : BitVec.ofBool (decide p) = 1#1 ↔ p := by
  by_cases h : p <;> simp [h]

theorem sel_one {α : Type} (b : BitVec 1) (x y : α) : Scalar.select b x y = if b = 1#1 then x else y := by
  unfold Scalar.select; rcases (by revert b; decide : b = 1#1 ∨ b = 0#1) with h | h <;> simp [h]

theorem num_bit (b : BitVec 1) : (FloatOps.sitofp .f32 (BitVec.setWidth 32 b) : Ideal .f32) = if b = 1#1 then (1 : EReal) else 0 := by
  rcases (by revert b; decide : b = 1#1 ∨ b = 0#1) with h | h
  · subst h; rw [if_pos rfl]; show (((BitVec.setWidth 32 1#1).toInt : ℝ) : EReal) = 1; simp
  · subst h; rw [if_neg (by decide)]; show (((BitVec.setWidth 32 0#1).toInt : ℝ) : EReal) = 0; simp

theorem word_lt (a b : ℕ) (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  rw [BitVec.slt_eq_decide, bool_one, word_toInt a ha, word_toInt b hb]; omega

theorem word_ge (a b : ℕ) (ha : a < 2 ^ 31) (hb : b < 2 ^ 31) : IntOp.cmpi .sge (BitVec.ofNat 32 a) (BitVec.ofNat 32 b) = 1#1 ↔ b ≤ a := by
  show BitVec.ofBool ((BitVec.ofNat 32 b).sle (BitVec.ofNat 32 a)) = 1#1 ↔ _
  rw [BitVec.sle_eq_decide, bool_one, word_toInt a ha, word_toInt b hb]; omega

theorem word_eq_iff (a b : ℕ) (ha : a < 2 ^ 31) (hb : b < 2 ^ 31) : IntOp.cmpi .eq (BitVec.ofNat 32 a) (BitVec.ofNat 32 b) = 1#1 ↔ a = b := by
  show BitVec.ofBool (BitVec.ofNat 32 a == BitVec.ofNat 32 b) = 1#1 ↔ _
  rw [show (BitVec.ofNat 32 a == BitVec.ofNat 32 b) = decide (BitVec.ofNat 32 a = BitVec.ofNat 32 b) from rfl, bool_one, word_inj a b ha hb]

theorem word_ne_iff (a b : ℕ) (ha : a < 2 ^ 31) (hb : b < 2 ^ 31) : IntOp.cmpi .ne (BitVec.ofNat 32 a) (BitVec.ofNat 32 b) = 1#1 ↔ a ≠ b := by
  show BitVec.ofBool (BitVec.ofNat 32 a != BitVec.ofNat 32 b) = 1#1 ↔ _
  rw [show (BitVec.ofNat 32 a != BitVec.ofNat 32 b) = decide (BitVec.ofNat 32 a ≠ BitVec.ofNat 32 b) by
    simp [bne, beq_eq_decide], bool_one, Ne, word_inj a b ha hb]

theorem place_word (c : Fin 782) (l : Fin 128) :
    IntOp.addi (IntOp.muli (BitVec.ofNat 32 c.val) 128#32) (BitVec.ofNat 32 l.val) = BitVec.ofNat 32 (c.val * 128 + l.val) := by
  show BitVec.ofNat 32 c.val * BitVec.ofNat 32 128 + BitVec.ofNat 32 l.val = _
  rw [BitVec.ofNat_add, BitVec.ofNat_mul]

theorem fold_minsi_spec {ι : Type} [DecidableEq ι] (g : ι → BitVec 32) (s : Finset ι) (z : BitVec 32) :
    (s.fold IntOp.minsi z g).toInt ≤ z.toInt ∧ (∀ i ∈ s, (s.fold IntOp.minsi z g).toInt ≤ (g i).toInt) ∧
      (s.fold IntOp.minsi z g = z ∨ ∃ i ∈ s, s.fold IntOp.minsi z g = g i) := by
  refine Finset.induction_on s ⟨le_rfl, by simp, Or.inl rfl⟩ ?_
  intro a s ha ⟨h1, h2, h3⟩
  rw [Finset.fold_insert ha]
  have e : IntOp.minsi (g a) (s.fold IntOp.minsi z g) = if (g a).slt (s.fold IntOp.minsi z g) then g a else s.fold IntOp.minsi z g := rfl
  rw [e]
  split
  · next h =>
    rw [BitVec.slt_eq_decide, decide_eq_true_eq] at h
    refine ⟨by omega, fun i hi => ?_, Or.inr ⟨a, by simp, rfl⟩⟩
    rcases Finset.mem_insert.mp hi with rfl | hi
    · exact le_rfl
    · have := h2 i hi; omega
  · next h =>
    rw [BitVec.slt_eq_decide, decide_eq_true_eq] at h
    refine ⟨h1, fun i hi => ?_, h3.imp_right fun ⟨i, hi, e⟩ => ⟨i, by simp [hi], e⟩⟩
    rcases Finset.mem_insert.mp hi with rfl | hi
    · omega
    · exact h2 i hi

/-- A fold of the signed minimum reaching a known least word. -/
theorem foldMin_eq {ι : Type} [DecidableEq ι] (g : ι → BitVec 32) (s : Finset ι) (n : ℕ) (hn : n < 2 ^ 31)
    (hle : ∀ i ∈ s, (n : ℤ) ≤ (g i).toInt) (hex : ∃ i ∈ s, g i = BitVec.ofNat 32 n) :
    s.fold IntOp.minsi 2147483647#32 g = BitVec.ofNat 32 n := by
  obtain ⟨h1, h2, h3⟩ := fold_minsi_spec g s 2147483647#32
  obtain ⟨i, hi, e⟩ := hex
  have hge := h2 i hi
  rw [e, word_toInt n hn] at hge
  apply word_eq hn
  rcases h3 with h | ⟨j, hj, h⟩
  · rw [h] at hge ⊢
    have : (2147483647#32).toInt = 2147483647 := by decide
    omega
  · rw [h] at hge ⊢
    exact le_antisymm hge (hle j hj)

/-- The least number among those that qualify, else the fallback. -/
theorem foldMin_sel {ι : Type} [Fintype ι] [Nonempty ι] [DecidableEq ι] (P : ι → Prop) [DecidablePred P] (idx : ι → ℕ) (N : ℕ) (hN : N < 2 ^ 31) (hi : ∀ i, idx i ≤ N) (g : ι → BitVec 32)
    (hg : ∀ i, g i = if P i then BitVec.ofNat 32 (idx i) else BitVec.ofNat 32 N) :
    ∃ n, n ≤ N ∧ univ.fold IntOp.minsi 2147483647#32 g = BitVec.ofNat 32 n ∧ (∀ i, P i → n ≤ idx i) ∧ ((∃ i, P i) → ∃ i, P i ∧ n = idx i) := by
  by_cases h : ∃ i, P i
  · obtain ⟨i, hm, hl⟩ := Finset.exists_min_image (univ.filter P) idx (by obtain ⟨i, h⟩ := h; exact ⟨i, by simp [h]⟩)
    have hP : P i := by simpa using hm
    refine ⟨idx i, hi i, ?_, fun j hj => hl j (by simp [hj]), fun _ => ⟨i, hP, rfl⟩⟩
    refine foldMin_eq g _ _ (lt_of_le_of_lt (hi i) hN) (fun j _ => ?_) ⟨i, mem_univ i, by rw [hg, if_pos hP]⟩
    rw [hg]; split
    · next hj => rw [word_toInt _ (lt_of_le_of_lt (hi j) hN)]; exact_mod_cast hl j (by simp [hj])
    · rw [word_toInt _ hN]; exact_mod_cast hi i
  · refine ⟨N, le_rfl, ?_, fun i hP => absurd ⟨i, hP⟩ h, fun h' => absurd h' h⟩
    have e : ∀ i, g i = BitVec.ofNat 32 N := fun i => by rw [hg, if_neg fun c => h ⟨i, c⟩]
    exact foldMin_eq g _ _ hN (fun j _ => by rw [e, word_toInt _ hN]) ⟨Classical.arbitrary ι, mem_univ _, e _⟩

end Cert.Rows

namespace Cert.KernelIdeal.Trip

open Idealize.ShloMosaic.ValueIdx hiding ix2 ix3
open Idealize.ShloMosaic Cert.Rows Finset
open Cert.KernelIdeal Cert.KernelIdeal.Gen

/-- Places and (chunk, lane) pairs. -/
def cells : Fin 782 × Fin 128 ≃ Fin 100096 where
  toFun q := place q.1 q.2
  invFun p := (chunkOf p, laneOf p)
  left_inv q := Prod.ext (chunkOf_place _ _) (laneOf_place _ _)
  right_inv p := place_eta p

theorem sum_cells (g : Fin 100096 → EReal) : ∑ c : Fin 782, ∑ l : Fin 128, g (place c l) = ∑ p, g p := by
  rw [← Equiv.sum_comp cells g, Fintype.sum_prod_type]; rfl

section heads
variable (V : FVec Ideal S8x64 .f32) (v0 thr : FVec Ideal S8x1 .f32) (tp mp : Vec Ideal S8x1 .f32) (r : Fin 8)

open Classical in
theorem thr_eq (tk : Vec Ideal S8x1 .i32) (n : ℕ) (hn : n < 2 ^ 31)
    (h : IntOp.minsi 64#32 (IntOp.maxsi 1#32 (tk (ix2 r 0))) = BitVec.ofNat 32 n) :
    k0_pay73 V tk (ix2 r 0) = kthr (fun k => V (ix2 r k)) n := by
  pointwise [k0_pay73]
  rw [ofBits_top, fold_min, h]
  unfold kthr
  refine Finset.inf_congr rfl fun k _ => ?_
  rw [sel_one]
  simp only [word_lt k.val n (by omega) hn]

theorem kept_iff (hv : v0 (ix2 r 0) = V (ix2 r 0)) (k : Fin 64) : k0_pay74 kNo V v0 thr tp mp (ix2 r k) = 1#1 ↔
    keep (fun k => V (ix2 r k)) (thr (ix2 r 0)) (tp (ix2 r 0)) (mp (ix2 r 0)) k := by
  pointwise [k0_pay74, kNo]
  rw [IntOp.andi_eq_one, IntOp.andi_eq_one, IntOp.ori_eq_one, bool_one, bool_one, bool_one, hv]
  have e0 : IntOp.cmpi CmpIPredicate.eq (BitVec.ofNat 32 k.val) 0#32 = 1#1 ↔ k = 0 := by
    rw [show (0#32 : BitVec 32) = BitVec.ofNat 32 0 from rfl, word_eq_iff _ _ (by omega) (by omega)]
    exact ⟨fun h => Fin.ext h, fun h => by rw [h]; rfl⟩
  have e1 : ∀ x : Fin 64, (FloatOps.sitofp .f32 (BitVec.setWidth 32 (IntOp.cmpi CmpIPredicate.slt (BitVec.ofNat 32 x.val) (BitVec.ofNat 32 k.val))) : Ideal .f32)
      = if x < k then (1 : EReal) else 0 := fun x => by
    rw [num_bit]; simp only [word_lt x.val k.val (by omega) (by omega), Fin.lt_def]
  rw [e0, Finset.sum_congr rfl fun x _ => by rw [e1 x]]
  exact and_assoc

open Classical in
theorem vm_eq (K : Fin 64 → Prop) (hK : ∀ k, k0_pay74 kNo V v0 thr tp mp (ix2 r k) = 1#1 ↔ K k) :
    k0_pay75 kNo V v0 thr tp mp (ix2 r 0) = univ.inf fun k : Fin 64 => if K k then V (ix2 r k) else ⊤ := by
  pointwise [k0_pay75]
  rw [ofBits_top, fold_min]
  refine Finset.inf_congr rfl fun k _ => ?_
  rw [sel_one]; simp only [hK k]

open Classical in
theorem im_eq (I : IVec S8x64 32) (K : Fin 64 → Prop) (hK : ∀ k, k0_pay74 kNo V v0 thr tp mp (ix2 r k) = 1#1 ↔ K k)
    (idx : Fin 64 → Fin 100096) (hI : ∀ k, I (ix2 r k) = BitVec.ofNat 32 (idx k).val) :
    ∃ im, im ≤ 100096 ∧ k0_pay76 kNo V I v0 thr tp mp (ix2 r 0) = BitVec.ofNat 32 im ∧
      (∀ k, K k → V (ix2 r k) = k0_pay75 kNo V v0 thr tp mp (ix2 r 0) → im ≤ (idx k).val) ∧
      ((∃ k, K k ∧ V (ix2 r k) = k0_pay75 kNo V v0 thr tp mp (ix2 r 0)) →
        ∃ k, K k ∧ V (ix2 r k) = k0_pay75 kNo V v0 thr tp mp (ix2 r 0) ∧ im = (idx k).val) := by
  obtain ⟨n, h1, h2, h3, h4⟩ := foldMin_sel (fun k : Fin 64 => K k ∧ V (ix2 r k) = k0_pay75 kNo V v0 thr tp mp (ix2 r 0)) (fun k => (idx k).val) 100096
    (by omega) (fun i => by omega)
    (fun x => Scalar.select (IntOp.andi (k0_pay74 kNo V v0 thr tp mp (ix2 r x))
            (BitVec.ofBool (decide (V (ix2 r x) = k0_pay75 kNo V v0 thr tp mp (ix2 r 0))))) (I (ix2 r x)) 100096#32)
    (fun k => by
      rw [sel_one]
      exact if_congr (IntOp.andi_eq_one.trans (and_congr (hK k) (bool_one _))) (hI k) rfl)
  refine ⟨n, h1, ?_, fun k a b => h3 k ⟨a, b⟩, fun h => ?_⟩
  · pointwise [k0_pay76]
    exact h2
  · obtain ⟨k, ⟨a, b⟩, c⟩ := h4 h
    exact ⟨k, a, b, c⟩

theorem two_eq : Ideal.ofBits FTy.f32 1073741824#32 = (2 : EReal) := by
  show Ideal.ieee 8 23 1073741824#32 = 2
  unfold Ideal.ieee
  simp
  rw [← EReal.coe_mul, show (8388608 * (2 ^ 22)⁻¹ : ℝ) = 2 by norm_num]
  rfl

open Classical in
theorem keep1_iff (K : Fin 64 → Prop) (hK : ∀ k, k0_pay74 kNo V v0 thr tp mp (ix2 r k) = 1#1 ↔ K k) (h0 : K 0)
    (hd : ∀ j k : Fin 64, j ≤ k → K k → K j) :
    k0_pay87 (k0_pay77 kNo V v0 thr tp mp) (ix3 r 0 0) = 1#1 ↔ K 1 := by
  pointwise [k0_pay87, k0_pay77]
  rw [two_eq, bool_one]
  have e : ∀ x : Fin 64, (FloatOps.sitofp .f32 (BitVec.setWidth 32 (k0_pay74 kNo V v0 thr tp mp (ix2 r x))) : Ideal .f32)
      = (((if K x then 1 else 0 : ℝ) : ℝ) : EReal) := fun x => by
    rw [num_bit]; simp only [hK x]; split <;> simp
  rw [Finset.sum_congr rfl fun x _ => e x, sum_coe, Finset.sum_boole, show (2 : EReal) = ((2 : ℝ) : EReal) by norm_cast, EReal.coe_le_coe_iff]
  constructor
  · intro h
    by_contra h1
    have : (univ.filter K) ⊆ {0} := fun k hk => by
      have hk : K k := by simpa using hk
      by_contra c
      exact h1 (hd 1 k (by show 1 ≤ k.val; have : k.val ≠ 0 := fun z => c (by simpa using Fin.ext z); omega) hk)
    have := Finset.card_le_card this
    rw [Finset.card_singleton] at this
    have h' : (2 : ℕ) ≤ (univ.filter K).card := by exact_mod_cast h
    omega
  · intro h1
    have : ({0, 1} : Finset (Fin 64)) ⊆ univ.filter K := fun k hk => by
      rcases Finset.mem_insert.mp hk with rfl | hk
      · simpa using h0
      · rw [Finset.mem_singleton.mp hk]; simpa using h1
    have := Finset.card_le_card this
    rw [Finset.card_pair (by decide)] at this
    exact_mod_cast this
end heads
end Cert.KernelIdeal.Trip
-- ==== Proof.RefRows.lean ====
/-
  The reference's row operations read at one row: the greatest element, the sum, a softmax, a stable sort, a running sum.
-/
module

public import proofs.«01_k».proof.Proof.RefRun
public import proofs.«01_k».proof.Proof.Cumul
public import proofs.«01_k».proof.Proof.Order
public import proofs.«01_k».proof.Proof.Heads
public import Idealize.ShloMosaic.Lib.Pointwise

@[expose] public section

set_option maxRecDepth 16384

noncomputable section

namespace Cert.ReferenceIdeal.Whole

open Idealize.ShloMosaic.ValueIdx hiding ix1 ix2 ix3
open Idealize.ShloMosaic Cert.Rows Finset
open Cert.KernelIdeal.Trip (ofBits_bot fold_max)
open Cert.ReferenceIdeal Cert.ReferenceIdeal.Gen

/-- A column of one value a row, repeated along the row. -/
abbrev wide (y : FVec Ideal S64 .f32) : FVec Ideal S64x100000 .f32 :=
  broadcastInDim S64x100000 ![0, 1] bcast_S64x1_S64x100000_0_1 (broadcastInDim S64x1 ![0] bcast_S64_S64x1_0 y)

abbrev rowMax (X : FVec Ideal S64x100000 .f32) : FVec Ideal S64 .f32 :=
  Host.reduce FloatOps.maximumf X (constant S_ .f32 0xFF800000#32) reducesTo_S64x100000_S64_d1 h_S_

abbrev rowSum (X : FVec Ideal S64x100000 .f32) : FVec Ideal S64 .f32 :=
  Host.reduceAdd X (constant S_ .f32 0x00000000#32) reducesTo_S64x100000_S64_d1 h_S_

abbrev less (X : FVec Ideal S64x100000 .f32) : FVec Ideal S64x100000 .f32 :=
  subf X (wide (maximumf (broadcastInDim S64 ![] bcast_S_S64 (constant S_ .f32 0xFF800000#32)) (rowMax X)))

abbrev share (X : FVec Ideal S64x100000 .f32) : FVec Ideal S64x100000 .f32 := Host.divf X (wide (rowSum X))

variable (X : FVec Ideal S64x100000 .f32) (R : Fin 64) (f : Fin 100000 → EReal) (hX : ∀ p, X (ix2 R p) = f p)

theorem wide_at (y : FVec Ideal S64 .f32) (p : Fin 100000) : wide y (ix2 R p) = y (ix1 R) := by
  pointwise [wide]

include hX in
theorem rowMax_at : rowMax X (ix1 R) = top f := by
  have e : Finset.fold max (⊥ : EReal) (fun x => X (ix2 R x)) univ = top f := by
    rw [fold_max]; exact Finset.sup_congr rfl fun p _ => hX p
  pointwise [rowMax]
  rw [ofBits_bot]
  exact e

include hX in
theorem rowSum_at : rowSum X (ix1 R) = ∑ p, f p := by
  pointwise [rowSum]
  exact Finset.sum_congr rfl fun p _ => hX p

theorem subf_at (X Y : FVec Ideal S64x100000 .f32) (i : S64x100000.Idx) : subf X Y i = (X i - Y i : EReal) := rfl
theorem divf_at (X Y : FVec Ideal S64x100000 .f32) (i : S64x100000.Idx) : Host.divf X Y i = Ideal.div (X i) (Y i) := rfl
theorem exp_at (X : FVec Ideal S64x100000 .f32) (i : S64x100000.Idx) : Host.exp X i = Ideal.exp (X i) := rfl
theorem floor_at (y : FVec Ideal S64 .f32) (i : S64.Idx) :
    maximumf (broadcastInDim S64 ![] bcast_S_S64 (constant S_ .f32 0xFF800000#32)) y i = y i := by
  show max (Ideal.ofBits .f32 0xFF800000#32) (y i) = y i
  rw [ofBits_bot]
  exact max_eq_right bot_le

include hX in
theorem less_at (p : Fin 100000) : less X (ix2 R p) = f p - top f := by
  rw [less, subf_at, wide_at, floor_at, rowMax_at X R f hX, hX]

include hX in
theorem share_at (p : Fin 100000) : share X (ix2 R p) = Ideal.div (f p) (∑ q, f q) := by
  rw [share, divf_at, wide_at, rowSum_at X R f hX, hX]

include hX in
theorem raised_at (p : Fin 100000) : Host.exp (less X) (ix2 R p) = Ideal.exp (f p - top f) := by
  rw [exp_at, less_at X R f hX]

include hX in
theorem share_raised (p : Fin 100000) : share (Host.exp (less X)) (ix2 R p) = soft f p :=
  share_at _ R (fun p => Ideal.exp (f p - top f)) (raised_at X R f hX) p

theorem log_at (y : FVec Ideal S64 .f32) (p : Fin 100000) :
    broadcastInDim S64x100000 ![0, 1] bcast_S64x1_S64x100000_0_1 (Host.log (broadcastInDim S64x1 ![0] bcast_S64_S64x1_0 y)) (ix2 R p) = Ideal.log (y (ix1 R)) := by
  pointwise []

include hX in
theorem logp_at (p : Fin 100000) :
    subf (less X) (broadcastInDim S64x100000 ![0, 1] bcast_S64x1_S64x100000_0_1 (Host.log (broadcastInDim S64x1 ![0] bcast_S64_S64x1_0 (rowSum (Host.exp (less X)))))) (ix2 R p) = logp f p := by
  rw [subf_at, log_at, less_at X R f hX, rowSum_at _ R _ (raised_at X R f hX)]
  rfl

theorem sort2_at {α β : Type} (cmp : α × β → α × β → BitVec 1) (x : S64x100000.Idx → α) (y : S64x100000.Idx → β) (m : Fin 100000)
    (B : Fin 100000 → Fin 100000 → Bool) (hB : ∀ k k', (cmp (x (ix2 R k), y (ix2 R k)) (x (ix2 R k'), y (ix2 R k')) == 1#1) = B k k') :
    (Host.sort2 S64x100000 1 cmp x y).1 (ix2 R m) = x (ix2 R (sortedFrom B m))
    ∧ (Host.sort2 S64x100000 1 cmp x y).2 (ix2 R m) = y (ix2 R (sortedFrom B m)) := by
  have h1 : (1 : Nat) < S64x100000.rank := by decide
  have hal : ∀ k : Fin 100000, (ix2 R m : S64x100000.Idx).along (⟨1, h1⟩ : Fin S64x100000.rank) k = ix2 R k := fun k => by
    funext a
    match a with
    | ⟨0, _⟩ => rfl
    | ⟨1, _⟩ => rfl
  have hBf : (fun k k' : Fin 100000 => cmp (x ((ix2 R m : S64x100000.Idx).along (⟨1, h1⟩ : Fin S64x100000.rank) k), y ((ix2 R m : S64x100000.Idx).along (⟨1, h1⟩ : Fin S64x100000.rank) k))
      (x ((ix2 R m : S64x100000.Idx).along (⟨1, h1⟩ : Fin S64x100000.rank) k'), y ((ix2 R m : S64x100000.Idx).along (⟨1, h1⟩ : Fin S64x100000.rank) k')) == 1#1) = B :=
    funext fun k => funext fun k' => by rw [hal, hal]; exact hB k k'
  unfold Host.sort2
  dsimp only
  constructor
  · rw [dif_pos h1]
    exact congrArg x ((congrArg (fun b => (ix2 R m : S64x100000.Idx).along (⟨1, h1⟩ : Fin S64x100000.rank) (sortedFrom b m)) hBf).trans (hal _))
  · rw [dif_pos h1]
    exact congrArg y ((congrArg (fun b => (ix2 R m : S64x100000.Idx).along (⟨1, h1⟩ : Fin S64x100000.rank) (sortedFrom b m)) hBf).trans (hal _))

/-! The comparators and the word of a place. -/

theorem cmp_float (l r : EReal × BitVec 32) : (comparator_f32_i32_d1 (F := Ideal) l r == 1#1) = decide (l.1 < r.1) := by
  have e : ∀ x : EReal, Scalar.select (BitVec.ofBool (decide (x ≠ x))) (Ideal.ofBits .f32 0x7FC00000#32)
      (Scalar.select (BitVec.ofBool (decide (x = Ideal.ofBits .f32 0x00000000#32))) (Ideal.ofBits .f32 0x00000000#32) x) = x := fun x => by
    rw [sel_one, sel_one, if_neg (show ¬ BitVec.ofBool (decide (x ≠ x)) = 1#1 from fun h => (bool_one (x ≠ x)).mp h rfl)]
    split
    · next h => exact ((bool_one _).mp h).symm
    · rfl
  have k : comparator_f32_i32_d1 (F := Ideal) l r = BitVec.ofBool (decide
      (Scalar.select (BitVec.ofBool (decide (l.1 ≠ l.1))) (Ideal.ofBits .f32 0x7FC00000#32)
        (Scalar.select (BitVec.ofBool (decide (l.1 = Ideal.ofBits .f32 0x00000000#32))) (Ideal.ofBits .f32 0x00000000#32) l.1) <
      Scalar.select (BitVec.ofBool (decide (r.1 ≠ r.1))) (Ideal.ofBits .f32 0x7FC00000#32)
        (Scalar.select (BitVec.ofBool (decide (r.1 = Ideal.ofBits .f32 0x00000000#32))) (Ideal.ofBits .f32 0x00000000#32) r.1))) := rfl
  rw [k, e, e]
  by_cases h : l.1 < r.1 <;> simp [h]

theorem cmp_word (a b : ℕ) (ha : a < 2 ^ 31) (hb : b < 2 ^ 31) (x y : EReal) :
    (comparator_i32_f32_d1 (F := Ideal) (BitVec.ofNat 32 a, x) (BitVec.ofNat 32 b, y) == 1#1) = decide (a < b) := by
  have k : comparator_i32_f32_d1 (F := Ideal) (BitVec.ofNat 32 a, x) (BitVec.ofNat 32 b, y) = IntOp.cmpi .slt (BitVec.ofNat 32 a) (BitVec.ofNat 32 b) := rfl
  rw [k, Bool.eq_iff_iff, beq_iff_eq, decide_eq_true_eq, word_lt a b ha hb]

theorem cmp_gt (l r : EReal) : (FloatOps.cmpfTotal (F := Ideal) (φ := .f32) .gt l r == 1#1) = decide (r < l) := by
  have k : FloatOps.cmpfTotal (F := Ideal) (φ := .f32) .gt l r = BitVec.ofBool (decide (r < l)) := rfl
  rw [k]
  by_cases h : r < l <;> simp [h]

end Cert.ReferenceIdeal.Whole

namespace Cert.Rows

open Idealize.ShloMosaic.ValueIdx hiding ix1 ix2 ix3
open Idealize.ShloMosaic Finset
open Cert.KernelIdeal.Trip (ofBits_bot fold_max word_toInt)

/-- How many elements a row keeps: its `top_k` brought into 1 … 100000. -/
def kept (w : BitVec 32) : ℕ := (max 1 (min 100000 w.toInt)).toNat

theorem kept_pos (w : BitVec 32) : 1 ≤ kept w := by unfold kept; omega
theorem kept_le (w : BitVec 32) : kept w ≤ 100000 := by unfold kept; omega

theorem maxsi_toInt (a b : BitVec 32) : (IntOp.maxsi a b).toInt = max a.toInt b.toInt := by
  have e : IntOp.maxsi a b = if b.slt a then a else b := rfl
  rw [e]
  split
  · next h => rw [BitVec.slt_eq_decide, decide_eq_true_eq] at h; omega
  · next h => rw [BitVec.slt_eq_decide, decide_eq_true_eq] at h; omega

theorem minsi_toInt (a b : BitVec 32) : (IntOp.minsi a b).toInt = min a.toInt b.toInt := by
  have e : IntOp.minsi a b = if a.slt b then a else b := rfl
  rw [e]
  split
  · next h => rw [BitVec.slt_eq_decide, decide_eq_true_eq] at h; omega
  · next h => rw [BitVec.slt_eq_decide, decide_eq_true_eq] at h; omega

theorem clip_eq (n : ℕ) (hn1 : 1 ≤ n) (hn : n < 2 ^ 31) (hn' : n ≤ 100000) (w : BitVec 32) :
    IntOp.minsi (BitVec.ofNat 32 n) (IntOp.maxsi 1#32 w) = BitVec.ofNat 32 (min (kept w) n) := by
  apply BitVec.eq_of_toInt_eq
  rw [minsi_toInt, maxsi_toInt, word_toInt n hn, word_toInt (min (kept w) n) (by omega), show (1#32 : BitVec 32).toInt = 1 from rfl]
  unfold kept
  omega

end Cert.Rows
end
-- ==== Proof.RefRead.lean ====
/-
  The reference's arrays read one row at a time.
-/
module

public import proofs.«01_k».proof.Proof.RefRows

@[expose] public section

set_option maxRecDepth 16384

noncomputable section

namespace Cert.ReferenceIdeal.Whole

open Idealize.ShloMosaic.ValueIdx hiding ix1 ix2 ix3
open Idealize.ShloMosaic Cert.Rows Finset
open Idealize.ShloMosaic.TcCoe Idealize.SL.Sem Idealize.ShloMosaic.StableHlo
open Cert.KernelIdeal.Trip (ofBits_bot fold_max word_toInt word_inj)
open Cert.ReferenceIdeal Cert.ReferenceIdeal.Gen

/-- A column of one value a row, repeated along the row. -/
abbrev wideOf {α : Type} (y : S64.Idx → α) : S64x100000.Idx → α :=
  broadcastInDim S64x100000 ![0, 1] bcast_S64x1_S64x100000_0_1 (broadcastInDim S64x1 ![0] bcast_S64_S64x1_0 y)

theorem wideOf_at {α : Type} (y : S64.Idx → α) (R : Fin 64) (p : Fin 100000) : wideOf y (ix2 R p) = y (ix1 R) :=
  congrArg y (funext fun a => match a with | ⟨0, _⟩ => rfl)

theorem bcast_at {α : Type} (y : S64.Idx → α) (R : Fin 64) (p : Fin 100000) :
    broadcastInDim S64x100000 ![0, 1] bcast_S64x1_S64x100000_0_1 (broadcastInDim S64x1 ![0] bcast_S64_S64x1_0 y) (ix2 R p) = y (ix1 R) := wideOf_at y R p

theorem iota_at (R : Fin 64) (p : Fin 100000) : iotaInDim S64x100000 32 1 (ix2 R p) = BitVec.ofNat 32 p.val := rfl

theorem sub_word (a b : ℕ) (hb : b ≤ a) (ha : a < 2 ^ 31) : IntOp.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub, BitVec.toNat_ofNat, BitVec.toNat_ofNat, BitVec.toNat_ofNat]
  omega

section pieces
variable (S : FVec Ideal S64x100000 .f32) (R : Fin 64) (g : Fin 100000 → EReal) (hS : ∀ m, S (ix2 R m) = g m)

abbrev none' : FVec Ideal S64x100000 .f32 := broadcastInDim S64x100000 ![] bcast_S_S64x100000 (id (constant S_ .f32 0xFF800000#32))

theorem blank_at (i : S64x100000.Idx) : broadcastInDim S64x100000 ![] bcast_S_S64x100000 (id (constant (F := Ideal) S_ .f32 0xFF800000#32)) i = (⊥ : EReal) := by
  show Ideal.ofBits .f32 0xFF800000#32 = ⊥
  exact ofBits_bot

theorem none_at (i : S64x100000.Idx) : none' i = ⊥ := by
  show Ideal.ofBits .f32 0xFF800000#32 = ⊥
  exact ofBits_bot

theorem select_at {α : Type} (b : IVec S64x100000 1) (x y : S64x100000.Idx → α) (i : S64x100000.Idx) :
    select b x y i = if b i = 1#1 then x i else y i := sel_one (b i) (x i) (y i)

theorem lt_at (x y : FVec Ideal S64x100000 .f32) (i : S64x100000.Idx) : cmpf .olt x y i = 1#1 ↔ (x i < y i) := bool_one _
theorem le_at (x y : FVec Ideal S64x100000 .f32) (i : S64x100000.Idx) : cmpf .ole x y i = 1#1 ↔ (x i ≤ y i) := bool_one _
theorem eq_at (x y : FVec Ideal S64x100000 .f32) (i : S64x100000.Idx) : cmpf .oeq x y i = 1#1 ↔ (x i = y i) := bool_one _

abbrev whereAt (K : IVec S64 32) : IVec S64x100000 1 :=
  cmpi .eq (iotaInDim S64x100000 32 1) (wideOf (subi (broadcastInDim S64 ![] bcast_S_S64 (constantI S_ 32 100000#32)) (minsi (broadcastInDim S64 ![] bcast_S_S64 (id (constantI S_ 32 100000#32))) (maxsi (broadcastInDim S64 ![] bcast_S_S64 (id (constantI S_ 32 1#32))) K))))

theorem whereAt_at (K : IVec S64 32) (m : Fin 100000) : whereAt K (ix2 R m) = 1#1 ↔ m.val = 100000 - kept (K (ix1 R)) := by
  show IntOp.cmpi .eq (iotaInDim S64x100000 32 1 (ix2 R m)) (wideOf _ (ix2 R m)) = 1#1 ↔ _
  rw [iota_at, wideOf_at]
  show IntOp.cmpi .eq (BitVec.ofNat 32 m.val) (IntOp.subi (BitVec.ofNat 32 100000) (IntOp.minsi (BitVec.ofNat 32 100000) (IntOp.maxsi 1#32 (K (ix1 R))))) = 1#1 ↔ _
  have := kept_le (K (ix1 R))
  have := m.isLt
  rw [clip_eq 100000 (by norm_num) (by norm_num) le_rfl, min_eq_left (kept_le _), sub_word _ _ (kept_le _) (by norm_num),
    word_eq_iff _ _ (by omega) (by omega)]

/-- The place of the smallest kept element in ascending order. -/
def lowest (w : BitVec 32) : Fin 100000 := ⟨100000 - kept w, by have := kept_pos w; omega⟩

include hS in
theorem kth_at (K : IVec S64 32) : rowMax (select (whereAt K) S none') (ix1 R) = g (lowest (K (ix1 R))) := by
  rw [rowMax_at _ R (fun m => if m = lowest (K (ix1 R)) then g m else ⊥) fun m => ?_]
  · rw [top_eq _ (lowest (K (ix1 R))) fun q => ?_, if_pos rfl]
    split
    · next h => rw [h, if_pos rfl]
    · exact bot_le
  · rw [select_at, none_at, hS]
    refine if_congr ((whereAt_at R K m).trans ?_) rfl rfl
    exact ⟨fun h => Fin.ext h, fun h => congrArg Fin.val h⟩

include hS in
theorem cut_at (y : FVec Ideal S64 .f32) (m : Fin 100000) : select (cmpf .olt S (wideOf y)) none' S (ix2 R m) = topK g (y (ix1 R)) m := by
  rw [select_at, none_at, hS]
  refine if_congr ((lt_at S (wideOf y) (ix2 R m)).trans ?_) rfl rfl
  rw [hS, wideOf_at]

end pieces

theorem rowMin_at (Y : IVec S64x100000 32) (R : Fin 64) : Host.reduce IntOp.minsi Y (constantI S_ 32 2147483647#32) reducesTo_S64x100000_S64_d1 h_S_ (ix1 R)
    = univ.fold IntOp.minsi 2147483647#32 fun p : Fin 100000 => Y (ix2 R p) := by
  pointwise []

theorem col_at (R : Fin 64) {α : Type} (x : S64x2.Idx → α) : shapeCast S64 (extractStridedSlice S64x1 ![0, 0] x slices_S64x2_S64x1_0_0) shapeCasts_S64x1_S64 (ix1 R) = x (ix2 R 0)
    ∧ shapeCast S64 (extractStridedSlice S64x1 ![0, 1] x slices_S64x2_S64x1_0_1) shapeCasts_S64x1_S64 (ix1 R) = x (ix2 R 1) := by
  constructor
  · pointwise []
  · pointwise []

/-! Two greatest elements. -/

theorem two_greatest (y : Fin 100000 → EReal) :
    sortedFrom (fun k k' => decide (y k' < y k)) 0 = firstTop y
    ∧ sortedFrom (fun k k' => decide (y k' < y k)) 1 ≠ firstTop y
    ∧ ∀ p, p ≠ firstTop y → y p ≤ y (sortedFrom (fun k k' => decide (y k' < y k)) 1) := by
  have hρ : sortedFrom (fun k k' => decide (y k' < y k)) = rank fun p => OrderDual.toDual (y p) := rfl
  rw [hρ]
  have hb := rank_bij fun p => OrderDual.toDual (y p)
  have hl : ∀ m m', m < m' → y (rank (fun p => OrderDual.toDual (y p)) m') < y (rank (fun p => OrderDual.toDual (y p)) m)
      ∨ (y (rank (fun p => OrderDual.toDual (y p)) m) = y (rank (fun p => OrderDual.toDual (y p)) m') ∧
        rank (fun p => OrderDual.toDual (y p)) m < rank (fun p => OrderDual.toDual (y p)) m') := fun m m' h =>
    rank_lt (fun p => OrderDual.toDual (y p)) m m' h
  generalize rank (fun p => OrderDual.toDual (y p)) = ρ at hb hl
  have hle : ∀ m m', m ≤ m' → y (ρ m') ≤ y (ρ m) := fun m m' h => by
    rcases h.eq_or_lt with rfl | h
    · exact le_rfl
    · rcases hl m m' h with h | h
      · exact h.le
      · exact h.1.ge
  have htop : top y = y (ρ 0) := top_eq _ _ fun q => by
    obtain ⟨m, rfl⟩ := hb.2 q
    exact hle 0 m (Fin.zero_le _)
  have h0 : ρ 0 = firstTop y := by
    obtain ⟨m, hm⟩ := hb.2 (firstTop y)
    rcases (Fin.zero_le m).eq_or_lt with h | h
    · rw [h]; exact hm
    · exfalso
      have h1 := firstTop_val y
      have h2 := firstTop_le y (ρ 0) htop.symm
      rcases hl 0 m h with h' | h'
      · rw [hm, h1, htop] at h'; exact lt_irrefl _ h'
      · rw [hm] at h'; exact absurd h2 (not_le.mpr h'.2)
  refine ⟨h0, fun h => ?_, fun p hp => ?_⟩
  · have := hb.1 (h.trans h0.symm)
    exact absurd (congrArg Fin.val this) (by decide)
  · obtain ⟨m, rfl⟩ := hb.2 p
    refine hle 1 m ?_
    have hm : m ≠ 0 := fun h => hp (by rw [h]; exact h0)
    have : m.val ≠ 0 := fun h => hm (Fin.ext h)
    exact Fin.le_def.mpr (show 1 ≤ m.val by omega)

end Cert.ReferenceIdeal.Whole
end
-- ==== Proof.RefChain.lean ====
/-
  The reference's results read one row at a time: what its last arrays hold of the row the two filters leave.
-/
module

public import proofs.«01_k».proof.Proof.RefRead

@[expose] public section

set_option maxRecDepth 16384

noncomputable section

namespace Cert.ReferenceIdeal.Whole

open Idealize.ShloMosaic.ValueIdx hiding ix1 ix2 ix3
open Idealize.ShloMosaic Cert.Rows Finset
open Idealize.ShloMosaic.TcCoe Idealize.SL.Sem Idealize.ShloMosaic.StableHlo
open Cert.KernelIdeal.Trip (ofBits_bot fold_max word_toInt word_inj)
open Cert.ReferenceIdeal Cert.ReferenceIdeal.Gen

/-- A row of scaled logits. -/
def scaled (X : FVec Ideal S64x100000 .f32) (T : FVec Ideal S64 .f32) (R : Fin 64) (p : Fin 100000) : EReal :=
  Ideal.div (X (ix2 R p)) (max (T (ix1 R)) (Ideal.ofBits .f32 0x3C23D70A#32))

variable (V0 : Valuation τ sig (Elt Ideal)) (R : Fin 64)

abbrev argX : FVec Ideal S64x100000 .f32 := V0 (Proc.devRef .tc main_arg0)
abbrev argT : FVec Ideal S64 .f32 := V0 (Proc.devRef .tc main_arg1)
abbrev argP : FVec Ideal S64 .f32 := V0 (Proc.devRef .tc main_arg2)
abbrev argK : IVec S64 32 := V0 (Proc.devRef .tc main_arg3)
abbrev argM : FVec Ideal S64 .f32 := V0 (Proc.devRef .tc main_arg4)
abbrev argE : IVec S64 32 := V0 (Proc.devRef .tc main_arg5)

abbrev xrow : Fin 100000 → EReal := scaled (argX V0) (argT V0) R
abbrev σrow : Fin 100000 → Fin 100000 := rank (xrow V0 R)
abbrev thrRow : EReal := xrow V0 R (σrow V0 R (lowest (argK V0 (ix1 R))))
abbrev a0row : Fin 100000 → EReal := topK (fun m => xrow V0 R (σrow V0 R m)) (thrRow V0 R)
abbrev a1row : Fin 100000 → EReal := topP (a0row V0 R) (argP V0 (ix1 R))
abbrev f1row : Fin 100000 → EReal := fun p => a1row V0 R (rank (σrow V0 R) p)
abbrev frow : Fin 100000 → EReal := minP (f1row V0 R) (argM V0 (ix1 R))
abbrev onRow : Prop := IntOp.cmpi .slt (argE V0 (ix1 R)) 3#32 = 1#1
abbrev nearly : EReal := Ideal.ofBits .f32 0x3F666666#32
abbrev grow : Fin 100000 → EReal := final (frow V0 R) (onRow V0 R) nearly

theorem f1row_σ (m : Fin 100000) : f1row V0 R (σrow V0 R m) = a1row V0 R m :=
  congrArg (a1row V0 R) (rank_undo _ (rank_bij _) m)

theorem v4_at (p : Fin 100000) : res_main_v4 V0 (ix2 R p) = xrow V0 R p := by
  unfold res_main_v4
  exact congrArg (Ideal.div (argX V0 (ix2 R p))) (wideOf_at _ R p)

theorem v7_at (m : Fin 100000) : res_main_v7_0 V0 (ix2 R m) = xrow V0 R (σrow V0 R m)
    ∧ res_main_v7_1 V0 (ix2 R m) = BitVec.ofNat 32 (σrow V0 R m).val := by
  have h := sort2_at R (comparator_f32_i32_d1 (F := Ideal)) (res_main_v4 V0) (res_main_v6 V0) m
    (fun k k' => decide (xrow V0 R k < xrow V0 R k')) (fun k k' => by rw [cmp_float, v4_at, v4_at])
  exact ⟨h.1.trans (v4_at V0 R _), h.2⟩

theorem v20_at (m : Fin 100000) : res_main_v20 V0 (ix2 R m) = a0row V0 R m := by
  unfold res_main_v20
  refine (cut_at (res_main_v7_0 V0) R _ (fun m => (v7_at V0 R m).1) _ m).trans ?_
  exact congrArg (fun t => topK (fun m => xrow V0 R (σrow V0 R m)) t m)
    (kth_at (res_main_v7_0 V0) R _ (fun m => (v7_at V0 R m).1) (argK V0))

theorem cum_at (X : FVec Ideal S64x100000 .f32) (f : Fin 100000 → EReal) (hX : ∀ p, X (ix2 R p) = f p) (m : Fin 100000) :
    Host.reduceWindowAdd ![1, 100000] ![1, 1] ![0, 99999] ![0, 0] X (broadcastInDim S_ ![] bcast_S_S_ (constant (F := Ideal) S_ .f32 0x00000000#32)) reduceWindows_S64x100000_S64x100000_w1s1p0_0_w100000s1p99999_0 h_S_ (ix2 R m)
      = ∑ m' ∈ univ.filter (· ≤ m), f m' := by
  unfold Host.reduceWindowAdd
  rw [Ideal.hostReduceWindowAdd_def]
  have hz : broadcastInDim S_ ![] bcast_S_S_ (constant (F := Ideal) S_ .f32 0x00000000#32) (Shape.Idx.first h_S_) = (0 : EReal) := by
    show Ideal.ofBits .f32 0x00000000#32 = 0
    exact Ideal.ofBits_zero_f32
  rw [hz]
  exact cum_row (M := 64) (N := 100000) (Nm1 := 99999) (by norm_num) X R f hX _ m

theorem prod_at (a b : FVec Ideal S64 .f32) (p : Fin 100000) : broadcastInDim S64x100000 ![0, 1] bcast_S64x1_S64x100000_0_1
    (mulf (broadcastInDim S64x1 ![0] bcast_S64_S64x1_0 a) (broadcastInDim S64x1 ![0] bcast_S64_S64x1_0 b)) (ix2 R p) = (a (ix1 R) * b (ix1 R) : EReal) := by
  pointwise []

theorem v41_at (m : Fin 100000) : res_main_v41 V0 (ix2 R m) = a1row V0 R m := by
  unfold res_main_v41 res_main_v27
  rw [select_at, blank_at, v20_at]
  refine if_congr (IntOp.andi_eq_one.trans (and_congr ((le_at _ _ _).trans ?_) ?_)) rfl rfl
  · rw [cum_at R _ _ (share_raised _ R _ (v20_at V0 R)), bcast_at]
    show _ ≤ Ideal.ofBits .f32 0x3F800000#32 - argP V0 (ix1 R) ↔ _
    rw [Ideal.ofBits_one_f32]
  · show IntOp.cmpi .ne (BitVec.ofNat 32 m.val) (BitVec.ofNat 32 99999) = 1#1 ↔ _
    have := m.isLt
    rw [word_ne_iff _ _ (by omega) (by norm_num)]

theorem v42_at (p : Fin 100000) : res_main_v42_1 V0 (ix2 R p) = f1row V0 R p := by
  have h := sort2_at R (comparator_i32_f32_d1 (F := Ideal)) (res_main_v7_1 V0) (res_main_v41 V0) p
    (fun k k' => decide (σrow V0 R k < σrow V0 R k')) (fun k k' => by
      rw [(v7_at V0 R k).2, (v7_at V0 R k').2, cmp_word _ _ (lt_trans (σrow V0 R k).isLt (by norm_num)) (lt_trans (σrow V0 R k').isLt (by norm_num))]
      rfl)
  exact h.2.trans (v41_at V0 R _)

theorem v53_at (p : Fin 100000) : res_main_v53 V0 (ix2 R p) = soft (f1row V0 R) p := by
  unfold res_main_v53 res_main_v49
  exact share_raised _ R _ (v42_at V0 R) p

theorem v60_at (p : Fin 100000) : res_main_v60 V0 (ix2 R p) = frow V0 R p := by
  unfold res_main_v60
  rw [select_at, blank_at, v42_at]
  refine if_congr ((lt_at _ _ _).trans ?_) rfl rfl
  rw [v53_at]
  exact iff_of_eq (congrArg (soft (f1row V0 R) p < ·) ((prod_at R _ _ p).trans (congrArg (argM V0 (ix1 R) * ·) (rowMax_at _ R _ (v53_at V0 R)))))

theorem v72_at (p : Fin 100000) : res_main_v72 V0 (ix2 R p) = logp (frow V0 R) p := by
  unfold res_main_v72 res_main_call6_v5
  exact logp_at _ R _ (v60_at V0 R) p

variable (hok : Ok (frow V0 R))
include hok

theorem v73_at (p : Fin 100000) : res_main_v73 V0 (ix2 R p) = soft (frow V0 R) p := by
  unfold res_main_v73
  rw [exp_at, v72_at]
  exact exp_logp hok p

theorem two_at (q : Fin 2) :
    (Host.topK S64x2 1 (FloatOps.cmpfTotal .gt) (res_main_v73 V0) sliceFits_S64x100000_S64x2).1 (ix2 R q)
      = soft (frow V0 R) (sortedFrom (fun k k' => decide (soft (frow V0 R) k' < soft (frow V0 R) k)) (Fin.castLE (by norm_num) q))
    ∧ (Host.topK S64x2 1 (FloatOps.cmpfTotal .gt) (res_main_v73 V0) sliceFits_S64x100000_S64x2).2 (ix2 R q)
      = BitVec.ofNat 32 (sortedFrom (fun k k' => decide (soft (frow V0 R) k' < soft (frow V0 R) k)) (Fin.castLE (by norm_num) q)).val := by
  have h := sort2_at R (fun l r : EReal × BitVec 32 => FloatOps.cmpfTotal (F := Ideal) (φ := .f32) .gt l.1 r.1) (res_main_v73 V0)
    (fun i => if hd : 1 < S64x100000.rank then iotaInDim S64x100000 32 ⟨1, hd⟩ i else 0#32) (Fin.castLE (by norm_num) q)
    (fun k k' => decide (soft (frow V0 R) k' < soft (frow V0 R) k)) (fun k k' => by rw [cmp_gt, v73_at V0 R hok, v73_at V0 R hok])
  have hs : ∀ (h : S64x100000.Slices (fun _ => 0) S64x2) {α : Type} (x : S64x100000.Idx → α), extractStridedSlice S64x2 (fun _ => 0) x h (ix2 R q) = x (ix2 R (Fin.castLE (by norm_num) q)) := fun h α x => by
    refine congrArg x (funext fun a => Fin.ext ?_)
    match a with
    | ⟨0, _⟩ => exact Nat.zero_add _
    | ⟨1, _⟩ => exact Nat.zero_add _
  unfold Host.topK
  exact ⟨(hs sliceFits_S64x100000_S64x2 _).trans (h.1.trans (v73_at V0 R hok _)), (hs sliceFits_S64x100000_S64x2 _).trans h.2⟩

theorem first_at : (Host.topK S64x2 1 (FloatOps.cmpfTotal .gt) (res_main_v73 V0) sliceFits_S64x100000_S64x2).1 (ix2 R 0)
      = Ideal.div 1 (∑ q, Ideal.exp (frow V0 R q - top (frow V0 R)))
    ∧ (Host.topK S64x2 1 (FloatOps.cmpfTotal .gt) (res_main_v73 V0) sliceFits_S64x100000_S64x2).2 (ix2 R 0) = BitVec.ofNat 32 (firstTop (frow V0 R)).val := by
  have h := two_at V0 R hok 0
  have e : sortedFrom (fun k k' => decide (soft (frow V0 R) k' < soft (frow V0 R) k)) (Fin.castLE (by norm_num) (0 : Fin 2)) = firstTop (frow V0 R) :=
    (two_greatest (soft (frow V0 R))).1.trans (firstTop_soft hok)
  rw [e] at h
  refine ⟨h.1.trans ?_, h.2⟩
  rw [← top_soft' hok, ← firstTop_soft hok]
  exact firstTop_val _

theorem second_at : (Host.topK S64x2 1 (FloatOps.cmpfTotal .gt) (res_main_v73 V0) sliceFits_S64x100000_S64x2).1 (ix2 R 1)
      = Ideal.div (Ideal.exp (top (second (frow V0 R)) - top (frow V0 R))) (∑ q, Ideal.exp (frow V0 R q - top (frow V0 R))) := by
  have h2 := two_greatest (soft (frow V0 R))
  rw [firstTop_soft hok] at h2
  exact (two_at V0 R hok 1).1.trans (second_soft hok _ h2.2.1 h2.2.2)

theorem v83_at : res_main_v83 V0 (ix1 R) = 1#1 ↔ masks (frow V0 R) (onRow V0 R) nearly := by
  unfold res_main_v83 res_main_values
  refine IntOp.andi_eq_one.trans (and_congr Iff.rfl ((bool_one _).trans ?_))
  have h1 := ((col_at R (Host.topK S64x2 1 (FloatOps.cmpfTotal .gt) (res_main_v73 V0) sliceFits_S64x100000_S64x2).1).1).trans (first_at V0 R hok).1
  have h2 := ((col_at R (Host.topK S64x2 1 (FloatOps.cmpfTotal .gt) (res_main_v73 V0) sliceFits_S64x100000_S64x2).1).2).trans (second_at V0 R hok)
  exact iff_of_eq (congrArg (· < nearly) (congrArg₂ (· - ·) h1 h2))

theorem v95_at (p : Fin 100000) (hm : masks (frow V0 R) (onRow V0 R) nearly) : res_main_v95 V0 (ix2 R p) = grow V0 R p := by
  unfold res_main_v95
  rw [select_at, blank_at, v60_at]
  have e : grow V0 R = second (frow V0 R) := if_pos hm
  rw [e]
  unfold second
  rw [Function.update_apply]
  refine if_congr (IntOp.andi_eq_one.trans ?_) rfl rfl
  rw [bcast_at, and_iff_right ((v83_at V0 R hok).mpr hm)]
  show IntOp.cmpi .eq (BitVec.ofNat 32 p.val) (wideOf _ (ix2 R p)) = 1#1 ↔ _
  rw [wideOf_at, (col_at R _).1, (first_at V0 R hok).2, word_eq_iff _ _ (lt_trans p.isLt (by norm_num)) (lt_trans (Fin.isLt _) (by norm_num))]
  exact ⟨fun h => Fin.ext h, fun h => congrArg Fin.val h⟩

theorem v108_at (p : Fin 100000) : res_main_v108 V0 (ix2 R p) = soft (grow V0 R) p := by
  unfold res_main_v108 res_main_v103 res_main_v67
  rw [select_at, bcast_at]
  by_cases hm : masks (frow V0 R) (onRow V0 R) nearly
  · rw [if_pos ((v83_at V0 R hok).mpr hm)]
    exact share_raised _ R _ (fun p => v95_at V0 R hok p hm) p
  · rw [if_neg fun h => hm ((v83_at V0 R hok).mp h)]
    have e : grow V0 R = frow V0 R := if_neg hm
    rw [e]
    exact share_raised _ R _ (v60_at V0 R) p

theorem v111_at (p : Fin 100000) : select (wideOf (res_main_v83 V0)) (subf (res_main_call9_v5 V0) (broadcastInDim S64x100000 ![0, 1] bcast_S64x1_S64x100000_0_1 (Host.log (broadcastInDim S64x1 ![0] bcast_S64_S64x1_0 (Host.reduceAdd (Host.exp (res_main_call9_v5 V0)) (constant S_ .f32 0x00000000#32) reducesTo_S64x100000_S64_d1 h_S_))))) (res_main_v72 V0) (ix2 R p)
    = logp (grow V0 R) p := by
  unfold res_main_call9_v5
  rw [select_at, wideOf_at]
  by_cases hm : masks (frow V0 R) (onRow V0 R) nearly
  · rw [if_pos ((v83_at V0 R hok).mpr hm)]
    exact logp_at _ R _ (fun p => v95_at V0 R hok p hm) p
  · rw [if_neg fun h => hm ((v83_at V0 R hok).mp h)]
    have e : grow V0 R = frow V0 R := if_neg hm
    rw [e]
    exact v72_at V0 R p

theorem v117_at (hn : nearly ≤ 1) : Host.reduce IntOp.minsi (select (cmpf .oeq (res_main_v108 V0) (wideOf (Host.reduce FloatOps.maximumf (res_main_v108 V0) (constant S_ .f32 0xFF800000#32) reducesTo_S64x100000_S64_d1 h_S_))) (broadcastInDim S64x100000 ![0, 1] bcast_S1x100000_S64x100000_0_1 (res_main_v85 V0)) (broadcastInDim S64x100000 ![] bcast_S_S64x100000 (id (constantI S_ 32 100000#32)))) (constantI S_ 32 2147483647#32) reducesTo_S64x100000_S64_d1 h_S_ (ix1 R)
    = BitVec.ofNat 32 (firstTop (grow V0 R)).val := by
  have hg : Ok (grow V0 R) := final_ok hok _ _ hn
  have hmax := rowMax_at _ R _ (v108_at V0 R hok)
  have key : univ.fold IntOp.minsi 2147483647#32 (fun p : Fin 100000 => (select (cmpf .oeq (res_main_v108 V0) (wideOf (rowMax (res_main_v108 V0)))) (broadcastInDim S64x100000 ![0, 1] bcast_S1x100000_S64x100000_0_1 (res_main_v85 V0)) (broadcastInDim S64x100000 ![] bcast_S_S64x100000 (id (constantI S_ 32 100000#32))) (ix2 R p) : BitVec 32))
      = BitVec.ofNat 32 (firstTop (grow V0 R)).val := by
    have hv : ∀ p : Fin 100000, (select (cmpf .oeq (res_main_v108 V0) (wideOf (rowMax (res_main_v108 V0)))) (broadcastInDim S64x100000 ![0, 1] bcast_S1x100000_S64x100000_0_1 (res_main_v85 V0)) (broadcastInDim S64x100000 ![] bcast_S_S64x100000 (id (constantI S_ 32 100000#32))) (ix2 R p) : BitVec 32)
        = if grow V0 R p = top (grow V0 R) then BitVec.ofNat 32 p.val else BitVec.ofNat 32 100000 := fun p => by
      rw [select_at]
      refine if_congr ((eq_at _ _ _).trans ?_) rfl rfl
      rw [wideOf_at, hmax, v108_at V0 R hok]
      exact soft_eq_top_iff hg p
    have hlt := (firstTop (grow V0 R)).isLt
    refine foldMin_eq _ _ _ (lt_trans hlt (by norm_num)) (fun p _ => ?_) ⟨firstTop (grow V0 R), mem_univ _, ?_⟩
    · rw [hv]
      split
      · next h =>
        rw [word_toInt _ (lt_trans p.isLt (by norm_num))]
        exact_mod_cast Fin.le_def.mp (firstTop_le _ p h)
      · rw [word_toInt _ (by norm_num)]
        exact_mod_cast hlt.le
    · rw [hv, if_pos (firstTop_val _)]
  exact (rowMin_at _ R).trans key

end Cert.ReferenceIdeal.Whole
end
-- ==== Proof.PreRead.lean ====
/-
  The precondition read one row at a time.
-/
module

public import proofs.«01_k».proof.Proof.RefChain
public import proofs.«01_k».proof.Pre_usable

@[expose] public section

set_option maxRecDepth 16384

noncomputable section

namespace Cert.ReferenceIdeal.Whole

open Idealize.ShloMosaic.ValueIdx hiding ix1 ix2 ix3
open Idealize.ShloMosaic Cert.Rows Finset
open Cert.KernelIdeal.Trip (ofBits_bot ofBits_top fold_max word_toInt word_inj)
open Cert.ReferenceIdeal Cert.ReferenceIdeal.Gen

section
variable (X : FVec Ideal S64x100000 .f32) (T P : FVec Ideal S64 .f32) (K : IVec S64 32) (M : FVec Ideal S64 .f32) (E : IVec S64 32)

abbrev floorT : FVec Ideal S64 .f32 := maximumf T (broadcastInDim S64 ![] bcast_S_S64 (constant S_ .f32 0x3C23D70A#32))

def scaledX : FVec Ideal S64x100000 .f32 := Host.divf X (wideOf (floorT T))

theorem scaledX_at (R : Fin 64) (p : Fin 100000) : scaledX X T (ix2 R p) = scaled X T R p := by
  unfold scaledX
  exact congrArg (Ideal.div (X (ix2 R p))) (wideOf_at _ R p)

def sortedX : FVec Ideal S64x100000 .f32 := (Host.sort2 S64x100000 1 comparator_f32_i32_d1 (scaledX X T) (iotaInDim S64x100000 32 1)).1

theorem sortedX_at (R : Fin 64) (m : Fin 100000) : sortedX X T (ix2 R m) = scaled X T R (rank (scaled X T R) m) := by
  have h := sort2_at R (comparator_f32_i32_d1 (F := Ideal)) (scaledX X T) (iotaInDim S64x100000 32 1) m
    (fun k k' => decide (scaled X T R k < scaled X T R k')) (fun k k' => by rw [cmp_float, scaledX_at, scaledX_at])
  exact h.1.trans (scaledX_at X T R _)

def thrX : FVec Ideal S64 .f32 := rowMax (select (whereAt K) (sortedX X T) none')

theorem thrX_at (R : Fin 64) : thrX X T K (ix1 R) = scaled X T R (rank (scaled X T R) (lowest (K (ix1 R)))) := by
  unfold thrX
  exact kth_at (sortedX X T) R _ (sortedX_at X T R) K

def usableX [Cert.Pre_usable.Facts] : IVec S64x100000 1 :=
  andi (andi (andi
    (cmpf .olt (scaledX X T) (broadcastInDim S64x100000 ![] bcast_S_S64x100000 (constant S_ .f32 0x7F800000#32)))
    (select (cmpi .eq (iotaInDim S64x100000 32 1) (broadcastInDim S64x100000 ![] bcast_S_S64x100000 (constantI S_ 32 99935#32)))
      (cmpf .olt (sortedX X T) (wideOf (thrX X T K))) (broadcastInDim S64x100000 ![] bcast_S_S64x100000 (constantI S_ 1 1#1))))
    (broadcastInDim S64x100000 ![0, 1] bcast_S64x1_S64x100000_0_1 (cmpf .olt
      (Host.divf (broadcastInDim S64x1 ![] Cert.Pre_usable.Facts.bcast_S_S64x1 (constant S_ .f32 0xF149F2CA#32)) (broadcastInDim S64x1 ![0] bcast_S64_S64x1_0 (floorT T)))
      (broadcastInDim S64x1 ![0] bcast_S64_S64x1_0 (thrX X T K)))))
    (wideOf (cmpf .ole M (broadcastInDim S64 ![] bcast_S_S64 (constant S_ .f32 0x3F800000#32))))

theorem usable_eq [Cert.Pre_usable.Facts] : Cert.Pre_usable.fn (F := Ideal) X T P K M E = usableX X T K M := by
  unfold Cert.Pre_usable.fn Cert.Pre_usable.fn_part1 Cert.Pre_usable.fn_clip Cert.Pre_usable.fn_where Cert.Pre_usable.fn_where_0 usableX thrX sortedX scaledX
  rfl

theorem low_at [Cert.Pre_usable.Facts] (a b : FVec Ideal S64 .f32) (R : Fin 64) (p : Fin 100000) :
    broadcastInDim S64x100000 ![0, 1] bcast_S64x1_S64x100000_0_1 (cmpf .olt
      (Host.divf (broadcastInDim S64x1 ![] Cert.Pre_usable.Facts.bcast_S_S64x1 (constant S_ .f32 0xF149F2CA#32)) (broadcastInDim S64x1 ![0] bcast_S64_S64x1_0 a))
      (broadcastInDim S64x1 ![0] bcast_S64_S64x1_0 b)) (ix2 R p) = BitVec.ofBool (decide (Ideal.div (Ideal.ofBits .f32 0xF149F2CA#32) (a (ix1 R)) < b (ix1 R))) := by
  have key : Ideal.div (Ideal.ofBits .f32 0xF149F2CA#32) (a (ix1 R)) = Ideal.div (Ideal.ofBits .f32 0xF149F2CA#32) (a (ix1 R)) := rfl
  pointwise []

theorem usable_read [Cert.Pre_usable.Facts] (h : Cert.Pre_usable.fn (F := Ideal) X T P K M E = fun _ => 1#1) (R : Fin 64) :
    (∀ p, scaled X T R p < ⊤)
    ∧ scaled X T R (rank (scaled X T R) ⟨99935, by norm_num⟩) < scaled X T R (rank (scaled X T R) (lowest (K (ix1 R))))
    ∧ Ideal.div (Ideal.ofBits .f32 0xF149F2CA#32) (max (T (ix1 R)) (Ideal.ofBits .f32 0x3C23D70A#32)) < scaled X T R (rank (scaled X T R) (lowest (K (ix1 R))))
    ∧ M (ix1 R) ≤ 1 := by
  rw [usable_eq] at h
  unfold usableX at h
  have hp := fun p : Fin 100000 => congrFun h (ix2 R p)
  have h1 := fun p => IntOp.andi_eq_one.mp (hp p)
  have h2 := fun p => IntOp.andi_eq_one.mp (h1 p).1
  have h3 := fun p => IntOp.andi_eq_one.mp (h2 p).1
  refine ⟨fun p => ?_, ?_, ?_, ?_⟩
  · have := (lt_at _ _ _).mp (h3 p).1
    rw [scaledX_at] at this
    refine lt_of_lt_of_eq this ?_
    show Ideal.ofBits .f32 0x7F800000#32 = ⊤
    exact ofBits_top
  · have := (h3 ⟨99935, by norm_num⟩).2
    rw [select_at, if_pos ?_, lt_at, sortedX_at, wideOf_at, thrX_at] at this
    · exact this
    · show IntOp.cmpi .eq (BitVec.ofNat 32 99935) (BitVec.ofNat 32 99935) = 1#1
      decide
  · have := (h2 0).2
    rw [low_at, bool_one, thrX_at] at this
    exact this
  · have := (h1 0).2
    rw [wideOf_at] at this
    have := (bool_one _).mp this
    refine le_of_le_of_eq this ?_
    show Ideal.ofBits .f32 0x3F800000#32 = 1
    exact Ideal.ofBits_one_f32

end

end Cert.ReferenceIdeal.Whole
end
-- ==== Proof.Rowed.lean ====
/-
  The kernel's three results read at one row: the softmax, its logarithm and the first greatest place of the finished row.
-/
module

public import proofs.«01_k».proof.Proof.Heads

@[expose] public section

set_option maxRecDepth 16384

noncomputable section

namespace Cert.KernelIdeal.Trip

open Idealize.ShloMosaic.ValueIdx hiding ix2 ix3
open Idealize.ShloMosaic Cert.Rows Finset
open Cert.KernelIdeal Cert.KernelIdeal.Gen

/-- Row `r` of a block, by places. -/
def blkRow (X : FVec Ideal S8x782x128 .f32) (r : Fin 8) (p : Fin 100096) : EReal := X (ix3 r (chunkOf p) (laneOf p))

theorem blkRow_place (X : FVec Ideal S8x782x128 .f32) (r : Fin 8) (c : Fin 782) (l : Fin 128) : blkRow X r (place c l) = X (ix3 r c l) := by
  unfold blkRow; rw [chunkOf_place, laneOf_place]

open Classical in
/-- The fold of the signed minimum over a block's cells finds the first greatest place. -/
theorem foldMin_cells (f : Fin 100096 → EReal) (g : Fin 782 × Fin 128 → BitVec 32)
    (hg : ∀ q, g q = if f (place q.1 q.2) = top f then BitVec.ofNat 32 (q.1.val * 128 + q.2.val) else 100096#32) :
    univ.fold IntOp.minsi 2147483647#32 g = BitVec.ofNat 32 (firstTop f).val := by
  have hlt : (firstTop f).val < 2 ^ 31 := lt_trans (firstTop f).isLt (by norm_num)
  refine foldMin_eq _ _ _ hlt (fun q _ => ?_) ⟨(chunkOf (firstTop f), laneOf (firstTop f)), mem_univ _, ?_⟩
  · rw [hg]
    split
    · next h =>
      have h' : (firstTop f).val ≤ q.1.val * 128 + q.2.val := Fin.le_def.mp (firstTop_le f (place q.1 q.2) h)
      have hq : q.1.val * 128 + q.2.val < 2 ^ 31 := lt_trans (place q.1 q.2).isLt (by norm_num)
      rw [word_toInt _ hq]
      exact_mod_cast h'
    · have h1 : (100096#32 : BitVec 32).toInt = 100096 := by decide
      have h2 := (firstTop f).isLt
      rw [h1]; omega
  · rw [hg, if_pos (by rw [place_eta]; exact firstTop_val f)]
    have e : (chunkOf (firstTop f)).val * 128 + (laneOf (firstTop f)).val = (firstTop f).val := by
      simp only [chunkOf, laneOf]; omega
    exact congrArg (BitVec.ofNat 32) e

section row
variable (X : FVec Ideal S8x782x128 .f32) (v0 v1 vm : FVec Ideal S8x1 .f32) (im : IVec S8x1 32) (r : Fin 8)

theorem kept_bit (n : ℕ) (hn : n ≤ 100096) (him : im (ix2 r 0) = BitVec.ofNat 32 n) (c : Fin 782) (l : Fin 128) :
    k0_pay81 X vm im (ix3 r c l) = 1#1 ↔
      (vm (ix2 r 0) < blkRow X r (place c l) ∨ (blkRow X r (place c l) = vm (ix2 r 0) ∧ n ≤ (place c l).val)) := by
  rw [blkRow_place]
  pointwise [k0_pay81, k0_pay78]
  rw [IntOp.ori_eq_one, IntOp.andi_eq_one, bool_one, bool_one, place_word, him, word_ge _ _ (by omega) (by omega)]
  rfl

variable (S : Fin 100096 → Prop) (hS : ∀ c l, k0_pay81 X vm im (ix3 r c l) = 1#1 ↔ S (place c l))
  (f : Fin 100096 → EReal) (hf1 : ∀ p, S p → f p = blkRow X r p) (hf2 : ∀ p, ¬ S p → f p = ⊥)
include hS

theorem first_at (hT : ∀ p, (S p ∧ blkRow X r p = v0 (ix2 r 0)) ↔ f p = top f) :
    k0_pay83 X v0 vm im (ix3 r 0 0) = BitVec.ofNat 32 (firstTop f).val := by
  have key := foldMin_cells f (fun q : Fin 782 × Fin 128 => Scalar.select
      (IntOp.andi (k0_pay81 X vm im (ix3 r q.1 q.2)) (BitVec.ofBool (decide (X (ix3 r q.1 q.2) = v0 (ix2 r 0)))))
      (IntOp.addi (IntOp.muli (BitVec.ofNat 32 q.1.val) 128#32) (BitVec.ofNat 32 q.2.val)) 100096#32) (fun q => by
    rw [sel_one, place_word]
    refine if_congr ?_ rfl rfl
    rw [IntOp.andi_eq_one, bool_one, hS, ← blkRow_place X r q.1 q.2]; exact hT _)
  pointwise [k0_pay83, k0_pay79, k0_pay78]
  exact key

theorem next_at (i : Fin 100096) (hi : k0_pay83 X v0 vm im (ix3 r 0 0) = BitVec.ofNat 32 i.val) (g : Fin 100096 → EReal)
    (hT : ∀ p, (S p ∧ blkRow X r p = v1 (ix2 r 0) ∧ p ≠ i) ↔ g p = top g) :
    k0_pay84 X v0 v1 vm im (ix3 r 0 0) = BitVec.ofNat 32 (firstTop g).val := by
  have key := foldMin_cells g (fun q : Fin 782 × Fin 128 => Scalar.select
      (IntOp.andi (IntOp.andi (k0_pay81 X vm im (ix3 r q.1 q.2)) (BitVec.ofBool (decide (X (ix3 r q.1 q.2) = v1 (ix2 r 0)))))
        (IntOp.cmpi .ne (IntOp.addi (IntOp.muli (BitVec.ofNat 32 q.1.val) 128#32) (BitVec.ofNat 32 q.2.val)) (k0_pay83 X v0 vm im (ix3 r 0 0))))
      (IntOp.addi (IntOp.muli (BitVec.ofNat 32 q.1.val) 128#32) (BitVec.ofNat 32 q.2.val)) 100096#32) (fun q => by
    rw [sel_one, place_word, hi]
    refine if_congr ?_ rfl rfl
    rw [IntOp.andi_eq_one, IntOp.andi_eq_one, bool_one, hS, ← blkRow_place X r q.1 q.2, word_ne_iff _ _ (by omega) (by omega), and_assoc, ← hT]
    exact and_congr_right fun _ => and_congr_right fun _ => not_congr ⟨fun h => Fin.ext h, fun h => congrArg Fin.val h⟩)
  pointwise [k0_pay84, k0_pay80, k0_pay78]
  exact key

include hf1 hf2
theorem kept_at (c : Fin 782) (l : Fin 128) : k0_pay82 X vm im (ix3 r c l) = f (place c l) := by
  pointwise [k0_pay82]
  rw [sel_one, mask_bot]
  split
  · next h => rw [hf1 _ ((hS c l).mp h), blkRow_place]
  · next h => rw [hf2 _ fun s => h ((hS c l).mpr s)]

theorem sum_at : ∑ c : Fin 782, ∑ l : Fin 128, Ideal.exp (k0_pay82 X vm im (ix3 r c l) - v0 (ix2 r 0)) = ∑ q, Ideal.exp (f q - v0 (ix2 r 0)) := by
  rw [← sum_cells]
  exact Finset.sum_congr rfl fun c _ => Finset.sum_congr rfl fun l _ => by rw [kept_at X vm im r S hS f hf1 hf2]

theorem prob0_at : k0_pay86 X v0 vm im (ix3 r 0 0) = Ideal.div 1 (∑ q, Ideal.exp (f q - v0 (ix2 r 0))) := by
  have e := sum_at X v0 vm im r S hS f hf1 hf2
  pointwise [k0_pay86, k0_pay85, k0_pay79]
  rw [e]

theorem prob1_at : k0_pay88 X v0 v1 vm im (ix3 r 0 0) = Ideal.div (Ideal.exp (v1 (ix2 r 0) - v0 (ix2 r 0))) (∑ q, Ideal.exp (f q - v0 (ix2 r 0))) := by
  have e := sum_at X v0 vm im r S hS f hf1 hf2
  pointwise [k0_pay88, k0_pay85, k0_pay79, k0_pay80]
  rw [e]
end row

section finish
variable (v93 v94 : FVec Ideal S8x1x1 .f32) (v104 : FVec Ideal S8x782x128 .f32) (v111 v121 : IVec S8x1x1 32) (v128 : FVec Ideal S8x1x1 .f32)
  (v129 : IVec S8x1x1 1) (v132 : FVec Ideal S8x1x1 .f32) (pt : Vec Ideal S8x1 .i32) (r : Fin 8)
  (f : Fin 100096 → EReal) (hf : ∀ c l, v104 (ix3 r c l) = f (place c l)) (hok : Ok f)
  (hi : v111 (ix3 r 0 0) = BitVec.ofNat 32 (firstTop f).val)
  (h0 : v93 (ix3 r 0 0) = top f)
  (hp0 : v128 (ix3 r 0 0) = Ideal.div 1 (∑ q, Ideal.exp (f q - top f)))
  (hp1 : (if v129 (ix3 r 0 0) = 1#1 then v132 (ix3 r 0 0) else 0) = Ideal.div (Ideal.exp (top (second f) - top f)) (∑ q, Ideal.exp (f q - top f)))

/-- The mask is on for this row. -/
abbrev onR (pt : Vec Ideal S8x1 .i32) (r : Fin 8) : Prop := IntOp.cmpi .slt (pt (ix2 r 0)) 3#32 = 1#1
/-- The closeness below which the first place is blanked. -/
abbrev near : EReal := Ideal.ofBits .f32 1063675494#32

include hp0 hp1 in
theorem mask_at : k0_pay1 v128 v129 v132 (k0_pay89 (F := Ideal)) pt (ix3 r 0 0) = 1#1 ↔ masks f (onR pt r) near := by
  pointwise [k0_pay1, k0_pay89]
  rw [IntOp.andi_eq_one, bool_one, sel_one, hp0, hp1]
  rfl

include hf hi hp0 hp1 in
theorem final_at (c : Fin 782) (l : Fin 128) : k0_pay2 k0_pay78 v104 v111 v128 v129 v132 (k0_pay89 (F := Ideal)) pt (ix3 r c l)
    = final f (onR pt r) near (place c l) := by
  have hm := mask_at v128 v129 v132 pt r f hp0 hp1
  pointwise [k0_pay2, k0_pay78]
  rw [sel_one, mask_bot, place_word, hi, hf]
  unfold final
  have hpl : c.val * 128 + l.val = (firstTop f).val ↔ place c l = firstTop f := ⟨fun h => Fin.ext h, fun h => congrArg Fin.val h⟩
  have hw := (word_eq_iff (c.val * 128 + l.val) (firstTop f).val (by omega) (by omega)).trans hpl
  by_cases h : masks f (onR pt r) near
  · rw [if_pos h]
    unfold second
    by_cases h2 : place c l = firstTop f
    · rw [if_pos (IntOp.andi_eq_one.mpr ⟨hm.mpr h, hw.mpr h2⟩), h2, Function.update_self]
    · rw [if_neg fun k => h2 (hw.mp (IntOp.andi_eq_one.mp k).2), Function.update_of_ne h2]
  · rw [if_neg h, if_neg fun k => h (hm.mp (IntOp.andi_eq_one.mp k).1)]

include h0 hp0 hp1 in
theorem final_top (h1 : masks f (onR pt r) near → v94 (ix3 r 0 0) = top (second f)) :
    (if k0_pay1 v128 v129 v132 (k0_pay89 (F := Ideal)) pt (ix3 r 0 0) = 1#1 then v94 (ix3 r 0 0) else v93 (ix3 r 0 0)) = top (final f (onR pt r) near) := by
  have hm := mask_at v128 v129 v132 pt r f hp0 hp1
  unfold final
  by_cases h : masks f (onR pt r) near
  · rw [if_pos (hm.mpr h), if_pos h, h1 h]
  · rw [if_neg fun k => h (hm.mp k), if_neg h, h0]

include hf hi h0 hp0 hp1 in
theorem lse_at (h1 : masks f (onR pt r) near → v94 (ix3 r 0 0) = top (second f)) :
    k0_pay3 k0_pay78 v93 v94 v104 v111 v128 v129 v132 (k0_pay89 (F := Ideal)) pt (ix3 r 0 0)
      = top (final f (onR pt r) near) + Ideal.log (∑ q, Ideal.exp (final f (onR pt r) near q - top (final f (onR pt r) near))) := by
  have ht := final_top v93 v94 v128 v129 v132 pt r f h0 hp0 hp1 h1
  have e : ∑ c : Fin 782, ∑ l : Fin 128, Ideal.exp (k0_pay2 k0_pay78 v104 v111 v128 v129 v132 (k0_pay89 (F := Ideal)) pt (ix3 r c l) - top (final f (onR pt r) near))
      = ∑ q, Ideal.exp (final f (onR pt r) near q - top (final f (onR pt r) near)) := by
    rw [← sum_cells]
    exact Finset.sum_congr rfl fun c _ => Finset.sum_congr rfl fun l _ => by rw [final_at v104 v111 v128 v129 v132 pt r f hf hi hp0 hp1]
  pointwise [k0_pay3]
  rw [sel_one, ht, e]

include hf hok hi h0 hp0 hp1 in
theorem logp_at (h1 : masks f (onR pt r) near → v94 (ix3 r 0 0) = top (second f)) (hc : near ≤ 1) (c : Fin 782) (l : Fin 128) :
    k0_pay5 k0_pay78 v93 v94 v104 v111 v128 v129 v132 (k0_pay89 (F := Ideal)) pt (ix3 r c l) = logp (final f (onR pt r) near) (place c l) := by
  have e1 := lse_at v93 v94 v104 v111 v128 v129 v132 pt r f hf hi h0 hp0 hp1 h1
  have e2 := final_at v104 v111 v128 v129 v132 pt r f hf hi hp0 hp1 c l
  pointwise [k0_pay5]
  rw [e1, e2]
  exact sub_lse (final_ok hok _ _ hc) _

include hf hok hi h0 hp0 hp1 in
theorem soft_at (h1 : masks f (onR pt r) near → v94 (ix3 r 0 0) = top (second f)) (hc : near ≤ 1) (c : Fin 782) (l : Fin 128) :
    k0_pay4 k0_pay78 v93 v94 v104 v111 v128 v129 v132 (k0_pay89 (F := Ideal)) pt (ix3 r c l) = soft (final f (onR pt r) near) (place c l) := by
  have e1 := lse_at v93 v94 v104 v111 v128 v129 v132 pt r f hf hi h0 hp0 hp1 h1
  have e2 := final_at v104 v111 v128 v129 v132 pt r f hf hi hp0 hp1 c l
  pointwise [k0_pay4]
  rw [e1, e2, sub_lse (final_ok hok _ _ hc), exp_logp (final_ok hok _ _ hc)]

include hi hp0 hp1 in
theorem token_at (h2 : masks f (onR pt r) near → v121 (ix3 r 0 0) = BitVec.ofNat 32 (firstTop (second f)).val) :
    k0_pay6 v111 v121 v128 v129 v132 (k0_pay89 (F := Ideal)) pt (ix2 r 0) = BitVec.ofNat 32 (firstTop (final f (onR pt r) near)).val := by
  have hm := mask_at v128 v129 v132 pt r f hp0 hp1
  pointwise [k0_pay6]
  rw [sel_one]
  unfold final
  by_cases h : masks f (onR pt r) near
  · rw [if_pos (hm.mpr h), if_pos h, h2 h]
  · rw [if_neg fun k => h (hm.mp k), if_neg h, hi]
end finish

theorem near_le : near ≤ 1 := by
  show Ideal.ieee 8 23 1063675494#32 ≤ 1
  unfold Ideal.ieee
  simp
  rw [← EReal.coe_mul, ← EReal.coe_one, EReal.coe_le_coe_iff]
  norm_num
end Cert.KernelIdeal.Trip
-- ==== Proof.Blocks.lean ====
/-
  One block of the kernel: each row's three results are the softmax, its logarithm and the first greatest place of the row that
  top-k, top-p and min-p leave, with its first place blanked where the mask is on.
-/
module

public import proofs.«01_k».proof.Proof.Rowed

@[expose] public section

set_option maxRecDepth 16384

noncomputable section

namespace Cert.KernelIdeal.Trip

open Idealize.ShloMosaic.ValueIdx hiding ix2 ix3
open Idealize.ShloMosaic Cert.Rows Finset
open Cert.KernelIdeal Cert.KernelIdeal.Gen

section block
variable (t tp : Vec Ideal S8x1 .f32) (tk : Vec Ideal S8x1 .i32) (mp : Vec Ideal S8x1 .f32) (pt : Vec Ideal S8x1 .i32) (x : Vec Ideal S8x782x128 .f32) (r : Fin 8)

theorem blkRow_scaled : blkRow (k0_pay61 t x) r = yrow t x r := by
  funext p
  rw [yrow_eq]
  unfold blkRow
  pointwise [k0_pay61]

theorem first_val : k0_pay71 (valsF t x) (ix2 r 0) = pval (yrow t x r) 0 := by
  pointwise [k0_pay71]; rfl
theorem second_val : k0_pay72 (valsF t x) (ix2 r 0) = pval (yrow t x r) 1 := by
  pointwise [k0_pay72]; rfl

open Classical in
/-- The kept row, over the padded places. -/
def keptRow (y : Fin 100096 → EReal) (K : Fin 64 → Prop) (p : Fin 100096) : EReal := if ∃ k : Fin 64, pick y k.val = p ∧ K k then y p else ⊥

open Classical in
theorem block_core (thr : EReal) (hthr : thrF t tk x (ix2 r 0) = thr) (K : Fin 64 → Prop)
    (hK : ∀ k, K k ↔ keep (fun k => pval (yrow t x r) k.val) thr (tp (ix2 r 0)) (mp (ix2 r 0)) k)
    (h0 : K 0) (hd : ∀ j k : Fin 64, j ≤ k → K k → K j) (hb : ∀ k : Fin 64, K k → ⊥ < pval (yrow t x r) k.val)
    (hx : ∀ p, (∃ k : Fin 64, pick (yrow t x r) k.val = p ∧ K k) → yrow t x r p ≠ ⊤) :
    Ok (keptRow (yrow t x r) K) ∧
    (∀ c l, outP t tp tk mp pt x (ix3 r c l) = soft (final (keptRow (yrow t x r) K) (onR pt r) near) (place c l)) ∧
    (∀ c l, outL t tp tk mp pt x (ix3 r c l) = logp (final (keptRow (yrow t x r) K) (onR pt r) near) (place c l)) ∧
    outN t tp tk mp pt x (ix2 r 0) = BitVec.ofNat 32 (firstTop (final (keptRow (yrow t x r) K) (onR pt r) near)).val := by
  generalize hy : yrow t x r = y at *
  generalize hf : keptRow y K = f
  have hf1 : ∀ p, (∃ k : Fin 64, pick y k.val = p ∧ K k) → f p = y p := fun p h => by rw [← hf]; exact if_pos h
  have hf2 : ∀ p, (¬ ∃ k : Fin 64, pick y k.val = p ∧ K k) → f p = ⊥ := fun p h => by rw [← hf]; exact if_neg h
  have hok : Ok f := f_ok y K h0 hd hb f hf1 hf2 hx
  have e0 : k0_pay71 (valsF t x) (ix2 r 0) = pval y 0 := hy ▸ first_val t x r
  have e1 : k0_pay72 (valsF t x) (ix2 r 0) = pval y 1 := hy ▸ second_val t x r
  have hv : ∀ k : Fin 64, valsF t x (ix2 r k) = pval y k.val := fun k => by rw [← hy]; rfl
  have hbits : ∀ k, k0_pay74 kNo (valsF t x) (k0_pay71 (valsF t x)) (thrF t tk x) tp mp (ix2 r k) = 1#1 ↔ K k := fun k => by
    rw [kept_iff _ _ _ _ _ _ (by rw [e0, hv]; rfl), hK, hthr, show (fun k : Fin 64 => valsF t x (ix2 r k)) = fun k => pval y k.val from funext hv]
  have hvm : vmF t tp tk mp x (ix2 r 0) = _ := vm_eq (valsF t x) (k0_pay71 (valsF t x)) (thrF t tk x) tp mp r K hbits
  obtain ⟨n, hn, him, hi1, hi2⟩ := im_eq (valsF t x) (k0_pay71 (valsF t x)) (thrF t tk x) tp mp r (idxsF t x) K hbits
    (fun k => pick y k.val) (fun k => by rw [← hy]; rfl)
  change imF t tp tk mp x (ix2 r 0) = _ at him
  change ∀ k, K k → valsF t x (ix2 r k) = vmF t tp tk mp x (ix2 r 0) → _ at hi1
  change (∃ k, K k ∧ valsF t x (ix2 r k) = vmF t tp tk mp x (ix2 r 0)) → ∃ k, K k ∧ valsF t x (ix2 r k) = vmF t tp tk mp x (ix2 r 0) ∧ _ at hi2
  simp only [hv] at hvm hi1 hi2
  have hrow : blkRow (k0_pay61 t x) r = y := (blkRow_scaled t x r).trans hy
  have hS : ∀ c l, k0_pay81 (k0_pay61 t x) (vmF t tp tk mp x) (imF t tp tk mp x) (ix3 r c l) = 1#1 ↔
      ∃ k : Fin 64, pick y k.val = place c l ∧ K k := fun c l => by
    rw [kept_bit _ _ _ r n hn him, hrow]
    exact rowkeep_iff y K h0 hd hb _ hvm n hi1 hi2 _
  have hg1 : ∀ p, (∃ k : Fin 64, pick y k.val = p ∧ K k) → f p = blkRow (k0_pay61 t x) r p := fun p h => by rw [hrow]; exact hf1 p h
  have ht : top f = pval y 0 := top_f y K h0 hd hb f hf1 hf2
  have hb0 : top f ≠ ⊥ := hok.2
  have hi0 : i0F t tp tk mp x (ix3 r 0 0) = BitVec.ofNat 32 (firstTop f).val :=
    first_at _ _ _ _ r (fun p => ∃ k : Fin 64, pick y k.val = p ∧ K k) hS f fun p => by
      rw [hrow, e0, ← ht]; exact f_eq_iff y K h0 hd hb f hf1 hf2 _ hb0 p
  have hm1 : masks f (onR pt r) near → K 1 := fun hm => by
    by_contra h1
    exact second_ok hok _ _ near_le hm (top_second_none y K h0 hd hb f hf1 hf2 h1)
  have ht1 : masks f (onR pt r) near → top (second f) = pval y 1 := fun hm => top_second y K h0 hd hb f hf1 hf2 (hm1 hm)
  have hn1 : masks f (onR pt r) near → i1F t tp tk mp x (ix3 r 0 0) = BitVec.ofNat 32 (firstTop (second f)).val := fun hm =>
    next_at _ _ _ _ _ r (fun p => ∃ k : Fin 64, pick y k.val = p ∧ K k) hS _ hi0 (second f) fun p => by
      have hs := second_ok hok _ _ near_le hm
      rw [hrow, e1, ← ht1 hm]
      constructor
      · rintro ⟨a, b, c⟩
        have := (f_eq_iff y K h0 hd hb f hf1 hf2 _ hs p).mp ⟨a, b⟩
        unfold second at this ⊢; rw [Function.update_of_ne c, this]
      · intro e
        have c : p ≠ firstTop f := fun h => hs (by rw [← e, h]; unfold second; rw [Function.update_self])
        have e' : f p = top (second f) := by rw [← e]; unfold second; rw [Function.update_of_ne c]
        have := (f_eq_iff y K h0 hd hb f hf1 hf2 _ hs p).mpr e'
        exact ⟨this.1, this.2, c⟩
  have hp0 : p0F t tp tk mp x (ix3 r 0 0) = Ideal.div 1 (∑ q, Ideal.exp (f q - top f)) := by
    have := prob0_at (k0_pay61 t x) (k0_pay71 (valsF t x)) (vmF t tp tk mp x) (imF t tp tk mp x) r _ hS f hg1 hf2
    rw [e0, ← ht] at this
    exact this
  have hp1 : (if k0_pay87 (cntF t tp tk mp x) (ix3 r 0 0) = 1#1 then p1F t tp tk mp x (ix3 r 0 0) else 0)
      = Ideal.div (Ideal.exp (top (second f) - top f)) (∑ q, Ideal.exp (f q - top f)) := by
    have h := prob1_at (k0_pay61 t x) (k0_pay71 (valsF t x)) (k0_pay72 (valsF t x)) (vmF t tp tk mp x) (imF t tp tk mp x) r _ hS f hg1 hf2
    rw [e0, e1] at h
    have h' : p1F t tp tk mp x (ix3 r 0 0) = _ := h
    rw [h', ← p1_eq y K h0 hd hb f hf1 hf2 hok]
    exact if_congr (keep1_iff (valsF t x) (k0_pay71 (valsF t x)) (thrF t tk x) tp mp r K hbits h0 hd) rfl rfl
  have hfF : ∀ c l, fF t tp tk mp x (ix3 r c l) = f (place c l) := fun c l =>
    kept_at (k0_pay61 t x) (vmF t tp tk mp x) (imF t tp tk mp x) r _ hS f hg1 hf2 c l
  have h93 : k0_pay79 (k0_pay71 (valsF t x)) (ix3 r 0 0) = top f := by
    rw [ht, ← e0]; generalize k0_pay71 (valsF t x) = v; pointwise [k0_pay79]
  have h94 : masks f (onR pt r) near → k0_pay80 (k0_pay72 (valsF t x)) (ix3 r 0 0) = top (second f) := fun hm => by
    rw [ht1 hm, ← e1]; generalize k0_pay72 (valsF t x) = v; pointwise [k0_pay80]
  refine ⟨hok, fun c l => ?_, fun c l => ?_, ?_⟩
  · exact soft_at _ _ _ _ _ _ _ pt r f hfF hok hi0 h93 hp0 hp1 h94 near_le c l
  · exact logp_at _ _ _ _ _ _ _ pt r f hfF hok hi0 h93 hp0 hp1 h94 near_le c l
  · exact token_at _ _ _ _ _ pt r f hi0 hp0 hp1 hn1

/-- Column `p` of the row, as a place of the padded row. -/
abbrev colOf (p : Fin 100000) : Fin 100096 := Fin.castLE (by omega) p

open Classical in
theorem block_out {xv : Fin 100000 → EReal} {pad : EReal} {σ : Fin 100000 → Fin 100000} {thr : EReal} {tk' : ℕ}
    (H : Setting xv (yrow t x r) pad σ thr tk') (hn : IntOp.minsi 64#32 (IntOp.maxsi 1#32 (tk (ix2 r 0))) = BitVec.ofNat 32 (min tk' 64))
    (hmp : mp (ix2 r 0) ≤ 1) (f1 : Fin 100000 → EReal)
    (hf1 : ∀ m, f1 (σ m) = topP (topK (fun m => xv (σ m)) thr) (tp (ix2 r 0)) m) :
    Ok (minP f1 (mp (ix2 r 0))) ∧
    (∀ p, outP t tp tk mp pt x (ix3 r (chunkOf (colOf p)) (laneOf (colOf p))) = soft (final (minP f1 (mp (ix2 r 0))) (onR pt r) near) p) ∧
    (∀ p, outL t tp tk mp pt x (ix3 r (chunkOf (colOf p)) (laneOf (colOf p))) = logp (final (minP f1 (mp (ix2 r 0))) (onR pt r) near) p) ∧
    outN t tp tk mp pt x (ix2 r 0) = BitVec.ofNat 32 (firstTop (final (minP f1 (mp (ix2 r 0))) (onR pt r) near)).val := by
  have hthr : thrF t tk x (ix2 r 0) = thr := by
    have e := thr_eq (valsF t x) r tk (min tk' 64) (lt_of_le_of_lt (min_le_right _ _) (by norm_num)) hn
    exact e.trans (kthr_eq H _ rfl)
  have hreach : ∀ k : Fin 64, keep (fun k => pval (yrow t x r) k.val) thr (tp (ix2 r 0)) (mp (ix2 r 0)) k →
      pick (yrow t x r) k.val = Fin.castLE H.hVN (σ (at' H.hV k)) := fun k hk => (reach_pick H k ((reach_iff H k).mp hk.1)).1
  obtain ⟨hok, h1, h2, h3⟩ := block_core t tp tk mp pt x r thr hthr _ (fun k => Iff.rfl) (keep_zero _ _ H hmp) (fun j k => keep_down _ _ H j k)
    (fun k hk => lt_of_lt_of_le (lt_of_le_of_lt bot_le H.hpt) hk.1)
    (fun p ⟨k, e, hk⟩ => by rw [← e, hreach k hk, H.hy]; exact (H.hx _).ne)
  generalize hf : keptRow (yrow t x r) (keep (fun k => pval (yrow t x r) k.val) thr (tp (ix2 r 0)) (mp (ix2 r 0))) = f at *
  have hout : ∀ p : Fin 100096, 100000 ≤ p.val → f p = ⊥ := fun p hp => by
    rw [← hf]
    refine if_neg fun ⟨k, e, hk⟩ => ?_
    rw [hreach k hk] at e
    have := congrArg Fin.val e
    have h' : (σ (at' H.hV k)).val = p.val := this
    have := (σ (at' H.hV k)).isLt
    omega
  have hin : (fun p : Fin 100000 => f (Fin.castLE H.hVN p)) = minP f1 (mp (ix2 r 0)) := by
    funext p
    obtain ⟨ha, hb⟩ := kept_row (tp (ix2 r 0)) (mp (ix2 r 0)) H f1 hf1 p
    rw [← hf]
    show (if _ then _ else _) = _
    split
    · next h => rw [ha h, H.hy]
    · next h => rw [hb h]
  have hbt := hok.2
  have hfin : (fun p : Fin 100000 => final f (onR pt r) near (Fin.castLE H.hVN p)) = final (minP f1 (mp (ix2 r 0))) (onR pt r) near := by
    funext p; rw [final_pad H.hVN f hout hbt, hin]
  have hok2 := final_ok hok (onR pt r) near near_le
  have hout2 := final_out f hout (onR pt r) near
  refine ⟨⟨fun p => ?_, ?_⟩, fun p => ?_, fun p => ?_, ?_⟩
  · rw [← hin]; exact hok.1 _
  · rw [← hin, ← top_pad H.hVN f hout]; exact hbt
  · rw [h1, place_eta, ← hfin]; exact soft_pad H.hVN _ hout2 p
  · rw [h2, place_eta, ← hfin]; exact logp_pad H.hVN _ hout2 p
  · have e := congrArg Fin.val (firstTop_pad H.hVN _ hout2 hok2.2)
    rw [hfin, Fin.val_castLE] at e
    rw [h3]
    exact congrArg (BitVec.ofNat 32) e
end block
end Cert.KernelIdeal.Trip
-- ==== Proof.Match.lean ====
/-
  The kernel's results are the reference's, row by row.
-/
module

public import proofs.«01_k».proof.Proof.Frames
public import proofs.«01_k».proof.Proof.PreRead
public import proofs.«01_k».proof.Proof.Blocks

@[expose] public section

set_option maxRecDepth 16384

noncomputable section

namespace Cert.Frames

open Idealize.ShloMosaic.ValueIdx hiding ix1 ix2 ix3
open Idealize.ShloMosaic Idealize.ShloMosaic.TcCoe Idealize.SL.Sem Idealize.ShloMosaic.StableHlo Finset
open Cert.Rows Cert.ReferenceIdeal.Whole
open Cert.KernelIdeal.Trip (tailOf ptOf inBlk blkT blkP blkK blkM blkE blkX blkT_eq blkP_eq blkK_eq blkM_eq blkE_eq blkX_eq pad_eq res9 res11 res12 yrow yrow_eq chunkOf laneOf)

/-- The precondition's shape relations. -/
theorem preFacts : Cert.Pre_usable.Facts where
  bcast_S_S64 := Cert.ReferenceIdeal.Gen.bcast_S_S64
  bcast_S64_S64x1_0 := Cert.ReferenceIdeal.Gen.bcast_S64_S64x1_0
  bcast_S64x1_S64x100000_0_1 := Cert.ReferenceIdeal.Gen.bcast_S64x1_S64x100000_0_1
  bcast_S_S64x100000 := Cert.ReferenceIdeal.Gen.bcast_S_S64x100000
  reducesTo_S64x100000_S64_d1 := Cert.ReferenceIdeal.Gen.reducesTo_S64x100000_S64_d1
  h_S_ := Cert.ReferenceIdeal.Gen.h_S_
  bcast_S_S64x1 := by decide

section row
variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The reference's arguments are the kernel's. -/
structure Same : Prop where
  hX : argX V0 = m ((c.tc : Thread Cert.KernelIdeal.nD Cert.KernelIdeal.τ).loc Cert.KernelIdeal.main_arg0)
  hT : argT V0 = m ((c.tc : Thread Cert.KernelIdeal.nD Cert.KernelIdeal.τ).loc Cert.KernelIdeal.main_arg1)
  hP : argP V0 = m ((c.tc : Thread Cert.KernelIdeal.nD Cert.KernelIdeal.τ).loc Cert.KernelIdeal.main_arg2)
  hK : argK V0 = m ((c.tc : Thread Cert.KernelIdeal.nD Cert.KernelIdeal.τ).loc Cert.KernelIdeal.main_arg3)
  hM : argM V0 = m ((c.tc : Thread Cert.KernelIdeal.nD Cert.KernelIdeal.τ).loc Cert.KernelIdeal.main_arg4)
  hE : argE V0 = m ((c.tc : Thread Cert.KernelIdeal.nD Cert.KernelIdeal.τ).loc Cert.KernelIdeal.main_arg5)

variable (S : Same m c V0) (R : Fin 64)
include S

theorem blkX_scaled (p : Fin 100096) : yrow (blkT m c (ptOf R)) (blkX m c (ptOf R)) (inBlk R) p =
    if h : p.val < 100000 then xrow V0 R ⟨p.val, h⟩ else Ideal.div (Ideal.ofBits .f32 0xF149F2CA#32) (max (argT V0 (ix1 R)) (Ideal.ofBits .f32 0x3C23D70A#32)) := by
  rw [yrow_eq, blkT_eq, blkX_eq, pad_eq, ← S.hX, ← S.hT]
  split
  · rfl
  · rfl

theorem setting [Cert.Pre_usable.Facts] (hpre : Cert.Pre_usable.fn (F := Ideal) (argX V0) (argT V0) (argP V0) (argK V0) (argM V0) (argE V0) = fun _ => 1#1) :
    Setting (xrow V0 R) (yrow (blkT m c (ptOf R)) (blkX m c (ptOf R)) (inBlk R))
      (Ideal.div (Ideal.ofBits .f32 0xF149F2CA#32) (max (argT V0 (ix1 R)) (Ideal.ofBits .f32 0x3C23D70A#32)))
      (σrow V0 R) (thrRow V0 R) (kept (argK V0 (ix1 R))) := by
  obtain ⟨h1, h2, h3, h4⟩ := usable_read _ _ _ _ _ _ hpre R
  exact {
    hV := by norm_num
    hVN := by norm_num
    hy := fun p => (blkX_scaled m c V0 S R (Fin.castLE (by norm_num) p)).trans (dif_pos p.isLt)
    hpad := fun p hp => by rw [blkX_scaled m c V0 S, dif_neg (not_lt.mpr hp)]
    hσ := rank_bij _
    hs := rank_lt _
    htk := kept_pos _
    htkV := kept_le _
    hthr := rfl
    hx := h1
    h65 := h2
    hpt := h3 }

theorem row_match [Cert.Pre_usable.Facts] (hpre : Cert.Pre_usable.fn (F := Ideal) (argX V0) (argT V0) (argP V0) (argK V0) (argM V0) (argE V0) = fun _ => 1#1) :
    Ok (frow V0 R)
    ∧ (∀ p, tailOf m c Cert.KernelIdeal.main_v9 (ix2 R p) = soft (grow V0 R) p)
    ∧ (∀ p, tailOf m c Cert.KernelIdeal.main_v11 (ix2 R p) = logp (grow V0 R) p)
    ∧ tailOf m c Cert.KernelIdeal.main_v12 (ix1 R) = BitVec.ofNat 32 (firstTop (grow V0 R)).val := by
  have H := setting m c V0 S R hpre
  have hT := blkT_eq m c R
  have hP := blkP_eq m c R
  have hK := blkK_eq m c R
  have hM := blkM_eq m c R
  have hE := blkE_eq m c R
  rw [← S.hP] at hP
  rw [← S.hK] at hK
  rw [← S.hM] at hM
  rw [← S.hE] at hE
  have B := Cert.KernelIdeal.Trip.block_out (blkT m c (ptOf R)) (blkP m c (ptOf R)) (blkK m c (ptOf R)) (blkM m c (ptOf R)) (blkE m c (ptOf R)) (blkX m c (ptOf R)) (inBlk R)
    H (by rw [hK]; exact clip_eq 64 (by norm_num) (by norm_num) (by norm_num) _)
    (by rw [hM]; exact (usable_read _ _ _ _ _ _ hpre R).2.2.2) (f1row V0 R) (fun q => by rw [hP]; exact f1row_σ V0 R q)
  rw [hM] at B
  have hon : Cert.KernelIdeal.Trip.onR (blkE m c (ptOf R)) (inBlk R) = onRow V0 R := by
    unfold Cert.KernelIdeal.Trip.onR
    rw [hE]
  rw [hon] at B
  obtain ⟨b0, b1, b2, b3⟩ := B
  exact ⟨b0, fun p => (res9 m c R p).trans (b1 p), fun p => (res11 m c R p).trans (b2 p), (res12 m c R).trans b3⟩

end row

theorem idx2_eta (i : Cert.ReferenceIdeal.S64x100000.Idx) : i = ix2 (i 0) (i 1) := funext fun a => match a with
  | ⟨0, _⟩ => rfl
  | ⟨1, _⟩ => rfl

theorem idx1_eta (i : Cert.ReferenceIdeal.S64.Idx) : i = ix1 (i 0) := funext fun a => match a with
  | ⟨0, _⟩ => rfl

theorem equal_results (hPre : Cert.Pre_usable.Facts) :
    Cert.algebraic_KernelIdeal_ReferenceIdeal_pre_usable (hKernelIdeal := Cert.KernelIdeal.Gen.facts) (hReferenceIdeal := Cert.ReferenceIdeal.Gen.facts) (hPre_usable := hPre) := by
  intro m g m' g' hpre hargs
  refine ⟨fun c => tailOf m c Cert.KernelIdeal.main_v9, fun c => tailOf m c Cert.KernelIdeal.main_v11, fun c => tailOf m c Cert.KernelIdeal.main_v12,
    run_kernel m g, (θ_run Cert.ReferenceIdeal.defs _ _).mono (fun r h c => ?_) (Cert.ReferenceIdeal.Whole.run m' g')⟩
  obtain ⟨h1, h2, h3, hrest⟩ := h c
  obtain ⟨a0, a1, a2, a3, a4, a5⟩ := hargs c
  have S : Same m c (launchContents m' c) := ⟨a0, a1, a2, a3, a4, a5⟩
  have hp : Cert.Pre_usable.fn (F := Ideal) (argX (launchContents m' c)) (argT (launchContents m' c)) (argP (launchContents m' c)) (argK (launchContents m' c)) (argM (launchContents m' c)) (argE (launchContents m' c)) = fun _ => 1#1 := by
    rw [S.hX, S.hT, S.hP, S.hK, S.hM, S.hE]
    exact hpre c
  have B := fun R => row_match m c (launchContents m' c) S R hp
  refine ⟨h1.trans ?_, h2.trans ?_, h3.trans ?_, hrest⟩
  · funext i
    rw [idx2_eta i]
    exact (v108_at _ _ (B _).1 _).trans ((B _).2.1 _).symm
  · funext i
    rw [idx2_eta i]
    exact (v111_at _ _ (B _).1 _).trans ((B _).2.2.1 _).symm
  · funext i
    rw [idx1_eta i]
    exact (v117_at _ _ (B _).1 Cert.KernelIdeal.Trip.near_le).trans (B _).2.2.2.symm

end Cert.Frames
end
-- ==== Proof.lean ====
module

public import proofs.«01_k».proof.Defs
public import proofs.«01_k».proof.Proof.Match

@[expose] public section

noncomputable section

namespace Cert.Proof

theorem claim : Cert.Claim :=
  ⟨Cert.KernelIdeal.Gen.facts, Cert.ReferenceIdeal.Gen.facts, Cert.Frames.preFacts,
    Cert.Frames.quiet_kernel, fun m g _ => Cert.Frames.quiet_kernel m g trivial,
    Cert.Frames.quiet_reference, fun m g _ => Cert.Frames.quiet_reference m g trivial,
    Cert.Frames.equal_results Cert.Frames.preFacts⟩

end Cert.Proof

end
